-- ==== Defs.lean ====
def Pre_Tc (m : (ℓ : Loc Cert.Tc.nD Cert.Tc.τ Cert.Tc.sig) → Buf (Elt Bits) ℓ) : Prop :=
  True

def Pre_TcIdeal (m : (ℓ : Loc Cert.TcIdeal.nD Cert.TcIdeal.τ Cert.TcIdeal.sig) → Buf (Elt Ideal) ℓ) : Prop :=
  True

def Pre_TcIdeal_in_range [hPre_in_range : Cert.Pre_in_range.Facts] (m : (ℓ : Loc Cert.TcIdeal.nD Cert.TcIdeal.τ Cert.TcIdeal.sig) → Buf (Elt Ideal) ℓ) : Prop :=
  ∀ c : Dev Cert.TcIdeal.nD,
    (Cert.Pre_in_range.fn (F := Ideal) (m ((c.tc : Thread Cert.TcIdeal.nD Cert.TcIdeal.τ).loc Cert.TcIdeal.main_arg0)) (m ((c.tc : Thread Cert.TcIdeal.nD Cert.TcIdeal.τ).loc Cert.TcIdeal.main_arg1))).1 = (fun _ => 1#1)
    ∧ (Cert.Pre_in_range.fn (F := Ideal) (m ((c.tc : Thread Cert.TcIdeal.nD Cert.TcIdeal.τ).loc Cert.TcIdeal.main_arg0)) (m ((c.tc : Thread Cert.TcIdeal.nD Cert.TcIdeal.τ).loc Cert.TcIdeal.main_arg1))).2 = (fun _ => 1#1)

def Pre_LossIdeal (m : (ℓ : Loc Cert.LossIdeal.nD Cert.LossIdeal.τ Cert.LossIdeal.sig) → Buf (Elt Ideal) ℓ) : Prop :=
  True

def Pre_LossIdeal_in_range [hPre_in_range : Cert.Pre_in_range.Facts] (m : (ℓ : Loc Cert.LossIdeal.nD Cert.LossIdeal.τ Cert.LossIdeal.sig) → Buf (Elt Ideal) ℓ) : Prop :=
  ∀ c : Dev Cert.LossIdeal.nD,
    (Cert.Pre_in_range.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1))).1 = (fun _ => 1#1)
    ∧ (Cert.Pre_in_range.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1))).2 = (fun _ => 1#1)

def Pre_Sc (m : (ℓ : Loc Cert.Sc.nD Cert.Sc.τ Cert.Sc.sig) → Buf (Elt Bits) ℓ) : Prop :=
  True

def Pre_ScRef (m : (ℓ : Loc Cert.ScRef.nD Cert.ScRef.τ Cert.ScRef.sig) → Buf (Elt Bits) ℓ) : Prop :=
  True

def quiescent_Tc [hTc : Cert.Tc.Facts] : Prop :=
  ∀ (m : (ℓ : Loc Cert.Tc.nD Cert.Tc.τ Cert.Tc.sig) → Buf (Elt Bits) ℓ) (g : Dev Cert.Tc.nD → PrngReg), Pre_Tc m →
    θ_run (Cert.Tc.defs (F := Bits)) (onTc (τ := Cert.Tc.τ) (Cert.Tc.main (F := Bits))) ⟨m, fun _ => 0, g⟩ (fun r => (∀ c : Dev Cert.Tc.nD,
      r.2.mem ((c.tc : Thread Cert.Tc.nD Cert.Tc.τ).loc Cert.Tc.main_arg0) = m ((c.tc : Thread Cert.Tc.nD Cert.Tc.τ).loc Cert.Tc.main_arg0)
      ∧ r.2.mem ((c.tc : Thread Cert.Tc.nD Cert.Tc.τ).loc Cert.Tc.main_arg1) = m ((c.tc : Thread Cert.Tc.nD Cert.Tc.τ).loc Cert.Tc.main_arg1))
      ∧ r.2.sem = fun _ => 0)

def quiescent_TcIdeal [hTcIdeal : Cert.TcIdeal.Facts] : Prop :=
  ∀ (m : (ℓ : Loc Cert.TcIdeal.nD Cert.TcIdeal.τ Cert.TcIdeal.sig) → Buf (Elt Ideal) ℓ) (g : Dev Cert.TcIdeal.nD → PrngReg), Pre_TcIdeal m →
    θ_run (Cert.TcIdeal.defs (F := Ideal)) (onTc (τ := Cert.TcIdeal.τ) (Cert.TcIdeal.main (F := Ideal))) ⟨m, fun _ => 0, g⟩ (fun r => (∀ c : Dev Cert.TcIdeal.nD,
      r.2.mem ((c.tc : Thread Cert.TcIdeal.nD Cert.TcIdeal.τ).loc Cert.TcIdeal.main_arg0) = m ((c.tc : Thread Cert.TcIdeal.nD Cert.TcIdeal.τ).loc Cert.TcIdeal.main_arg0)
      ∧ r.2.mem ((c.tc : Thread Cert.TcIdeal.nD Cert.TcIdeal.τ).loc Cert.TcIdeal.main_arg1) = m ((c.tc : Thread Cert.TcIdeal.nD Cert.TcIdeal.τ).loc Cert.TcIdeal.main_arg1))
      ∧ r.2.sem = fun _ => 0)

def quiescent_TcIdeal_pre_in_range [hTcIdeal : Cert.TcIdeal.Facts] [hPre_in_range : Cert.Pre_in_range.Facts] : Prop :=
  ∀ (m : (ℓ : Loc Cert.TcIdeal.nD Cert.TcIdeal.τ Cert.TcIdeal.sig) → Buf (Elt Ideal) ℓ) (g : Dev Cert.TcIdeal.nD → PrngReg), Pre_TcIdeal_in_range m →
    θ_run (Cert.TcIdeal.defs (F := Ideal)) (onTc (τ := Cert.TcIdeal.τ) (Cert.TcIdeal.main (F := Ideal))) ⟨m, fun _ => 0, g⟩ (fun r => (∀ c : Dev Cert.TcIdeal.nD,
      r.2.mem ((c.tc : Thread Cert.TcIdeal.nD Cert.TcIdeal.τ).loc Cert.TcIdeal.main_arg0) = m ((c.tc : Thread Cert.TcIdeal.nD Cert.TcIdeal.τ).loc Cert.TcIdeal.main_arg0)
      ∧ r.2.mem ((c.tc : Thread Cert.TcIdeal.nD Cert.TcIdeal.τ).loc Cert.TcIdeal.main_arg1) = m ((c.tc : Thread Cert.TcIdeal.nD Cert.TcIdeal.τ).loc Cert.TcIdeal.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossIdeal_pre_in_range [hLossIdeal : Cert.LossIdeal.Facts] [hPre_in_range : Cert.Pre_in_range.Facts] : Prop :=
  ∀ (m : (ℓ : Loc Cert.LossIdeal.nD Cert.LossIdeal.τ Cert.LossIdeal.sig) → Buf (Elt Ideal) ℓ) (g : Dev Cert.LossIdeal.nD → PrngReg), Pre_LossIdeal_in_range m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_Sc [hSc : Cert.Sc.Facts] : Prop :=
  ∀ (m : (ℓ : Loc Cert.Sc.nD Cert.Sc.τ Cert.Sc.sig) → Buf (Elt Bits) ℓ) (g : Dev Cert.Sc.nD → PrngReg), Pre_Sc m →
    θ_run (Cert.Sc.defs (F := Bits)) (Cert.Sc.threads (F := Bits)) ⟨m, fun _ => 0, g⟩ (fun r => (∀ c : Dev Cert.Sc.nD,
      r.2.mem ((c.tc : Thread Cert.Sc.nD Cert.Sc.τ).loc Cert.Sc.main_arg0) = m ((c.tc : Thread Cert.Sc.nD Cert.Sc.τ).loc Cert.Sc.main_arg0))
      ∧ r.2.sem = fun _ => 0)

def quiescent_ScRef [hScRef : Cert.ScRef.Facts] : Prop :=
  ∀ (m : (ℓ : Loc Cert.ScRef.nD Cert.ScRef.τ Cert.ScRef.sig) → Buf (Elt Bits) ℓ) (g : Dev Cert.ScRef.nD → PrngReg), Pre_ScRef m →
    θ_run (Cert.ScRef.defs (F := Bits)) (onTc (τ := Cert.ScRef.τ) (Cert.ScRef.main (F := Bits))) ⟨m, fun _ => 0, g⟩ (fun r => (∀ c : Dev Cert.ScRef.nD,
      r.2.mem ((c.tc : Thread Cert.ScRef.nD Cert.ScRef.τ).loc Cert.ScRef.main_arg0) = m ((c.tc : Thread Cert.ScRef.nD Cert.ScRef.τ).loc Cert.ScRef.main_arg0))
      ∧ r.2.sem = fun _ => 0)

def preserves_Tc_TcIdeal : Prop :=
  True

def algebraic_TcIdeal_LossIdeal_pre_in_range [hTcIdeal : Cert.TcIdeal.Facts] [hLossIdeal : Cert.LossIdeal.Facts] [hPre_in_range : Cert.Pre_in_range.Facts] : Prop :=
  ∀ (m : (ℓ : Loc Cert.TcIdeal.nD Cert.TcIdeal.τ Cert.TcIdeal.sig) → Buf (Elt Ideal) ℓ) (g : Dev Cert.TcIdeal.nD → PrngReg)
    (m' : (ℓ : Loc Cert.LossIdeal.nD Cert.LossIdeal.τ Cert.LossIdeal.sig) → Buf (Elt Ideal) ℓ) (g' : Dev Cert.LossIdeal.nD → PrngReg), Pre_TcIdeal_in_range m →
    (∀ c : Dev Cert.TcIdeal.nD,
      m' ((c.tc : Thread Cert.LossIdeal.nD Cert.LossIdeal.τ).loc Cert.LossIdeal.main_arg0) = m ((c.tc : Thread Cert.TcIdeal.nD Cert.TcIdeal.τ).loc Cert.TcIdeal.main_arg0)
      ∧ m' ((c.tc : Thread Cert.LossIdeal.nD Cert.LossIdeal.τ).loc Cert.LossIdeal.main_arg1) = m ((c.tc : Thread Cert.TcIdeal.nD Cert.TcIdeal.τ).loc Cert.TcIdeal.main_arg1)) →
    ∃ (v0 : (c : Dev Cert.TcIdeal.nD) → Buf (Elt Ideal) ((c.tc : Thread Cert.TcIdeal.nD Cert.TcIdeal.τ).loc Cert.TcIdeal.main_v1)),
      θ_run (Cert.TcIdeal.defs (F := Ideal)) (onTc (τ := Cert.TcIdeal.τ) (Cert.TcIdeal.main (F := Ideal))) ⟨m, fun _ => 0, g⟩ (fun r => ∀ c : Dev Cert.TcIdeal.nD,
          r.2.mem ((c.tc : Thread Cert.TcIdeal.nD Cert.TcIdeal.τ).loc Cert.TcIdeal.main_v1) = v0 c
          ∧ r.2.mem ((c.tc : Thread Cert.TcIdeal.nD Cert.TcIdeal.τ).loc Cert.TcIdeal.main_arg0) = m ((c.tc : Thread Cert.TcIdeal.nD Cert.TcIdeal.τ).loc Cert.TcIdeal.main_arg0)
          ∧ r.2.mem ((c.tc : Thread Cert.TcIdeal.nD Cert.TcIdeal.τ).loc Cert.TcIdeal.main_arg1) = m ((c.tc : Thread Cert.TcIdeal.nD Cert.TcIdeal.τ).loc Cert.TcIdeal.main_arg1))
      ∧ θ_run (Cert.LossIdeal.defs (F := Ideal)) (onTc (τ := Cert.LossIdeal.τ) (Cert.LossIdeal.main (F := Ideal))) ⟨m', fun _ => 0, g'⟩ (fun r => ∀ c : Dev Cert.LossIdeal.nD,
          r.2.mem ((c.tc : Thread Cert.LossIdeal.nD Cert.LossIdeal.τ).loc Cert.LossIdeal.main_v10) = v0 c
          ∧ r.2.mem ((c.tc : Thread Cert.LossIdeal.nD Cert.LossIdeal.τ).loc Cert.LossIdeal.main_arg0) = m' ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m' ((c.tc : Thread Cert.LossIdeal.nD Cert.LossIdeal.τ).loc Cert.LossIdeal.main_arg1))

def bitexact_Sc_ScRef [hSc : Cert.Sc.Facts] [hScRef : Cert.ScRef.Facts] : Prop :=
  ∀ (m : (ℓ : Loc Cert.Sc.nD Cert.Sc.τ Cert.Sc.sig) → Buf (Elt Bits) ℓ) (g : Dev Cert.Sc.nD → PrngReg)
    (m' : (ℓ : Loc Cert.ScRef.nD Cert.ScRef.τ Cert.ScRef.sig) → Buf (Elt Bits) ℓ) (g' : Dev Cert.ScRef.nD → PrngReg), Pre_Sc m →
    (∀ c : Dev Cert.Sc.nD,
      m' ((c.tc : Thread Cert.ScRef.nD Cert.ScRef.τ).loc Cert.ScRef.main_arg0) = m ((c.tc : Thread Cert.Sc.nD Cert.Sc.τ).loc Cert.Sc.main_arg0)) →
    ∃ (v0 : (c : Dev Cert.Sc.nD) → Buf (Elt Bits) ((c.tc : Thread Cert.Sc.nD Cert.Sc.τ).loc Cert.Sc.main_v2)),
      θ_run (Cert.Sc.defs (F := Bits)) (Cert.Sc.threads (F := Bits)) ⟨m, fun _ => 0, g⟩ (fun r => ∀ c : Dev Cert.Sc.nD,
          r.2.mem ((c.tc : Thread Cert.Sc.nD Cert.Sc.τ).loc Cert.Sc.main_v2) = v0 c
          ∧ r.2.mem ((c.tc : Thread Cert.Sc.nD Cert.Sc.τ).loc Cert.Sc.main_arg0) = m ((c.tc : Thread Cert.Sc.nD Cert.Sc.τ).loc Cert.Sc.main_arg0))
      ∧ θ_run (Cert.ScRef.defs (F := Bits)) (onTc (τ := Cert.ScRef.τ) (Cert.ScRef.main (F := Bits))) ⟨m', fun _ => 0, g'⟩ (fun r => ∀ c : Dev Cert.ScRef.nD,
          r.2.mem ((c.tc : Thread Cert.ScRef.nD Cert.ScRef.τ).loc Cert.ScRef.main_v18) = v0 c
          ∧ r.2.mem ((c.tc : Thread Cert.ScRef.nD Cert.ScRef.τ).loc Cert.ScRef.main_arg0) = m' ((c.tc : Thread Cert.ScRef.nD Cert.ScRef.τ).loc Cert.ScRef.main_arg0))

def Claim : Prop :=
  ∃ (hTc : Cert.Tc.Facts) (hTcIdeal : Cert.TcIdeal.Facts) (hLossIdeal : Cert.LossIdeal.Facts) (hSc : Cert.Sc.Facts) (hScRef : Cert.ScRef.Facts) (hPre_in_range : Cert.Pre_in_range.Facts),
    quiescent_Tc (hTc := hTc)
    ∧ quiescent_TcIdeal (hTcIdeal := hTcIdeal)
    ∧ quiescent_TcIdeal_pre_in_range (hTcIdeal := hTcIdeal) (hPre_in_range := hPre_in_range)
    ∧ quiescent_LossIdeal (hLossIdeal := hLossIdeal)
    ∧ quiescent_LossIdeal_pre_in_range (hLossIdeal := hLossIdeal) (hPre_in_range := hPre_in_range)
    ∧ quiescent_Sc (hSc := hSc)
    ∧ quiescent_ScRef (hScRef := hScRef)
    ∧ preserves_Tc_TcIdeal
    ∧ algebraic_TcIdeal_LossIdeal_pre_in_range (hTcIdeal := hTcIdeal) (hLossIdeal := hLossIdeal) (hPre_in_range := hPre_in_range)
    ∧ bitexact_Sc_ScRef (hSc := hSc) (hScRef := hScRef)
-- ==== Pre_in_range.lean ====
abbrev S16384x1000 : Shape := ⟨2, ![16384, 1000]⟩
abbrev S16384 : Shape := ⟨1, ![16384]⟩
abbrev S_ : Shape := ⟨0, ![]⟩

class Facts : Prop where
  bcast_S_S16384x1000 : S_.BroadcastsInDim S16384x1000 (![] : Fin 0 → Fin S16384x1000.rank)
  bcast_S_S16384 : S_.BroadcastsInDim S16384 (![] : Fin 0 → Fin S16384.rank)

variable [Facts]

def fn {F : FTy → Type} [FloatOps F] (main_arg0 : FVec F S16384x1000 .f32) (main_arg1 : IVec S16384 32) : IVec S16384x1000 1 × IVec S16384 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 32 := constantI S_ 32 4294967295#32
  let main_v3 : IVec S16384 32 := broadcastInDim S16384 ![] bcast_S_S16384 main_c
  let main_v4 : IVec S16384 1 := cmpi .sge main_arg1 main_v3
  let main_c_0 : IVec S_ 32 := constantI S_ 32 1000#32
  let main_v5 : IVec S16384 32 := broadcastInDim S16384 ![] bcast_S_S16384 main_c_0
  let main_v6 : IVec S16384 1 := cmpi .slt main_arg1 main_v5
  let main_v7 : IVec S16384 1 := andi main_v4 main_v6
  (main_v2, main_v7)
-- ==== Tc.lean ====
abbrev S16384x1000 : Shape := ⟨2, ![16384, 1000]⟩
abbrev S16384 : Shape := ⟨1, ![16384]⟩
abbrev S1000x16384 : Shape := ⟨2, ![1000, 16384]⟩
abbrev S1000x2048 : Shape := ⟨2, ![1000, 2048]⟩
abbrev S2048 : Shape := ⟨1, ![2048]⟩
abbrev S1x2048 : Shape := ⟨2, ![1, 2048]⟩

abbrev nBuf : Space → Nat
  | .hbm => 4
  | .vmem => 6
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S1000x16384, .f32⟩
  | .hbm, ⟨3, _⟩ => ⟨S16384, .f32⟩
  | .local _ .vmem, ⟨0, _⟩ => ⟨S1000x2048, .f32⟩
  | .local _ .vmem, ⟨1, _⟩ => ⟨S1000x2048, .f32⟩
  | .local _ .vmem, ⟨2, _⟩ => ⟨S2048, .i32⟩
  | .local _ .vmem, ⟨3, _⟩ => ⟨S2048, .i32⟩
  | .local _ .vmem, ⟨4, _⟩ => ⟨S2048, .f32⟩
  | .local _ .vmem, ⟨5, _⟩ => ⟨S2048, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1000x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== LossIdeal.lean ====
abbrev S16384x1000 : Shape := ⟨2, ![16384, 1000]⟩
abbrev S16384 : Shape := ⟨1, ![16384]⟩
abbrev S_ : Shape := ⟨0, ![]⟩
abbrev S16384x1 : Shape := ⟨2, ![16384, 1]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 56
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S_, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S16384x1, .f32⟩
  | .hbm, ⟨8, _⟩ => ⟨S16384x1000, .f32⟩
  | .hbm, ⟨9, _⟩ => ⟨S16384x1000, .f32⟩
  | .hbm, ⟨10, _⟩ => ⟨S16384x1000, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S16384x1, .f32⟩
  | .hbm, ⟨15, _⟩ => ⟨S16384x1000, .f32⟩
  | .hbm, ⟨16, _⟩ => ⟨S16384x1000, .f32⟩
  | .hbm, ⟨17, _⟩ => ⟨S_, .i32⟩
  | .hbm, ⟨18, _⟩ => ⟨S16384, .i32⟩
  | .hbm, ⟨19, _⟩ => ⟨S16384, .i1⟩
  | .hbm, ⟨20, _⟩ => ⟨S_, .i32⟩
  | .hbm, ⟨21, _⟩ => ⟨S_, .i32⟩
  | .hbm, ⟨22, _⟩ => ⟨S16384, .i32⟩
  | .hbm, ⟨23, _⟩ => ⟨S16384, .i32⟩
  | .hbm, ⟨24, _⟩ => ⟨S16384x1, .i32⟩
  | .hbm, ⟨25, _⟩ => ⟨S_, .i32⟩
  | .hbm, ⟨26, _⟩ => ⟨S16384x1, .i32⟩
  | .hbm, ⟨27, _⟩ => ⟨S16384x1, .i1⟩
  | .hbm, ⟨28, _⟩ => ⟨S_, .i32⟩
  | .hbm, ⟨29, _⟩ => ⟨S16384x1, .i32⟩
  | .hbm, ⟨30, _⟩ => ⟨S16384x1, .i32⟩
  | .hbm, ⟨31, _⟩ => ⟨S16384x1, .i32⟩
  | .hbm, ⟨32, _⟩ => ⟨S16384x1x1, .i32⟩
  | .hbm, ⟨33, _⟩ => ⟨S1, .i32⟩
  | .hbm, ⟨34, _⟩ => ⟨S_, .i32⟩
  | .hbm, ⟨35, _⟩ => ⟨S16384x1x1, .i32⟩
  | .hbm, ⟨36, _⟩ => ⟨S16384x1x1, .i1⟩
  | .hbm, ⟨37, _⟩ => ⟨S1x1x1, .i32⟩
  | .hbm, ⟨38, _⟩ => ⟨S16384x1x1, .i32⟩
  | .hbm, ⟨39, _⟩ => ⟨S16384x1x1, .i1⟩
  | .hbm, ⟨40, _⟩ => ⟨S16384x1x1, .i1⟩
  | .hbm, ⟨41, _⟩ => ⟨S_, .i1⟩
  | .hbm, ⟨42, _⟩ => ⟨S16384x1, .i1⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384, .f32⟩
  | .hbm, ⟨48, _⟩ => ⟨S16384, .f32⟩
  | .hbm, ⟨49, _⟩ => ⟨S_, .i32⟩
  | .hbm, ⟨50, _⟩ => ⟨S16384, .i32⟩
  | .hbm, ⟨51, _⟩ => ⟨S16384, .i1⟩
  | .hbm, ⟨52, _⟩ => ⟨S_, .f32⟩
  | .hbm, ⟨53, _⟩ => ⟨S_, .f32⟩
  | .hbm, ⟨54, _⟩ => ⟨S16384, .f32⟩
  | .hbm, ⟨55, _⟩ => ⟨S16384, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_call1_v0 : Ref sig .tc := ⟨.hbm, 21, rfl⟩
abbrev main_call1_v1 : Ref sig .tc := ⟨.hbm, 22, rfl⟩
abbrev main_v3 : Ref sig .tc := ⟨.hbm, 23, rfl⟩
abbrev main_v4 : Ref sig .tc := ⟨.hbm, 24, rfl⟩
abbrev main_call2_c : Ref sig .tc := ⟨.hbm, 25, rfl⟩
abbrev main_call2_v0 : Ref sig .tc := ⟨.hbm, 26, rfl⟩
abbrev main_call2_v1 : Ref sig .tc := ⟨.hbm, 27, rfl⟩
abbrev main_call2_c_0 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_call2_v5 : Ref sig .tc := ⟨.hbm, 32, rfl⟩
abbrev main_call2_c_1 : Ref sig .tc := ⟨.hbm, 33, rfl⟩
abbrev main_call2_c_2 : Ref sig .tc := ⟨.hbm, 34, rfl⟩
abbrev main_call2_v6 : Ref sig .tc := ⟨.hbm, 35, rfl⟩
abbrev main_call2_v7 : Ref sig .tc := ⟨.hbm, 36, rfl⟩
abbrev main_call2_v8 : Ref sig .tc := ⟨.hbm, 37, rfl⟩
abbrev main_call2_v9 : Ref sig .tc := ⟨.hbm, 38, rfl⟩
abbrev main_call2_v10 : Ref sig .tc := ⟨.hbm, 39, rfl⟩
abbrev main_call2_v11 : Ref sig .tc := ⟨.hbm, 40, rfl⟩
abbrev main_call2_c_3 : Ref sig .tc := ⟨.hbm, 41, rfl⟩
abbrev main_call2_v12 : Ref sig .tc := ⟨.hbm, 42, rfl⟩
abbrev main_call2_v13 : Ref sig .tc := ⟨.hbm, 43, rfl⟩
abbrev main_call2_cst : Ref sig .tc := ⟨.hbm, 44, rfl⟩
abbrev main_call2_v14 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_c_1 : Ref sig .tc := ⟨.hbm, 49, rfl⟩
abbrev main_v8 : Ref sig .tc := ⟨.hbm, 50, rfl⟩
abbrev main_v9 : Ref sig .tc := ⟨.hbm, 51, rfl⟩
abbrev main_cst : Ref sig .tc := ⟨.hbm, 52, rfl⟩
abbrev main_call3_v0 : Ref sig .tc := ⟨.hbm, 53, rfl⟩
abbrev main_call3_v1 : Ref sig .tc := ⟨.hbm, 54, rfl⟩
abbrev main_v10 : Ref sig .tc := ⟨.hbm, 55, rfl⟩

abbrev nD : Nat := 1
abbrev τ : Topo := Topo.v7x

variable {F : FTy → Type} [FloatOps F]
-- ==== Sc.lean ====
abbrev S16384 : Shape := ⟨1, ![16384]⟩
abbrev S16 : Shape := ⟨1, ![16]⟩
abbrev S1024 : Shape := ⟨1, ![1024]⟩
abbrev S4096 : Shape := ⟨1, ![4096]⟩
abbrev S256 : Shape := ⟨1, ![256]⟩
abbrev S16x256 : Shape := ⟨2, ![16, 256]⟩
abbrev S_ : Shape := ⟨0, ![]⟩
abbrev S1x256 : Shape := ⟨2, ![1, 256]⟩
abbrev S1x16 : Shape := ⟨2, ![1, 16]⟩
abbrev S1 : Shape := ⟨1, ![1]⟩

abbrev nBuf : Table → Nat
  | .hbm => 4
  | .shared => 2
  | .local .scVector .vmem => 8
  | _ => 0

abbrev bufTy : (tb : Table) → Fin (nBuf tb) → BufTy
  | .hbm, ⟨0, _⟩ => ⟨S16384, .f32⟩
  | .hbm, ⟨1, _⟩ => ⟨S16, .f32⟩
  | .hbm, ⟨2, _⟩ => ⟨S1, .f32⟩
  | .hbm, ⟨3, _⟩ => ⟨S_, .f32⟩
  | .shared, ⟨0, _⟩ => ⟨S16x256, .i32⟩
  | .shared, ⟨1, _⟩ => ⟨S16x256, .f32⟩
  | .local .scVector .vmem, ⟨0, _⟩ => ⟨S1024, .f32⟩
  | .local .scVector .vmem, ⟨1, _⟩ => ⟨S1024, .i32⟩
  | .local .scVector .vmem, ⟨2, _⟩ => ⟨S4096, .i32⟩
  | .local .scVector .vmem, ⟨3, _⟩ => ⟨S256, .i32⟩
  | .local .scVector .vmem, ⟨4, _⟩ => ⟨S16x256, .i32⟩
  | .local .scVector .vmem, ⟨5, _⟩ => ⟨S256, .f32⟩
  | .local .scVector .vmem, ⟨6, _⟩ => ⟨S16x256, .f32⟩
  | .local .scVector .vmem, ⟨7, _⟩ => ⟨S16, .f32⟩
  | _, _ => ⟨S16384, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 5 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_arg0_scv : Ref sig .scVector := ⟨.hbm, 0, rfl⟩
abbrev main_v0_scv : Ref sig .scVector := ⟨.hbm, 1, rfl⟩
abbrev cc0_scratch8 : Ref sig .scVector := ⟨.shared, 0, rfl⟩
abbrev cc0_scratch9 : Ref sig .scVector := ⟨.shared, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [BitOps F]

abbrev grid0 : Pipeline.Grid := ⟨2, ![2, 16], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 1 → Nat :=
  let arg1 : BitVec 32 := BitVec.ofNat 32 (i 1).val
  let c1024_i32 : BitVec 32 := 1024#32
  let v8 : BitVec 32 := Scalar.muli arg1 c1024_i32
  ![v8.toNat]
@[reducible] def k0_t1_loop : Scf.Loop 32 :=
  let c0_i32_3 : BitVec 32 := 0#32
  let c64_i32 : BitVec 32 := 64#32
  let v9 : BitVec 32 := Scalar.addi c0_i32_3 c64_i32
  let c1_i32_4 : BitVec 32 := 1#32
  ⟨c0_i32_3, v9, c1_i32_4⟩
def k0_off2 (k0_t1 : Fin k0_t1_loop.trips) : Fin 1 → Nat :=
  let c0_i32_3 : BitVec 32 := 0#32
  let c1_i32_4 : BitVec 32 := 1#32
  let arg14 : BitVec 32 := Scf.iv c0_i32_3 c1_i32_4 k0_t1
  let c16_i32_40 : BitVec 32 := 16#32
  let v115 : BitVec 32 := Scalar.muli arg14 c16_i32_40
  let v116 : Index := Scalar.indexCast v115
  ![v116.toNat]
@[reducible] def k0_t2_loop : Scf.Loop 32 :=
  let c0_i32_7 : BitVec 32 := 0#32
  let c256_i32_8 : BitVec 32 := 256#32
  let v10 : BitVec 32 := Scalar.addi c0_i32_7 c256_i32_8
  let c1_i32_9 : BitVec 32 := 1#32
  ⟨c0_i32_7, v10, c1_i32_9⟩
def k0_off3 (k0_t2 : Fin k0_t2_loop.trips) : Fin 1 → Nat :=
  let c0_i32_7 : BitVec 32 := 0#32
  let c1_i32_9 : BitVec 32 := 1#32
  let arg14 : BitVec 32 := Scf.iv c0_i32_7 c1_i32_9 k0_t2
  let c16_i32_40 : BitVec 32 := 16#32
  let v115 : BitVec 32 := Scalar.muli arg14 c16_i32_40
  let v116 : Index := Scalar.indexCast v115
  ![v116.toNat]
@[reducible] def k0_t3_loop : Scf.Loop 32 :=
  let c0_i32_13 : BitVec 32 := 0#32
  let c4_i32 : BitVec 32 := 4#32
  let v11 : BitVec 32 := Scalar.addi c0_i32_13 c4_i32
  let c1_i32_14 : BitVec 32 := 1#32
  ⟨c0_i32_13, v11, c1_i32_14⟩
@[reducible] def k0_t4_loop : Scf.Loop 32 :=
  let c0_i32_47 : BitVec 32 := 0#32
  let c64_i32_48 : BitVec 32 := 64#32
  let v131 : BitVec 32 := Scalar.addi c0_i32_47 c64_i32_48
  let c1_i32_49 : BitVec 32 := 1#32
  ⟨c0_i32_47, v131, c1_i32_49⟩
def k0_off4 (k0_t4 : Fin k0_t4_loop.trips) : Fin 1 → Nat :=
  let c0_i32_47 : BitVec 32 := 0#32
  let c1_i32_49 : BitVec 32 := 1#32
  let arg18 : BitVec 32 := Scf.iv c0_i32_47 c1_i32_49 k0_t4
  let c16_i32_103 : BitVec 32 := 16#32
  let v362 : BitVec 32 := Scalar.muli arg18 c16_i32_103
  let v363 : Index := Scalar.indexCast v362
  ![v363.toNat]

def k0_chk1 (i : grid0.Coords) (v373 : IVec S16 32) : Prop :=
  (∀ (k0_h1 : k0_cond1 i = 1#1), ∀ a x, ((![v373] : Fin 1 → IVec S16 32) a x).toNat < S4096.size a)
theorem k0_idx1_inb : ∀ (i : grid0.Coords) (v373 : IVec S16 32) (k0_hw1 : k0_chk1 i v373), ∀ (k0_h1 : k0_cond1 i = 1#1), ∀ a x, ((![v373] : Fin 1 → IVec S16 32) a x).toNat < S4096.size a := fun i v373 k0_hw1 k0_h1 => k0_hw1 k0_h1
@[reducible] def k0_t5_loop : Scf.Loop 32 :=
  let c0_i32_52 : BitVec 32 := 0#32
  let c16_i32_53 : BitVec 32 := 16#32
  let v132 : BitVec 32 := Scalar.addi c0_i32_52 c16_i32_53
  let c1_i32_54 : BitVec 32 := 1#32
  ⟨c0_i32_52, v132, c1_i32_54⟩
@[reducible] def k0_t6_loop : Scf.Loop 32 :=
  let c0_i32_103 : BitVec 32 := 0#32
  let c16_i32_104 : BitVec 32 := 16#32
  let v362 : BitVec 32 := Scalar.addi c0_i32_103 c16_i32_104
  let c1_i32_105 : BitVec 32 := 1#32
  ⟨c0_i32_103, v362, c1_i32_105⟩
def k0_off5 (k0_t5 : Fin k0_t5_loop.trips) (k0_t6 : Fin k0_t6_loop.trips) : Fin 1 → Nat :=
  let c0_i32_103 : BitVec 32 := 0#32
  let c1_i32_105 : BitVec 32 := 1#32
  let arg19 : BitVec 32 := Scf.iv c0_i32_103 c1_i32_105 k0_t6
  let c256_i32_108 : BitVec 32 := 256#32
  let v367 : BitVec 32 := Scalar.muli arg19 c256_i32_108
  let c0_i32_52 : BitVec 32 := 0#32
  let c1_i32_54 : BitVec 32 := 1#32
  let arg18 : BitVec 32 := Scf.iv c0_i32_52 c1_i32_54 k0_t5
  let c16_i32_109 : BitVec 32 := 16#32
  let v368 : BitVec 32 := Scalar.muli arg18 c16_i32_109
  let v369 : BitVec 32 := Scalar.addi v367 v368
  let v370 : Index := Scalar.indexCast v369
  ![v370.toNat]
def k0_off6 (k0_t5 : Fin k0_t5_loop.trips) : Fin 1 → Nat :=
  let c0_i32_52 : BitVec 32 := 0#32
  let c1_i32_54 : BitVec 32 := 1#32
  let arg18 : BitVec 32 := Scf.iv c0_i32_52 c1_i32_54 k0_t5
  let c16_i32_107 : BitVec 32 := 16#32
  let v364 : BitVec 32 := Scalar.muli arg18 c16_i32_107
  let v365 : Index := Scalar.indexCast v364
  ![v365.toNat]
def k0_off7 (i : grid0.Coords) : Fin 2 → Nat :=
  let arg1 : BitVec 32 := BitVec.ofNat 32 (i 1).val
  let c0_i32_103_r1 : BitVec 32 := 0#32
  ![arg1.toNat, 0]
@[reducible] def k0_t7_loop : Scf.Loop 32 :=
  let c0_i32_59 : BitVec 32 := 0#32
  let c16_i32_60 : BitVec 32 := 16#32
  let v133 : BitVec 32 := Scalar.addi c0_i32_59 c16_i32_60
  let c1_i32_61 : BitVec 32 := 1#32
  ⟨c0_i32_59, v133, c1_i32_61⟩
@[reducible] def k0_t8_loop : Scf.Loop 32 :=
  let c0_i32_103 : BitVec 32 := 0#32
  let c16_i32_104 : BitVec 32 := 16#32
  let v362 : BitVec 32 := Scalar.addi c0_i32_103 c16_i32_104
  let c1_i32_105 : BitVec 32 := 1#32
  ⟨c0_i32_103, v362, c1_i32_105⟩
def k0_off8 (k0_t7 : Fin k0_t7_loop.trips) (k0_t8 : Fin k0_t8_loop.trips) : Fin 2 → Nat :=
  let c0_i32_103 : BitVec 32 := 0#32
  let c1_i32_105 : BitVec 32 := 1#32
  let arg19 : BitVec 32 := Scf.iv c0_i32_103 c1_i32_105 k0_t8
  let v368 : Index := Scalar.indexCast arg19
  let c0_i32_59 : BitVec 32 := 0#32
  let c1_i32_61 : BitVec 32 := 1#32
  let arg18 : BitVec 32 := Scf.iv c0_i32_59 c1_i32_61 k0_t7
  let c16_i32_108 : BitVec 32 := 16#32
  let v367 : BitVec 32 := Scalar.muli arg18 c16_i32_108
  let v369 : Index := Scalar.indexCast v367
  ![v368.toNat, v369.toNat]
def k0_off9 (k0_t7 : Fin k0_t7_loop.trips) : Fin 1 → Nat :=
  let c0_i32_59 : BitVec 32 := 0#32
  let c1_i32_61 : BitVec 32 := 1#32
  let arg18 : BitVec 32 := Scf.iv c0_i32_59 c1_i32_61 k0_t7
  let c16_i32_107 : BitVec 32 := 16#32
  let v364 : BitVec 32 := Scalar.muli arg18 c16_i32_107
  let v365 : Index := Scalar.indexCast v364
  ![v365.toNat]
def k0_off10 (arg17 : BitVec 32) (v137 : BitVec 32) (v141 : BitVec 32) (v145 : BitVec 32) (v149 : BitVec 32) (v153 : BitVec 32) (v157 : BitVec 32) (v161 : BitVec 32) (v165 : BitVec 32) (v169 : BitVec 32) (v173 : BitVec 32) (v177 : BitVec 32) (v181 : BitVec 32) (v185 : BitVec 32) (v189 : BitVec 32) (v193 : BitVec 32) (v197 : BitVec 32) : Fin 1 → Nat :=
  let c0_i32_87 : BitVec 32 := 0#32
  let v304 : BitVec 1 := Scalar.cmpi .slt c0_i32_87 arg17
  let c0_i32_88 : BitVec 32 := 0#32
  let v305 : BitVec 32 := Scalar.addi c0_i32_88 v197
  let v306 : BitVec 1 := Scalar.cmpi .sge v305 arg17
  let v307 : BitVec 1 := Scalar.andi v304 v306
  let c15_i32 : BitVec 32 := 15#32
  let c0_i32_80 : BitVec 32 := 0#32
  let v198 : BitVec 32 := Scalar.addi c0_i32_80 v197
  let v298 : BitVec 1 := Scalar.cmpi .slt v198 arg17
  let v299 : BitVec 32 := Scalar.addi v198 v193
  let v300 : BitVec 1 := Scalar.cmpi .sge v299 arg17
  let v301 : BitVec 1 := Scalar.andi v298 v300
  let c14_i32 : BitVec 32 := 14#32
  let v199 : BitVec 32 := Scalar.addi v198 v193
  let v292 : BitVec 1 := Scalar.cmpi .slt v199 arg17
  let v293 : BitVec 32 := Scalar.addi v199 v189
  let v294 : BitVec 1 := Scalar.cmpi .sge v293 arg17
  let v295 : BitVec 1 := Scalar.andi v292 v294
  let c13_i32 : BitVec 32 := 13#32
  let v200 : BitVec 32 := Scalar.addi v199 v189
  let v286 : BitVec 1 := Scalar.cmpi .slt v200 arg17
  let v287 : BitVec 32 := Scalar.addi v200 v185
  let v288 : BitVec 1 := Scalar.cmpi .sge v287 arg17
  let v289 : BitVec 1 := Scalar.andi v286 v288
  let c12_i32 : BitVec 32 := 12#32
  let v201 : BitVec 32 := Scalar.addi v200 v185
  let v280 : BitVec 1 := Scalar.cmpi .slt v201 arg17
  let v281 : BitVec 32 := Scalar.addi v201 v181
  let v282 : BitVec 1 := Scalar.cmpi .sge v281 arg17
  let v283 : BitVec 1 := Scalar.andi v280 v282
  let c11_i32 : BitVec 32 := 11#32
  let v202 : BitVec 32 := Scalar.addi v201 v181
  let v274 : BitVec 1 := Scalar.cmpi .slt v202 arg17
  let v275 : BitVec 32 := Scalar.addi v202 v177
  let v276 : BitVec 1 := Scalar.cmpi .sge v275 arg17
  let v277 : BitVec 1 := Scalar.andi v274 v276
  let c10_i32 : BitVec 32 := 10#32
  let v203 : BitVec 32 := Scalar.addi v202 v177
  let v268 : BitVec 1 := Scalar.cmpi .slt v203 arg17
  let v269 : BitVec 32 := Scalar.addi v203 v173
  let v270 : BitVec 1 := Scalar.cmpi .sge v269 arg17
  let v271 : BitVec 1 := Scalar.andi v268 v270
  let c9_i32 : BitVec 32 := 9#32
  let v204 : BitVec 32 := Scalar.addi v203 v173
  let v262 : BitVec 1 := Scalar.cmpi .slt v204 arg17
  let v263 : BitVec 32 := Scalar.addi v204 v169
  let v264 : BitVec 1 := Scalar.cmpi .sge v263 arg17
  let v265 : BitVec 1 := Scalar.andi v262 v264
  let c8_i32_86 : BitVec 32 := 8#32
  let v205 : BitVec 32 := Scalar.addi v204 v169
  let v256 : BitVec 1 := Scalar.cmpi .slt v205 arg17
  let v257 : BitVec 32 := Scalar.addi v205 v165
  let v258 : BitVec 1 := Scalar.cmpi .sge v257 arg17
  let v259 : BitVec 1 := Scalar.andi v256 v258
  let c7_i32 : BitVec 32 := 7#32
  let v206 : BitVec 32 := Scalar.addi v205 v165
  let v250 : BitVec 1 := Scalar.cmpi .slt v206 arg17
  let v251 : BitVec 32 := Scalar.addi v206 v161
  let v252 : BitVec 1 := Scalar.cmpi .sge v251 arg17
  let v253 : BitVec 1 := Scalar.andi v250 v252
  let c6_i32 : BitVec 32 := 6#32
  let v207 : BitVec 32 := Scalar.addi v206 v161
  let v244 : BitVec 1 := Scalar.cmpi .slt v207 arg17
  let v245 : BitVec 32 := Scalar.addi v207 v157
  let v246 : BitVec 1 := Scalar.cmpi .sge v245 arg17
  let v247 : BitVec 1 := Scalar.andi v244 v246
  let c5_i32 : BitVec 32 := 5#32
  let v208 : BitVec 32 := Scalar.addi v207 v157
  let v238 : BitVec 1 := Scalar.cmpi .slt v208 arg17
  let v239 : BitVec 32 := Scalar.addi v208 v153
  let v240 : BitVec 1 := Scalar.cmpi .sge v239 arg17
  let v241 : BitVec 1 := Scalar.andi v238 v240
  let c4_i32_85 : BitVec 32 := 4#32
  let v209 : BitVec 32 := Scalar.addi v208 v153
  let v232 : BitVec 1 := Scalar.cmpi .slt v209 arg17
  let v233 : BitVec 32 := Scalar.addi v209 v149
  let v234 : BitVec 1 := Scalar.cmpi .sge v233 arg17
  let v235 : BitVec 1 := Scalar.andi v232 v234
  let c3_i32 : BitVec 32 := 3#32
  let v210 : BitVec 32 := Scalar.addi v209 v149
  let v226 : BitVec 1 := Scalar.cmpi .slt v210 arg17
  let v227 : BitVec 32 := Scalar.addi v210 v145
  let v228 : BitVec 1 := Scalar.cmpi .sge v227 arg17
  let v229 : BitVec 1 := Scalar.andi v226 v228
  let c2_i32 : BitVec 32 := 2#32
  let v211 : BitVec 32 := Scalar.addi v210 v145
  let v220 : BitVec 1 := Scalar.cmpi .slt v211 arg17
  let v221 : BitVec 32 := Scalar.addi v211 v141
  let v222 : BitVec 1 := Scalar.cmpi .sge v221 arg17
  let v223 : BitVec 1 := Scalar.andi v220 v222
  let c1_i32_84 : BitVec 32 := 1#32
  let v212 : BitVec 32 := Scalar.addi v211 v141
  let v214 : BitVec 1 := Scalar.cmpi .slt v212 arg17
  let v215 : BitVec 32 := Scalar.addi v212 v137
  let v216 : BitVec 1 := Scalar.cmpi .sge v215 arg17
  let v217 : BitVec 1 := Scalar.andi v214 v216
  let c0_i32_81 : BitVec 32 := 0#32
  let c0_i32_82 : BitVec 32 := 0#32
  let v218 : BitVec 32 := Scalar.select v217 c0_i32_81 c0_i32_82
  let v224 : BitVec 32 := Scalar.select v223 c1_i32_84 v218
  let v230 : BitVec 32 := Scalar.select v229 c2_i32 v224
  let v236 : BitVec 32 := Scalar.select v235 c3_i32 v230
  let v242 : BitVec 32 := Scalar.select v241 c4_i32_85 v236
  let v248 : BitVec 32 := Scalar.select v247 c5_i32 v242
  let v254 : BitVec 32 := Scalar.select v253 c6_i32 v248
  let v260 : BitVec 32 := Scalar.select v259 c7_i32 v254
  let v266 : BitVec 32 := Scalar.select v265 c8_i32_86 v260
  let v272 : BitVec 32 := Scalar.select v271 c9_i32 v266
  let v278 : BitVec 32 := Scalar.select v277 c10_i32 v272
  let v284 : BitVec 32 := Scalar.select v283 c11_i32 v278
  let v290 : BitVec 32 := Scalar.select v289 c12_i32 v284
  let v296 : BitVec 32 := Scalar.select v295 c13_i32 v290
  let v302 : BitVec 32 := Scalar.select v301 c14_i32 v296
  let v308 : BitVec 32 := Scalar.select v307 c15_i32 v302
  let c16_i32_90 : BitVec 32 := 16#32
  let v310 : BitVec 32 := Scalar.muli v308 c16_i32_90
  let v311 : Index := Scalar.indexCast v310
  ![v311.toNat]

def k0_chk2 (i : grid0.Coords) (arg17 : BitVec 32) (v137 : BitVec 32) (v141 : BitVec 32) (v145 : BitVec 32) (v149 : BitVec 32) (v153 : BitVec 32) (v157 : BitVec 32) (v161 : BitVec 32) (v165 : BitVec 32) (v169 : BitVec 32) (v173 : BitVec 32) (v177 : BitVec 32) (v181 : BitVec 32) (v185 : BitVec 32) (v189 : BitVec 32) (v193 : BitVec 32) (v197 : BitVec 32) : Prop :=
  (∀ (k0_h1 : k0_cond1 i = 1#1), ∀ a, (k0_off10 arg17 v137 v141 v145 v149 v153 v157 v161 v165 v169 v173 v177 v181 v185 v189 v193 v197) a + S16.size a ≤ S256.size a)
theorem k0_off10_inb : ∀ (i : grid0.Coords) (arg17 : BitVec 32) (v137 : BitVec 32) (v141 : BitVec 32) (v145 : BitVec 32) (v149 : BitVec 32) (v153 : BitVec 32) (v157 : BitVec 32) (v161 : BitVec 32) (v165 : BitVec 32) (v169 : BitVec 32) (v173 : BitVec 32) (v177 : BitVec 32) (v181 : BitVec 32) (v185 : BitVec 32) (v189 : BitVec 32) (v193 : BitVec 32) (v197 : BitVec 32) (k0_hw2 : k0_chk2 i arg17 v137 v141 v145 v149 v153 v157 v161 v165 v169 v173 v177 v181 v185 v189 v193 v197), ∀ (k0_h1 : k0_cond1 i = 1#1), ∀ a, (k0_off10 arg17 v137 v141 v145 v149 v153 v157 v161 v165 v169 v173 v177 v181 v185 v189 v193 v197) a + S16.size a ≤ S256.size a := fun i arg17 v137 v141 v145 v149 v153 v157 v161 v165 v169 v173 v177 v181 v185 v189 v193 v197 k0_hw2 k0_h1 => k0_hw2 k0_h1

@[reducible] def k0_t9_loop : Scf.Loop 32 :=
  let c0_i32_17 : BitVec 32 := 0#32
  let c64_i32_18 : BitVec 32 := 64#32
  let v17 : BitVec 32 := Scalar.addi c0_i32_17 c64_i32_18
  let c1_i32_19 : BitVec 32 := 1#32
  ⟨c0_i32_17, v17, c1_i32_19⟩
def k0_off11 (k0_t9 : Fin k0_t9_loop.trips) : Fin 1 → Nat :=
  let c0_i32_17 : BitVec 32 := 0#32
  let c1_i32_19 : BitVec 32 := 1#32
  let arg14 : BitVec 32 := Scf.iv c0_i32_17 c1_i32_19 k0_t9
  let c16_i32_40 : BitVec 32 := 16#32
  let v115 : BitVec 32 := Scalar.muli arg14 c16_i32_40
  let v116 : Index := Scalar.indexCast v115
  ![v116.toNat]
def k0_off12 (i : grid0.Coords) : Fin 2 → Nat :=
  let arg1 : BitVec 32 := BitVec.ofNat 32 (i 1).val
  let c0_i32_40_r3 : BitVec 32 := 0#32
  ![arg1.toNat, 0]
@[reducible] def k0_t10_loop : Scf.Loop 32 :=
  let c0_i32_28 : BitVec 32 := 0#32
  let c16_i32 : BitVec 32 := 16#32
  let v85 : BitVec 32 := Scalar.addi c0_i32_28 c16_i32
  let c1_i32_29 : BitVec 32 := 1#32
  ⟨c0_i32_28, v85, c1_i32_29⟩
def k0_off13 (k0_t10 : Fin k0_t10_loop.trips) : Fin 2 → Nat :=
  let c0_i32_28 : BitVec 32 := 0#32
  let c1_i32_29 : BitVec 32 := 1#32
  let arg14 : BitVec 32 := Scf.iv c0_i32_28 c1_i32_29 k0_t10
  let v115 : Index := Scalar.indexCast arg14
  let c0_40 : Index := 0#32
  ![v115.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ScRef.lean ====
abbrev S16384 : Shape := ⟨1, ![16384]⟩
abbrev S11468 : Shape := ⟨1, ![11468]⟩
abbrev S1 : Shape := ⟨1, ![1]⟩
abbrev S_ : Shape := ⟨0, ![]⟩
abbrev S16384x1 : Shape := ⟨2, ![16384, 1]⟩
abbrev S1x11468 : Shape := ⟨2, ![1, 11468]⟩
abbrev S16384x11468 : Shape := ⟨2, ![16384, 11468]⟩
abbrev S16x64x16 : Shape := ⟨3, ![16, 64, 16]⟩
abbrev S1x1 : Shape := ⟨2, ![1, 1]⟩
abbrev S16x16 : Shape := ⟨2, ![16, 16]⟩
abbrev S16x1x16 : Shape := ⟨3, ![16, 1, 16]⟩
abbrev S16x1 : Shape := ⟨2, ![16, 1]⟩

abbrev nBuf : Space → Nat
  | .hbm => 32
  | .vmem => 4
  | .smem => 0
  | _ => 0

abbrev bufTy : (tb : Table) → Fin (tcTables nBuf tb) → BufTy
  | .hbm, ⟨0, _⟩ => ⟨S16384, .f32⟩
  | .hbm, ⟨1, _⟩ => ⟨S11468, .f32⟩
  | .hbm, ⟨2, _⟩ => ⟨S11468, .i32⟩
  | .hbm, ⟨3, _⟩ => ⟨S1, .f32⟩
  | .hbm, ⟨4, _⟩ => ⟨S_, .f32⟩
  | .hbm, ⟨5, _⟩ => ⟨S16384, .i32⟩
  | .hbm, ⟨6, _⟩ => ⟨S11468, .i32⟩
  | .hbm, ⟨7, _⟩ => ⟨S16384x1, .i32⟩
  | .hbm, ⟨8, _⟩ => ⟨S1x11468, .i32⟩
  | .hbm, ⟨9, _⟩ => ⟨S16384x11468, .i32⟩
  | .hbm, ⟨10, _⟩ => ⟨S16384x11468, .i32⟩
  | .hbm, ⟨11, _⟩ => ⟨S16384x11468, .i1⟩
  | .hbm, ⟨12, _⟩ => ⟨S_, .i1⟩
  | .hbm, ⟨13, _⟩ => ⟨S16384, .i1⟩
  | .hbm, ⟨14, _⟩ => ⟨S16384, .i32⟩
  | .hbm, ⟨15, _⟩ => ⟨S_, .i32⟩
  | .hbm, ⟨16, _⟩ => ⟨S16384, .i32⟩
  | .hbm, ⟨17, _⟩ => ⟨S16384, .i1⟩
  | .hbm, ⟨18, _⟩ => ⟨S16384, .i1⟩
  | .hbm, ⟨19, _⟩ => ⟨S16384, .i32⟩
  | .hbm, ⟨20, _⟩ => ⟨S_, .i32⟩
  | .hbm, ⟨21, _⟩ => ⟨S_, .i32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S16384, .f32⟩
  | .hbm, ⟨26, _⟩ => ⟨S16384, .f32⟩
  | .hbm, ⟨27, _⟩ => ⟨S16x64x16, .f32⟩
  | .hbm, ⟨28, _⟩ => ⟨S1x1, .f32⟩
  | .hbm, ⟨29, _⟩ => ⟨S1x1, .f32⟩
  | .hbm, ⟨30, _⟩ => ⟨S1x1, .f32⟩
  | .hbm, ⟨31, _⟩ => ⟨S_, .f32⟩
  | .local _ .vmem, ⟨0, _⟩ => ⟨S16x64x16, .f32⟩
  | .local _ .vmem, ⟨1, _⟩ => ⟨S1x1, .f32⟩
  | .local _ .vmem, ⟨2, _⟩ => ⟨S1x1, .f32⟩
  | .local _ .vmem, ⟨3, _⟩ => ⟨S1x1, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_c : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_call1_v0 : Ref sig .tc := ⟨.hbm, 24, rfl⟩
abbrev main_call1_v1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [BitOps F]

abbrev grid0 : Pipeline.Grid := .none

abbrev stage0_0 : Fin 1 → Memref sig .tc .vmem S16x64x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Base.lean ====
/-
  What every module of the SparseCore call's proof builds on: the program as the launch theorem sees it, the stages of the
  call (one per meeting of the tiles), the ghost state's algebra with the places its parts sit in, and the buffers' names.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.Sc
public import proofs.«01_k».proof.Proof.Gen.Sc.Skeleton

@[expose] public section

noncomputable section

namespace Cert.Proof.Mean

open Cert.Sc Cert.Sc.Gen

open Idealize.ShloMosaic
open Idealize.ShloMosaic.SparseCore (S V T)
open Idealize.ShloMosaic.SparseCore.Cfg (HIx Pay Blocks tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [BitOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The stages: the tiles meet nine times, each meeting at a stage of its own -/

/-- The meetings of the tiles in one task: two per digit of the key, one for the totals. -/
abbrev nMeet : ℕ := 9

/-- The one call owns all nine stages. -/
@[reducible] def stages : Blocks 1 nMeet where
  first := fun _ => 0
  last := fun _ => 8
  fst := fun n => 9 * n
  blk := fun _ ι => ∃ j, ι = some j
  first_le_last := fun _ => Nat.zero_le _
  fst_val := fun q => by obtain rfl : q = 0 := Subsingleton.elim _ _; rfl
  fst_le := fun n q h => by obtain rfl : q = 0 := Subsingleton.elim _ _; obtain rfl : n = 0 := Nat.le_zero.mp h; exact le_rfl
  last_lt_fst := fun q => by obtain rfl : q = 0 := Subsingleton.elim _ _; decide
  blk_iff := fun q ι => ⟨fun ⟨j, h⟩ => ⟨j, Nat.zero_le _, Nat.le_of_lt_succ j.isLt, h⟩, fun ⟨j, _, _, h⟩ => ⟨j, h⟩⟩

attribute [local instance] stages

/-- Meeting `b`'s stage. -/
def stg (b : ℕ) : Fin nMeet := ⟨b % 9, Nat.mod_lt _ (by decide)⟩

theorem stg_val {b : ℕ} (h : b < 9) : (stg b).val = b := Nat.mod_eq_of_lt h

/-! ## The resource algebra: the handshakes' rounds, the meeting cells', the deposits', the transfers' counters -/

/-- A deposit is named by its device, its SparseCore, the meeting and the depositing tile. -/
abbrev Dep : Type := Dev nD × Fin τ.nSC × ℕ × Fin 16

abbrev UH : Type := URounds (GSem nD τ sig) ℕ
abbrev UB : Type := URounds (GSem nD τ sig) (ℕ × Fin 16)
abbrev UE : Type := URounds Dep (Fin 16)
abbrev UU : Type := UH × (UB × (UE × Counters))

local notation "𝕄" => MT nD τ sig (HIx 9) (Elt F) ℕ UU ℕ

abbrev EH : Emb UH (MT nD τ sig (HIx 9) (Elt F) ℕ UU ℕ) := embL
/-- Where the meeting cells' rounds sit. -/
def EB : Emb UB (MT nD τ sig (HIx 9) (Elt F) ℕ UU ℕ) :=
  ((Emb.inl : Emb UB (UB × (UE × Counters))).trans (Emb.inr : Emb (UB × (UE × Counters)) UU)).trans
    (uEmb (nD := nD) (sig := sig) (Ix := HIx 9) (Val := Elt F) (Name := ℕ) (U := UU) (Lvl := ℕ)).toEmb
/-- Where the deposits' state sits. -/
def EE : Emb UE (MT nD τ sig (HIx 9) (Elt F) ℕ UU ℕ) :=
  (((Emb.inl : Emb UE (UE × Counters)).trans (Emb.inr : Emb (UE × Counters) (UB × (UE × Counters)))).trans (Emb.inr : Emb (UB × (UE × Counters)) UU)).trans
    (uEmb (nD := nD) (sig := sig) (Ix := HIx 9) (Val := Elt F) (Name := ℕ) (U := UU) (Lvl := ℕ)).toEmb
instance EB_landsIn : (EB : Emb UB 𝕄).LandsIn (upEmb : UEmb _ 𝕄) := by unfold EB; infer_instance
instance EE_landsIn : (EE : Emb UE 𝕄).LandsIn (upEmb : UEmb _ 𝕄) := by unfold EE; infer_instance

/-! ## The buffers -/

abbrev xLoc (d : Dev nD) : Loc nD τ sig := (SparseCore.T d).loc main_arg0
abbrev oLoc (d : Dev nD) : Loc nD τ sig := (SparseCore.T d).loc main_v0

/-- SparseCore `c`'s shared histograms and shared totals, as every tile of it addresses them. -/
abbrev hsRef (c : Fin τ.nSC) : DevRef τ sig := ⟨.shared, ⟨0, by decide⟩, c⟩
abbrev hsLoc (d : Dev nD) (c : Fin τ.nSC) : Loc nD τ sig := (d, hsRef c)
abbrev stRef (c : Fin τ.nSC) : DevRef τ sig := ⟨.shared, ⟨1, by decide⟩, c⟩
abbrev stLoc (d : Dev nD) (c : Fin τ.nSC) : Loc nD τ sig := (d, stRef c)

/-- Tile `(c, j)`'s barrier semaphore of device `d`. -/
abbrev bcell (d : Dev nD) (c : Fin τ.nSC) (j : Fin τ.nSub) : GSem nD τ sig := (V d c j, .reg sc_bar0)

theorem sc_bar0_ne_go : (sc_bar0 : Sem sig) ≠ sc_go := by decide

/-! ## Families of assertions, in the proof mode's spelling -/

section Families

variable {M : Type} [URA M] {I : Type} [DecidableEq I]

/-- A family, member by member. -/
theorem fam_mono {s : Finset I} {Φ Ψ : I → sProp M} (h : ∀ i ∈ s, Φ i ⊢ Ψ i) : bigSep s Φ ⊢ bigSep s Ψ := BI.bigSep_mono h
/-- One member taken out, -/
theorem fam_out {s : Finset I} {i : I} (h : i ∈ s) (Φ : I → sProp M) : bigSep s Φ ⊢ iprop(Φ i ∗ bigSep (s.erase i) Φ) := by
  rw [BI.bigSep_erase h]; exact .rfl
/-- put back, -/
theorem fam_in {s : Finset I} {i : I} (h : i ∈ s) (Φ : I → sProp M) : iprop(Φ i ∗ bigSep (s.erase i) Φ) ⊢ bigSep s Φ := by
  rw [BI.bigSep_erase h]; exact .rfl
/-- looked at. -/
theorem fam_get {s : Finset I} {i : I} (h : i ∈ s) (Φ : I → sProp M) : bigSep s Φ ⊢ Φ i := BI.bigSep_elim h
/-- A family over a smaller set. -/
theorem fam_sub {s t : Finset I} (h : t ⊆ s) (Φ : I → sProp M) : bigSep s Φ ⊢ bigSep t Φ := BI.bigSep_subset h
/-- A new member. -/
theorem fam_cons {s : Finset I} {i : I} (h : i ∉ s) (Φ : I → sProp M) : iprop(Φ i ∗ bigSep s Φ) ⊢ bigSep (insert i s) Φ := by
  rw [BI.bigSep_insert h]; exact .rfl
theorem fam_uncons {s : Finset I} {i : I} (h : i ∉ s) (Φ : I → sProp M) : bigSep (insert i s) Φ ⊢ iprop(Φ i ∗ bigSep s Φ) := by
  rw [BI.bigSep_insert h]; exact .rfl
/-- Two families joined. -/
theorem fam_union (s t : Finset I) (Φ : I → sProp M) : iprop(bigSep s Φ ∗ bigSep t Φ) ⊢ bigSep (s ∪ t) Φ := BI.bigSep_sep_union s t
/-- A family of pairs is a pair of families; -/
theorem fam_unzip (s : Finset I) (Φ Ψ : I → sProp M) : bigSep s (fun i => iprop(Φ i ∗ Ψ i)) ⊢ iprop(bigSep s Φ ∗ bigSep s Ψ) := Entails.of_eq (BI.bigSep_sep s Φ Ψ)
/-- and back. -/
theorem fam_zip (s : Finset I) (Φ Ψ : I → sProp M) : iprop(bigSep s Φ ∗ bigSep s Ψ) ⊢ bigSep s (fun i => iprop(Φ i ∗ Ψ i)) := Entails.of_eq (BI.bigSep_sep s Φ Ψ).symm
/-- Beside a lasting fact, member by member. -/
theorem fam_mono_with {s : Finset I} {P : sProp M} [BI.Persistent P] {Φ Ψ : I → sProp M} (h : ∀ i ∈ s, iprop(P ∗ Φ i) ⊢ Ψ i) :
    iprop(P ∗ bigSep s Φ) ⊢ bigSep s Ψ := by
  induction s using Finset.induction_on with
  | empty => rw [BI.bigSep_empty, BI.bigSep_empty]; iintro ⟨-, -⟩; iempintro
  | insert i s hi ih =>
    iintro ⟨#HP, H⟩
    ihave H' := (fam_uncons hi Φ) $$ H
    icases H' with ⟨Hi, H⟩
    iapply (fam_cons hi Ψ)
    isplitl [Hi]
    · iapply (h i (Finset.mem_insert_self i s)); isplitr; · iexact HP
      iexact Hi
    · iapply (ih fun j hj => h j (Finset.mem_insert_of_mem hj)); isplitr; · iexact HP
      iexact H

end Families

end Cert.Proof.Mean

end
-- ==== Proof.Meet.lean ====
/-
  How the tiles of a SparseCore meet, nine times in one task. All meetings use one semaphore of each tile, raised by one unit
  by every tile at every meeting and lowered by sixteen by its owner. Nothing on the semaphore tells the units of one
  meeting from those of the next: a tile may run ahead and its unit for the next meeting arrive early. So a unit carries
  only LASTING facts — that its sender has passed the earlier meetings, at each of which everyone had left his
  deposit, and has left his own for this one —, from which it follows, by counting, that after `16 (b + 1)` units everyone has left his deposit
  for meeting `b`. The deposits themselves (what tile `s` hands tile `j` at meeting `b`: `pay (d, c, b, s) j`) lie in an invariant, where the receiver finds them.
-/
module

public import proofs.«01_k».proof.Proof.Base

@[expose] public section

noncomputable section

namespace Cert.Proof.Mean

open Cert.Sc Cert.Sc.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds

attribute [local instance] stages

variable {F : FTy → Type}

local notation "𝕄" => MT nD τ sig (HIx 9) (Elt F) ℕ UU ℕ

theorem le_nSub : 16 ≤ τ.nSub := le_rfl

/-- Tile `j`'s cell. -/
abbrev cell (d : Dev nD) (c : Fin τ.nSC) (j : Fin 16) : GSem nD τ sig := bcell d c (j.castLE le_nSub)

/-! ## What a unit says -/

/-- Everyone has left his deposit for meeting `b`. -/
def Ev (d : Dev nD) (c : Fin τ.nSC) (b : ℕ) : sProp 𝕄 :=
  bigSep Finset.univ fun s : Fin 16 => reached (EE (F := F)) ((d, c, b, s) : Dep) 1

instance Ev_persistent (d : Dev nD) (c : Fin τ.nSC) (b : ℕ) : BI.Persistent (Ev (F := F) d c b) := by unfold Ev; infer_instance
instance Ev_storable (d : Dev nD) (c : Fin τ.nSC) (b : ℕ) : BI.Storable (upEmb : UEmb _ 𝕄) (Ev (F := F) d c b) := by unfold Ev; infer_instance

/-- The unit of tile `x.2` for meeting `x.1`: the earlier meetings are past, and his deposit for this one lies ready. -/
def said (d : Dev nD) (c : Fin τ.nSC) (x : ℕ × Fin 16) : sProp 𝕄 :=
  iprop(bigSep (Finset.range x.1) (Ev d c) ∗ reached (EE (F := F)) ((d, c, x.1, x.2) : Dep) 1)

instance said_persistent (d : Dev nD) (c : Fin τ.nSC) (x : ℕ × Fin 16) : BI.Persistent (said (F := F) d c x) := by unfold said; infer_instance
instance said_storable (d : Dev nD) (c : Fin τ.nSC) (x : ℕ × Fin 16) : BI.Storable (upEmb : UEmb _ 𝕄) (said (F := F) d c x) := by unfold said; infer_instance

/-- The same of a cell. -/
def cellSaid (g : GSem nD τ sig) (x : ℕ × Fin 16) : sProp 𝕄 :=
  match g with
  | ((d, .scVector c _), _) => said d c x
  | _ => iprop(emp)

instance cellSaid_storable (g : GSem nD τ sig) (x : ℕ × Fin 16) : BI.Storable (upEmb : UEmb _ 𝕄) (cellSaid (F := F) g x) := by
  unfold cellSaid; split <;> infer_instance

/-- All units a cell ever sees. -/
abbrev units : Finset (ℕ × Fin 16) := Finset.range 9 ×ˢ Finset.univ

/-- The cells' schedule: one round of the 144 units of the nine meetings. -/
def bRd : Rounds.Schedule (GSem nD τ sig) (ℕ × Fin 16) 𝕄 where
  duties _ r := if r = 0 then units else ∅
  amount _ _ _ := 1
  payload g _ x := cellSaid g x
  amount_pos _ _ _ _ := Nat.one_pos

instance bRd_payload_storable (g : GSem nD τ sig) (r : ℕ) (x : ℕ × Fin 16) : BI.Storable (upEmb : UEmb _ 𝕄) ((bRd (F := F)).payload g r x) :=
  cellSaid_storable g x

theorem bRd_payload (d : Dev nD) (c : Fin τ.nSC) (j : Fin τ.nSub) (r : ℕ) (x : ℕ × Fin 16) : (bRd (F := F)).payload (bcell d c j) r x = said d c x := rfl
theorem bRd_duties₀ (g : GSem nD τ sig) : (bRd (F := F)).duties g 0 = units := rfl
theorem bRd_duties_succ (g : GSem nD τ sig) (r : ℕ) (hr : 1 ≤ r) : (bRd (F := F)).duties g r = ∅ := if_neg (by omega)
theorem bRd_expect (g : GSem nD τ sig) : (bRd (F := F)).expect g 0 = 144 := by
  unfold Rounds.Schedule.expect; rw [bRd_duties₀]
  show ∑ _ ∈ units, 1 = 144
  rw [Finset.sum_const, Finset.card_product]; rfl

/-- After `16 (b + 1)` units, a later meeting's has arrived or all of this one's have. -/
theorem units_count {S : Finset (ℕ × Fin 16)} {b : ℕ} (hS : S ⊆ units) (h : 16 * b + 16 + (units \ S).card ≤ 144) :
    (∃ x ∈ S, b < x.1) ∨ ∀ s : Fin 16, (b, s) ∈ S := by
  by_cases hx : ∃ x ∈ S, b < x.1
  · exact .inl hx
  · right
    have hsub : S ⊆ Finset.range (b + 1) ×ˢ Finset.univ := fun x hxS => by
      rw [Finset.mem_product, Finset.mem_range]
      exact ⟨Nat.lt_succ_of_le (Nat.le_of_not_lt fun h => hx ⟨x, hxS, h⟩), Finset.mem_univ _⟩
    have hc : (Finset.range (b + 1) ×ˢ (Finset.univ : Finset (Fin 16))).card ≤ S.card := by
      rw [Finset.card_product, Finset.card_range, Finset.card_univ, Fintype.card_fin]
      have h1 := Finset.card_sdiff_add_card_eq_card hS
      have h2 : units.card = 144 := by rw [Finset.card_product]; rfl
      omega
    have heq := Finset.eq_of_subset_of_card_le hsub hc
    intro s
    rw [heq]; simp

/-! ## The deposits -/

section Deposits

variable (pay : Dep → Fin 16 → sProp (MT nD τ sig (HIx 9) (Elt F) ℕ UU ℕ))

/-- The deposit of tile `s` for meeting `b`: not made yet, or made, each tile's part there or taken. -/
def depBody (x : Dep) : sProp 𝕄 :=
  iprop(roundAuth (EE (F := F)) x 0 ∅ 0
    ∨ (roundAuth (EE (F := F)) x 1 ∅ 0 ∗ bigSep Finset.univ fun j : Fin 16 => iprop(pay x j ∨ dutyTok (EE (F := F)) x 0 j)))

instance depBody_storable [hp : ∀ (x : Dep) (j : Fin 16), BI.Storable (upEmb : UEmb _ 𝕄) (pay x j)] (x : Dep) : BI.Storable (upEmb : UEmb _ 𝕄) (depBody pay x) := by
  unfold depBody; unfold roundAuth dutyTok; infer_instance

/-- Leaving a deposit: it is left, and lastingly so. -/
theorem deposit (ι : ℕ) (x : Dep) :
    iprop(inv ι (depBody pay x) ∗ atPos (EE (F := F)) x 0 ∅ 0 ∗ bigSep Finset.univ fun j : Fin 16 => pay x j)
      ⊢ (|={Set.univ}=> reached (EE (F := F)) x 1 : sProp 𝕄) := by
  iintro ⟨Hinv, Hat, Hp⟩
  imod (inv_acc (Set.mem_univ ι)) $$ Hinv with ⟨Hb, Hclose⟩
  unfold depBody
  icases Hb with (Ha | ⟨Ha, -⟩)
  · icombine Ha Hat as H
    imod (roundAuth_atPos_move (EE (F := F)) 1 ∅ 0 (Nat.zero_le 1)) $$ H with ⟨Ha, -⟩
    imod (roundAuth_witness (EE (F := F))) $$ Ha with ⟨Ha, #Hr⟩
    ihave Hc := Hclose $$ [Ha Hp]
    · iright
      isplitl [Ha]; · iexact Ha
      iapply (fam_mono (s := (Finset.univ : Finset (Fin 16))) (Φ := fun j => pay x j)
        (Ψ := fun j => iprop(pay x j ∨ dutyTok (EE (F := F)) x 0 j)) fun j _ => or_intro_l) $$ Hp
    imod Hc; imodintro; iexact Hr
  · iexfalso
    icombine Ha Hat as H
    ihave %h := (roundAuth_atPos_agree (EE (F := F))) $$ H
    exact absurd h.1 (by decide)

/-- Taking one's part of a deposit that is there. -/
theorem collect (ι : ℕ) (x : Dep) (j : Fin 16) :
    iprop(inv ι (depBody pay x) ∗ reached (EE (F := F)) x 1 ∗ dutyTok (EE (F := F)) x 0 j)
      ⊢ (|={Set.univ}=> pay x j : sProp 𝕄) := by
  iintro ⟨Hinv, #Hr, Ht⟩
  imod (inv_acc (Set.mem_univ ι)) $$ Hinv with ⟨Hb, Hclose⟩
  unfold depBody
  icases Hb with (Ha | ⟨Ha, Hp⟩)
  · iexfalso
    ihave %h := (roundAuth_reached_le (EE (F := F))) $$ [Ha]
    · isplitl [Ha]; · iexact Ha
      iexact Hr
    exact absurd h (by decide)
  · ihave Hp' := (fam_out (Finset.mem_univ j) _) $$ Hp
    icases Hp' with ⟨(Hj | Hj), Hp⟩
    · ihave Hc := Hclose $$ [Ha Hp Ht]
      · iright
        isplitl [Ha]; · iexact Ha
        iapply (fam_in (Finset.mem_univ j) fun j => iprop(pay x j ∨ dutyTok (EE (F := F)) x 0 j))
        isplitl [Ht]; · iright; iexact Ht
        iexact Hp
      imod Hc; imodintro; iexact Hj
    · iexfalso
      iapply (dutyTok_dutyTok_false (EE (F := F)))
      isplitl [Ht] <;> iassumption

/-! ## What a tile holds between meetings -/

/-- What a tile owes for meeting `b`: a unit to every tile. -/
def arrive (d : Dev nD) (c : Fin τ.nSC) (b : ℕ) : CellTallies nD τ sig (HIx 9) := ∑ j : Fin 16, tallyAt (cell d c j) (some (stg b)) 1
/-- What it owes for the meetings from `b` on. -/
def owed (d : Dev nD) (c : Fin τ.nSC) (b : ℕ) : CellTallies nD τ sig (HIx 9) := ∑ b' ∈ Finset.Ico b 9, arrive d c b'

theorem owed_step (d : Dev nD) (c : Fin τ.nSC) {b : ℕ} (hb : b < 9) : owed d c b = owed d c (b + 1) + arrive d c b := by
  unfold owed; rw [Finset.sum_eq_sum_Ico_succ_bot hb, add_comm]

theorem owed_nine (d : Dev nD) (c : Fin τ.nSC) : owed d c 9 = 0 := by unfold owed; rw [Finset.Ico_self, Finset.sum_empty]

theorem owed_none (d : Dev nD) (c : Fin τ.nSC) (b : ℕ) (g : GSem nD τ sig) : owed d c b g none = 0 := by
  unfold owed arrive
  rw [Finset.sum_apply, Finsupp.finsetSum_apply]
  refine Finset.sum_eq_zero fun b' _ => ?_
  rw [Finset.sum_apply, Finsupp.finsetSum_apply]
  exact Finset.sum_eq_zero fun j _ => by rw [tallyAt_apply, if_neg (fun e => nomatch e.2)]

theorem owed_pos {d : Dev nD} {c : Fin τ.nSC} {b : ℕ} {g : GSem nD τ sig} {ι : HIx 9} (h : 0 < owed d c b g ι) :
    ∃ b' j, b ≤ b' ∧ b' < 9 ∧ g = cell d c j ∧ ι = some (stg b') := by
  unfold owed arrive at h
  rw [Finset.sum_apply, Finsupp.finsetSum_apply] at h
  obtain ⟨b', hb', h⟩ := Finset.exists_ne_zero_of_sum_ne_zero (Nat.pos_iff_ne_zero.mp h)
  rw [Finset.sum_apply, Finsupp.finsetSum_apply] at h
  obtain ⟨j, -, hj⟩ := Finset.exists_ne_zero_of_sum_ne_zero h
  rw [tallyAt_apply] at hj
  split at hj
  · next e => exact ⟨b', j, (Finset.mem_Ico.mp hb').1, (Finset.mem_Ico.mp hb').2, e.1, e.2⟩
  · exact absurd rfl hj

theorem lev_cell (d : Dev nD) (c : Fin τ.nSC) (j : Fin 16) {b : ℕ} (hb : b < 9) : (K (F := F)).lev (cell d c j) (some (stg b)) = 8 * b + 3 := by
  have h := (K (F := F)).lev_V_reg d c (j.castLE le_nSub) (show (sc_bar0 : Sem sig) ≠ (K (F := F)).go from sc_bar0_ne_go) (stg b)
  rw [stg_val hb] at h; exact h

/-- What tile `i` keeps for meeting `b` until then: the credit for its sixteen units, the right to raise each tile's cell, the
    right to leave its deposit, the right to take its part of everyone's. -/
def due (d : Dev nD) (c : Fin τ.nSC) (i : Fin 16) (b : ℕ) : sProp 𝕄 :=
  iprop(cred (tallyAt (cell d c i) (some (stg b)) 16)
    ∗ (bigSep Finset.univ fun j : Fin 16 => dutyTok (EB (F := F)) (cell d c j) 0 (b, i))
    ∗ atPos (EE (F := F)) ((d, c, b, i) : Dep) 0 ∅ 0
    ∗ bigSep Finset.univ fun s : Fin 16 => dutyTok (EE (F := F)) ((d, c, b, s) : Dep) 0 i)

/-- Tile `i` before meeting `b`: what it has been told, and what it keeps for the meetings to come. -/
def mst (d : Dev nD) (c : Fin τ.nSC) (i : Fin 16) (b : ℕ) : sProp 𝕄 :=
  iprop((∃ A : Finset (ℕ × Fin 16), ⌜A ⊆ units ∧ 16 * b + (units \ A).card ≤ 144⌝ ∗ atPos (EB (F := F)) (cell d c i) 0 A (16 * b) ∗ bigSep A fun x => said (F := F) d c x)
    ∗ bigSep (Finset.range b) (Ev (F := F) d c)
    ∗ bigSep (Finset.Ico b 9) (due (F := F) d c i))

/-- What all tiles know: the cells' invariants, and the deposits'. -/
def common (d : Dev nD) (c : Fin τ.nSC) (κ : GSem nD τ sig → ℕ) (κe : Dep → ℕ) : sProp 𝕄 :=
  iprop((bigSep Finset.univ fun j : Fin 16 => cellInv (EB (F := F)) (bRd (F := F)) (κ (cell d c j)) (cell d c j))
    ∗ (bigSep Finset.univ fun j : Fin 16 => reached (EB (F := F)) (cell d c j) 0)
    ∗ bigSep (Finset.range 9) fun b => bigSep Finset.univ fun s : Fin 16 => inv (κe (d, c, b, s)) (depBody pay (d, c, b, s)))

instance common_persistent (d : Dev nD) (c : Fin τ.nSC) (κ : GSem nD τ sig → ℕ) (κe : Dep → ℕ) : BI.Persistent (common pay d c κ κe) := by
  unfold common; infer_instance

theorem common_cell (d : Dev nD) (c : Fin τ.nSC) (κ : GSem nD τ sig → ℕ) (κe : Dep → ℕ) (j : Fin 16) :
    common pay d c κ κe ⊢ cellInv (EB (F := F)) (bRd (F := F)) (κ (cell d c j)) (cell d c j) := by
  unfold common
  iintro ⟨H, -, -⟩
  iapply (fam_get (Finset.mem_univ j) fun j : Fin 16 => cellInv (EB (F := F)) (bRd (F := F)) (κ (cell d c j)) (cell d c j)) $$ H

theorem common_reached (d : Dev nD) (c : Fin τ.nSC) (κ : GSem nD τ sig → ℕ) (κe : Dep → ℕ) (j : Fin 16) :
    common pay d c κ κe ⊢ reached (EB (F := F)) (cell d c j) 0 := by
  unfold common
  iintro ⟨-, H, -⟩
  iapply (fam_get (Finset.mem_univ j) fun j : Fin 16 => reached (EB (F := F)) (cell d c j) 0) $$ H

theorem common_dep (d : Dev nD) (c : Fin τ.nSC) (κ : GSem nD τ sig → ℕ) (κe : Dep → ℕ) {b : ℕ} (hb : b < 9) (s : Fin 16) :
    common pay d c κ κe ⊢ inv (κe (d, c, b, s)) (depBody pay (d, c, b, s)) := by
  unfold common
  iintro ⟨-, -, H⟩
  ihave H' := (fam_get (Finset.mem_range.mpr hb) fun b => bigSep Finset.univ fun s : Fin 16 => inv (κe (d, c, b, s)) (depBody pay (d, c, b, s))) $$ H
  iapply (fam_get (Finset.mem_univ s) fun s : Fin 16 => inv (κe (d, c, b, s)) (depBody pay (d, c, b, s))) $$ H'

/-- What has been said tells that everyone's deposit for meeting `b` lies ready. -/
theorem said_all (d : Dev nD) (c : Fin τ.nSC) {A : Finset (ℕ × Fin 16)} {b : ℕ} (h : (∃ x ∈ A, b < x.1) ∨ ∀ s : Fin 16, (b, s) ∈ A) :
    (bigSep A fun x => said (F := F) d c x) ⊢ Ev d c b := by
  rcases h with ⟨x, hx, hb⟩ | h
  · refine (fam_get hx _).trans ?_
    unfold said
    iintro ⟨H, -⟩
    iapply (fam_get (Finset.mem_range.mpr hb) (Ev (F := F) d c)) $$ H
  · unfold Ev
    refine bigSep_intro_persistent fun s _ => (fam_get (h s) _).trans ?_
    unfold said
    iintro ⟨-, H⟩
    iexact H

section Run

variable [FloatOps F] {α : Type} {Λ : Labels} {defs : Defs nD τ sig (Elt F) Λ} (𝒱 : Variants) (bd : Option 𝒱.V)

/-- THE MEETING: tile `i` of SparseCore `c` leaves its deposit, says so to every tile, waits for sixteen units and takes its part of everyone's
    deposit. -/
theorem wp_meet (d : Dev nD) (c : Fin τ.nSC) (i : Fin 16) {b : ℕ} (hb : b < 9) (κ : GSem nD τ sig → ℕ) (κe : Dep → ℕ)
    (hn : 16 ≤ τ.nSub) (O : CellTallies nD τ sig (HIx 9)) (W : Waits sig (HIx 9)) (hOlev : ∀ g ι, 0 < O g ι → 70 ≤ (K (F := F)).lev g ι)
    {Q : α → sProp (MT nD τ sig (HIx 9) (Elt F) ℕ UU ℕ)} {k : PUnit → Prog (TpuEff nD τ sig (Elt F) Λ (.scVector c (i.castLE le_nSub))) α} :
    iprop(common pay d c κ κe ∗ levAts (K (F := F)).L (K (F := F)).lev ∗ mst d c i b ∗ owes (V d c (i.castLE le_nSub)) (O + owed d c b) W
        ∗ bigSep Finset.univ fun j : Fin 16 => pay (d, c, b, i) j)
      ⊢ iprop((iprop(mst d c i (b + 1) ∗ owes (V d c (i.castLE le_nSub)) (O + owed d c (b + 1)) (insert (SemLoc.reg sc_bar0, some (stg b)) W)
            ∗ bigSep Finset.univ fun s : Fin 16 => pay (d, c, b, s) i)
          -∗ wp frame (wpE defs 𝒱 (V d c (i.castLE le_nSub)) bd) Set.univ (k ⟨⟩) Q)
        -∗ wp frame (wpE defs 𝒱 (V d c (i.castLE le_nSub)) bd) Set.univ (SparseCore.subcoreBarrier sc_bar0 16 hn >>= k) Q) := by
  classical
  rw [SparseCore.subcoreBarrier_bind, show (wp frame (wpE defs 𝒱 (V d c (i.castLE le_nSub)) bd) Set.univ (.op .deviceId _) Q : sProp 𝕄) = _ from wp_deviceId 𝒱 (V d c (i.castLE le_nSub)) bd Set.univ]
  rw [owed_step d c hb, ← add_assoc]
  iintro ⟨#Hcom, #Hlv, Hm, HO, Hpay⟩ Hk
  unfold mst
  icases Hm with ⟨⟨%A, %hA, Hat, #HA⟩, #Hpast, Hdue⟩
  have hIco : Finset.Ico b 9 = insert b (Finset.Ico (b + 1) 9) := (Finset.insert_Ico_succ_left_eq_Ico hb).symm
  rw [hIco]
  ihave Hdue' := (fam_uncons (show b ∉ Finset.Ico (b + 1) 9 by simp) (due (F := F) d c i)) $$ Hdue
  icases Hdue' with ⟨Hb, Hdue⟩
  unfold due
  icases Hb with ⟨Hcred, Htoks, Hdep, Hrights⟩
  -- the deposit
  ihave #Hdi := (common_dep pay d c κ κe hb i) $$ Hcom
  imod (deposit pay (κe (d, c, b, i)) (d, c, b, i)) $$ [Hdep Hpay] with #Hleft
  · isplitr; · iexact Hdi
    isplitl [Hdep] <;> iassumption
  ihave #Hsaid := (show iprop(bigSep (Finset.range b) (Ev (F := F) d c) ∗ reached (EE (F := F)) ((d, c, b, i) : Dep) 1) ⊢ said (F := F) d c (b, i) from .rfl) $$ []
  · isplitr; · iexact Hpast
    iexact Hleft
  -- the arrivals
  have hsig : ∀ l : List (Fin 16), l.Nodup →
      iprop(common pay d c κ κe ∗ said (F := F) d c (b, i)
          ∗ owes (V d c (i.castLE le_nSub)) (O + owed d c (b + 1) + ∑ j ∈ l.toFinset, tallyAt (cell d c j) (some (stg b)) 1) W
          ∗ (bigSep l.toFinset fun j : Fin 16 => dutyTok (EB (F := F)) (cell d c j) 0 (b, i))
          ∗ (owes (V d c (i.castLE le_nSub)) (O + owed d c (b + 1)) W -∗ wp frame (wpE defs 𝒱 (V d c (i.castLE le_nSub)) bd) Set.univ (.op (TpuEff.semWait sc_bar0 16) k) Q))
        ⊢ wp frame (wpE defs 𝒱 (V d c (i.castLE le_nSub)) bd) Set.univ
            (l.foldr (fun j r => .op (TpuEff.semSignal (d, .scVector c (j.castLE hn)) sc_bar0 1) fun _ => r) (.op (TpuEff.semWait sc_bar0 16) k)) Q := by
    intro l hl
    induction l with
    | nil =>
      rw [List.toFinset_nil, List.foldr_nil, Finset.sum_empty, add_zero]
      iintro ⟨-, -, HO, -, Hk⟩; iapply Hk; iexact HO
    | cons j l ih =>
      rw [List.toFinset_cons, List.foldr_cons]
      have hj : j ∉ l.toFinset := fun h => (List.nodup_cons.mp hl).1 (List.mem_toFinset.mp h)
      rw [Finset.sum_insert hj]
      iintro ⟨#Hcom, #Hsaid, HO, Htoks, Hk⟩
      ihave Ht := (fam_uncons hj fun j : Fin 16 => dutyTok (EB (F := F)) (cell d c j) 0 (b, i)) $$ Htoks
      icases Ht with ⟨Htok, Htoks⟩
      iapply (Rounds.wp_signal 𝒱 (EB (F := F)) (bRd (F := F)) (V d c (i.castLE le_nSub)) bd (dst := V d c (j.castLE hn)) (sem := sc_bar0) (r := 0) (d := (b, i)) (k' := 1)
          (κ := κ (cell d c j)) (by rw [bRd_duties₀]; simp [hb]) rfl (some (stg b))
          (O₀ := O + owed d c (b + 1) + (tallyAt (cell d c j) (some (stg b)) 1 + ∑ j ∈ l.toFinset, tallyAt (cell d c j) (some (stg b)) 1))
          (O := O + owed d c (b + 1) + ∑ j ∈ l.toFinset, tallyAt (cell d c j) (some (stg b)) 1)
          (by rw [add_comm (tallyAt _ _ _) _, ← add_assoc]) (W := W)) $$ [HO Htok]
      · isplitr; · iapply (common_cell pay d c κ κe j) $$ Hcom
        isplitl [HO]; · iexact HO
        isplitl [Htok]; · iexact Htok
        isplitr; · rw [bRd_payload]; iexact Hsaid
        iapply (common_reached pay d c κ κe j) $$ Hcom
      iintro HO
      iapply (ih (List.nodup_cons.mp hl).2)
      isplitr; · iexact Hcom
      isplitr; · iexact Hsaid
      isplitl [HO]; · iexact HO
      isplitl [Htoks] <;> iassumption
  have hsig' := hsig (List.finRange 16) (List.nodup_finRange 16)
  rw [List.toFinset_finRange] at hsig'
  iapply hsig'
  isplitr; · iexact Hcom
  isplitr; · iexact Hsaid
  isplitl [HO]; · iexact HO
  isplitl [Htoks]; · iexact Htoks
  iintro HO
  -- the wait
  ihave Hmw := (show levAts (K (F := F)).L (K (F := F)).lev ⊢ MayOwe (V d c (i.castLE le_nSub)) {((SemLoc.reg sc_bar0 : SemLoc sig), (some (stg b) : HIx 9))} (O + owed d c (b + 1)) from
    (K (F := F)).mayOwe_of_bound (thr := V d c (i.castLE le_nSub)) (8 * b + 3)
      (fun p hp => by rw [Finset.mem_singleton] at hp; subst hp; exact (lev_cell (F := F) d c i hb).le)
      (fun g ι h => by
        rw [Pi.add_apply, Finsupp.add_apply] at h
        rcases Nat.eq_zero_or_pos (O g ι) with h0 | h0
        · obtain ⟨b', j, h1, h2, rfl, rfl⟩ := owed_pos (show 0 < owed d c (b + 1) g ι by omega)
          rw [lev_cell (F := F) d c j h2]; omega
        · have := hOlev g ι h0; omega)) $$ Hlv
  iapply (Rounds.wp_wait 𝒱 (EB (F := F)) (bRd (F := F)) (V d c (i.castLE le_nSub)) bd (sm := .reg sc_bar0) (k' := 16) (κ := κ (cell d c i))
      (wpE_semWait_eq 𝒱 (V d c (i.castLE le_nSub)) bd Set.univ) (Set.mem_univ _) (cr := Finsupp.single (some (stg b)) 16)
      (O := O + owed d c (b + 1)) (W := W) {((SemLoc.reg sc_bar0 : SemLoc sig), (some (stg b) : HIx 9))} (R := 0) (m := 16 * b) (T := A)
      (by rw [Util.total_single]) (image_single_subset _ _ _)) $$ [Hcred HO Hmw Hat]
  · isplitr; · iapply (common_cell pay d c κ κe i) $$ Hcom
    isplitl [Hcred]; · iexact Hcred
    isplitl [HO]; · iexact HO
    isplitl [Hmw] <;> iassumption
  simp only [bRd_payload]
  iintro %A' ⟨%hA', HO, Hat, #Hnew⟩
  rw [bRd_duties₀, bRd_expect] at hA'
  ihave #HA2 := (fam_union A (A' \ A) fun x => said (F := F) d c x) $$ []
  · isplitr; · iexact HA
    iexact Hnew
  rw [Finset.union_sdiff_of_subset hA'.1]
  ihave #Hev := (said_all (F := F) d c (units_count hA'.2.1 (by have := hA'.2.2; omega))) $$ HA2
  -- the deposits
  ihave Hget := (fam_mono_with (s := (Finset.univ : Finset (Fin 16))) (P := iprop(common pay d c κ κe ∗ Ev (F := F) d c b))
      (Φ := fun s : Fin 16 => dutyTok (EE (F := F)) ((d, c, b, s) : Dep) 0 i) (Ψ := fun s : Fin 16 => iprop(|={Set.univ}=> pay (d, c, b, s) i))
      (fun s _ => by
        iintro ⟨⟨#Hcom, #Hev⟩, Ht⟩
        iapply (collect pay (κe (d, c, b, s)) (d, c, b, s) i)
        isplitr; · iapply (common_dep pay d c κ κe hb s) $$ Hcom
        isplitr; · unfold Ev; iapply (fam_get (Finset.mem_univ s) fun s : Fin 16 => reached (EE (F := F)) ((d, c, b, s) : Dep) 1) $$ Hev
        iexact Ht)) $$ [Hrights]
  · isplitr
    · isplitr; · iexact Hcom
      iexact Hev
    iexact Hrights
  imod (bigSep_fupd Finset.univ fun s : Fin 16 => pay (d, c, b, s) i) $$ Hget with Hgot
  iapply Hk
  rw [Finset.insert_eq, Finset.union_comm {_} W]
  isplitl [Hat Hdue]
  · isplitl [Hat]
    · iexists A'
      isplitr; · ipureintro; exact ⟨hA'.2.1, by have := hA'.2.2; omega⟩
      isplitl [Hat]; · rw [show 16 * (b + 1) = 16 * b + 16 by ring]; iexact Hat
      iexact HA2
    isplitr
    · rw [Finset.range_add_one]
      iapply (fam_cons (show b ∉ Finset.range b by simp) (Ev (F := F) d c))
      isplitr; · iexact Hev
      iexact Hpast
    iexact Hdue
  isplitl [HO]; · iexact HO
  iexact Hgot

/-- After the last meeting the tile's semaphore, every unit of it used, is at zero for good. -/
theorem mst_close (d : Dev nD) (c : Fin τ.nSC) (i : Fin 16) (κ : GSem nD τ sig → ℕ) (κe : Dep → ℕ) :
    iprop(common pay d c κ κe ∗ mst d c i 9) ⊢ (|={Set.univ}=> semVal (cell d c i) 0 : sProp 𝕄) := by
  unfold mst
  iintro ⟨#Hcom, ⟨%A, %hA, Hat, -⟩, -, -⟩
  have hsub : (bRd (F := F)).duties (cell d c i) 0 ⊆ A := by
    rw [bRd_duties₀, ← Finset.sdiff_eq_empty_iff_subset, ← Finset.card_eq_zero]
    have := hA.2; omega
  ihave #Hci := (common_cell pay d c κ κe i) $$ Hcom
  imod (Rounds.fupd_skip (EB (F := F)) (bRd (F := F)) (κ := κ (cell d c i)) (g := cell d c i) (R := 0) (m := 16 * 9) (T := A) hsub (bRd_expect _).symm (Set.mem_univ _)) $$ [Hat] with ⟨Hat, -⟩
  · isplitr; · iexact Hci
    iexact Hat
  iapply (Rounds.cell_close (EB (F := F)) (bRd (F := F)) (κ := κ (cell d c i)) (g := cell d c i) (Set.mem_univ _) (fun h => h) (R := 1) (fun r hr => bRd_duties_succ _ r hr))
  isplitr; · iexact Hci
  iexact Hat

end Run

end Deposits

end Cert.Proof.Mean

end
-- ==== Proof.TileBase.lean ====
/-
  The task's operands as its vector subcore addresses them, and the coordinates of a task.
-/
module

public import proofs.«01_k».proof.Proof.Meet

@[expose] public section

noncomputable section

namespace Cert.Proof.Mean

open Cert.Sc Cert.Sc.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] stages

variable {F : FTy → Type}

local notation "𝕄" => MT nD τ sig (HIx 9) (Elt F) ℕ UU ℕ

/-! ## Coordinates -/

abbrev cV (L : grid0.Coords) : Fin τ.nSC := (L 0).castLE hcore0
abbrev jV (L : grid0.Coords) : Fin τ.nSub := (L 1).castLE hsub0
theorem bound_one : grid0.bound 1 = 16 := rfl
/-- The tile's number. -/
abbrev jL (L : grid0.Coords) : Fin 16 := Fin.cast bound_one (L 1)
/-- The tile's thread. -/
abbrev tV (d : Dev nD) (L : grid0.Coords) : Thread nD τ := V d (cV L) (jV L)

/-! ## The operands: the losses and the result in high-bandwidth memory, the tile's scratch, the SparseCore's shared scratch -/

abbrev a2 : Memref sig .scVector .hbm S16384 .f32 := Memref.whole main_arg0_scv
abbrev a3 : Memref sig .scVector .hbm S16 .f32 := Memref.whole main_v0_scv
abbrev a4 : Memref sig .scVector .vmem S1024 .f32 := Memref.whole cc0_scratch0
abbrev a5 : Memref sig .scVector .vmem S1024 .i32 := Memref.whole cc0_scratch1
abbrev a6 : Memref sig .scVector .vmem S4096 .i32 := Memref.whole cc0_scratch2
abbrev a7 : Memref sig .scVector .vmem S256 .i32 := Memref.whole cc0_scratch3
abbrev a8 : Memref sig .scVector .vmem S16x256 .i32 := Memref.whole cc0_scratch4
abbrev a9 : Memref sig .scVector .vmem S256 .f32 := Memref.whole cc0_scratch5
abbrev a10 : Memref sig .scVector .vmem S16x256 .f32 := Memref.whole cc0_scratch6
abbrev a11 : Memref sig .scVector .vmem S16 .f32 := Memref.whole cc0_scratch7
abbrev a12 : Memref sig .scVector .shared S16x256 .i32 := Memref.whole cc0_scratch8
abbrev a13 : Memref sig .scVector .shared S16x256 .f32 := Memref.whole cc0_scratch9

/-! ## Words read out of the losses -/

variable [BitOps F]

/-- A loss's key: its bits, those of a negative loss turned round, so that the keys' order as signed words is the losses'. -/
def keyW (x : F .f32) : BitVec 32 :=
  let w : BitVec 32 := BitOps.toBits x
  if w.slt 0#32 then w ^^^ 2147483647#32 else w

end Cert.Proof.Mean

end
-- ==== Proof.Rows.lean ====
/-
  What a load of sixteen lanes reads, and what a store of sixteen lanes leaves, in buffers held whole.
-/
module

public import proofs.«01_k».proof.Proof.TileBase
public import Idealize.ShloMosaic.Lib.VecWindow

@[expose] public section

noncomputable section

namespace Cert.Proof.Mean

open Cert.Sc Cert.Sc.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] stages

variable {F : FTy → Type}

local notation "𝕄" => MT nD τ sig (HIx 9) (Elt F) ℕ UU ℕ

section Rows

variable {Val : EltTy → Type} {κ : Kind} {sp : Space} {e : EltTy}

/-- A buffer of rank one whose every word is a function of its place, loaded sixteen lanes at a time. -/
theorem load_row {N : ℕ} (v : View sig κ sp ⟨1, ![N]⟩ e) (f : v.ty.Contents Val) (g : ℕ → Val e) (hg : ∀ i, v.read Val f i = g (i 0).val)
    (off : Fin 1 → ℕ) (inb : ∀ a, off a + S16.size a ≤ (⟨1, ![N]⟩ : Shape).size a) {o : ℕ} (ho : off 0 = o) (j : S16.Idx) :
    v.readAt Val (Rect.unit (s := ⟨1, ![N]⟩) off S16.size inb).toLoadRect f j = g (o + (j 0).val) := by
  subst ho
  show v.read Val f _ = _
  rw [hg]
  show g (off 0 + 1 * (j 0).val) = _
  rw [Nat.one_mul]

/-- A buffer of rank two whose every word is a function of its place, loaded sixteen lanes of a row at a time. -/
theorem load_row₂ {M N : ℕ} (v : View sig κ sp ⟨2, ![M, N]⟩ e) (f : v.ty.Contents Val) (g : ℕ → ℕ → Val e) (hg : ∀ i, v.read Val f i = g (i 0).val (i 1).val)
    (off : Fin 2 → ℕ) (inb : ∀ a, off a + S1x16.size a ≤ (⟨2, ![M, N]⟩ : Shape).size a) {o₀ o₁ : ℕ} (h0 : off 0 = o₀) (h1 : off 1 = o₁) (j : S1x16.Idx) :
    v.readAt Val (Rect.unit (s := ⟨2, ![M, N]⟩) off S1x16.size inb).toLoadRect f j = g (o₀ + (j 0).val) (o₁ + (j 1).val) := by
  subst h0 h1
  show v.read Val f _ = _
  rw [hg]
  show g (off 0 + 1 * (j 0).val) (off 1 + 1 * (j 1).val) = _
  rw [Nat.one_mul, Nat.one_mul]

/-- The vector whose lane `l` is `w l`. -/
def lanes {α : Type} (w : ℕ → α) : S16.Idx → α := fun j => w (j 0).val

/-- A store of sixteen lanes: the lanes' words over the sixteen places, the others as they were. -/
theorem store_row {N : ℕ} (v : View sig κ sp ⟨1, ![N]⟩ e) (f : v.ty.Contents Val)
    (off : Fin 1 → ℕ) (inb : ∀ a, off a + S16.size a ≤ (⟨1, ![N]⟩ : Shape).size a) (w : S16.Idx → Val e) (u : ℕ → Val e) (hw : ∀ j, w j = u (j 0).val)
    {o : ℕ} (ho : off 0 = o) (i : (⟨1, ![N]⟩ : Shape).Idx) :
    v.read Val (v.writes Val f [⟨Rect.unit (s := ⟨1, ![N]⟩) off S16.size inb, w⟩]) i
      = if o ≤ (i 0).val ∧ (i 0).val < o + 16 then u ((i 0).val - o) else v.read Val f i := by
  subst ho
  rw [View.read_writes_cons_put v f inb w [] rfl]
  unfold VecWindow.put
  by_cases h : off 0 ≤ (i 0).val ∧ (i 0).val < off 0 + 16
  · rw [if_pos h, dif_pos (fun a => by rw [Fin.eq_zero a]; exact h)]
    exact hw _
  · rw [if_neg h, dif_neg (fun hh => h (hh 0))]
    rfl

end Rows

end Cert.Proof.Mean

end
-- ==== Proof.Counts.lean ====
/-
  The counts that the kernel's words stand for: keys that agree with a prefix, by their next eight bits.
-/
module

public import proofs.«01_k».proof.Proof.Rows

@[expose] public section

noncomputable section

namespace Cert.Proof.Mean

open Cert.Sc Cert.Sc.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] stages

variable {F : FTy → Type}

local notation "𝕄" => MT nD τ sig (HIx 9) (Elt F) ℕ UU ℕ

/-- A key agrees with the word `p` on the bits of `fm`. -/
def Hit (p fm k : BitVec 32) : Prop := (k ^^^ p) &&& fm = 0#32
instance (p fm k : BitVec 32) : Decidable (Hit p fm k) := inferInstanceAs (Decidable (_ = _))

/-- Round `r`'s eight bits of a key, those of the first round with the sign turned over, so that the buckets' order is the keys'. -/
def buck (r : ℕ) (k : BitVec 32) : BitVec 32 := ((k.sshiftRight (24 - 8 * r)) &&& 255#32) ^^^ (if r = 0 then 128#32 else 0#32)

theorem buck_lt (r : ℕ) (k : BitVec 32) : (buck r k).toNat < 256 := by
  unfold buck
  rw [BitVec.toNat_xor, BitVec.toNat_and]
  refine Nat.xor_lt_two_pow (n := 8) (lt_of_le_of_lt Nat.and_le_right (by decide)) ?_
  split_ifs <;> decide

/-- Of a tile's keys `κ`, lane `l` of the first `n` vectors: how many agree with `p` on `fm` and lie in round `r`'s bucket `b`. -/
def laneN (κ : ℕ → BitVec 32) (r : ℕ) (p fm : BitVec 32) (n l b : ℕ) : ℕ :=
  ((Finset.range n).filter fun m => Hit p fm (κ (16 * m + l)) ∧ (buck r (κ (16 * m + l))).toNat = b).card

theorem laneN_zero (κ : ℕ → BitVec 32) (r : ℕ) (p fm : BitVec 32) (l b : ℕ) : laneN κ r p fm 0 l b = 0 := rfl

theorem laneN_succ (κ : ℕ → BitVec 32) (r : ℕ) (p fm : BitVec 32) (n l b : ℕ) :
    laneN κ r p fm (n + 1) l b = laneN κ r p fm n l b + if Hit p fm (κ (16 * n + l)) ∧ (buck r (κ (16 * n + l))).toNat = b then 1 else 0 := by
  unfold laneN
  rw [Finset.range_add_one, Finset.filter_insert]
  split_ifs with h
  · rw [Finset.card_insert_of_notMem (by simp)]
  · rfl

/-- A tile's count of a bucket. -/
def tileN (κ : ℕ → BitVec 32) (r : ℕ) (p fm : BitVec 32) (b : ℕ) : ℕ := ∑ l ∈ Finset.range 16, laneN κ r p fm 64 l b

/-- All tiles' count of a bucket, of the tiles' keys `κ s`. -/
def allN (κ : ℕ → ℕ → BitVec 32) (r : ℕ) (p fm : BitVec 32) (b : ℕ) : ℕ := ∑ s ∈ Finset.range 16, tileN (κ s) r p fm b

/-- How many keys of lane `l` of the first `n` vectors lie above `p`. -/
def overN (κ : ℕ → BitVec 32) (p : BitVec 32) (n l : ℕ) : ℕ := ((Finset.range n).filter fun m => p.slt (κ (16 * m + l)) = true).card

theorem overN_succ (κ : ℕ → BitVec 32) (p : BitVec 32) (n l : ℕ) :
    overN κ p (n + 1) l = overN κ p n l + if p.slt (κ (16 * n + l)) = true then 1 else 0 := by
  unfold overN
  rw [Finset.range_add_one, Finset.filter_insert]
  split_ifs with h
  · rw [Finset.card_insert_of_notMem (by simp)]
  · rfl

/-- Words of natural numbers add. -/
theorem word_add (a b : ℕ) : BitVec.ofNat 32 a + BitVec.ofNat 32 b = BitVec.ofNat 32 (a + b) := (BitVec.ofNat_add ..).symm

/-! ## Sums of losses, in the kernel's order -/

variable [BitOps F]

/-- The zero that the sums begin from. -/
def zf : F .f32 := Scalar.ofBits .f32 0x00000000#32

/-- A loss where its key lies above `p`, zero elsewhere. -/
def kept (x : ℕ → F .f32) (κ : ℕ → BitVec 32) (p : BitVec 32) (n : ℕ) : F .f32 := if p.slt (κ n) = true then x n else zf

/-- The sum of the kept losses of lane `l` of the first `n` vectors. -/
def laneF (x : ℕ → F .f32) (κ : ℕ → BitVec 32) (p : BitVec 32) (l : ℕ) : ℕ → F .f32
  | 0 => zf
  | n + 1 => FloatOps.addf (laneF x κ p l n) (kept x κ p (16 * n + l))

/-- The sum of the first `n` rows' lane `l`. -/
def rowsF (st : ℕ → ℕ → F .f32) (l : ℕ) : ℕ → F .f32
  | 0 => zf
  | n + 1 => FloatOps.addf (rowsF st l n) (st n l)

end Cert.Proof.Mean

end
-- ==== Proof.Radix.lean ====
/-
  The radix selection on words: four rounds of eight bits, each from the counts of the keys that agree with the bits so far.
-/
module

public import proofs.«01_k».proof.Proof.Counts

@[expose] public section

noncomputable section

namespace Cert.Proof.Mean

open Cert.Sc Cert.Sc.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] stages

variable {F : FTy → Type}

local notation "𝕄" => MT nD τ sig (HIx 9) (Elt F) ℕ UU ℕ

/-! ## Keys as unsigned numbers -/

/-- A signed key as an unsigned number in the same order. -/
def ord (k : BitVec 32) : ℕ := (k ^^^ 2147483648#32).toNat

theorem ord_eq (k : BitVec 32) : ord k = if k.toNat < 2147483648 then k.toNat + 2147483648 else k.toNat - 2147483648 := by
  have hk : k.toNat < 2 ^ 32 := k.isLt
  have h1 : ord k / 2 ^ 31 = k.toNat / 2 ^ 31 ^^^ 1 := by
    unfold ord; rw [BitVec.toNat_xor, Nat.xor_div_two_pow]; rfl
  have h2 : ord k % 2 ^ 31 = k.toNat % 2 ^ 31 := by
    unfold ord; rw [BitVec.toNat_xor, Nat.xor_mod_two_pow]; exact Nat.xor_zero _
  split_ifs with h
  · rw [show k.toNat / 2 ^ 31 = 0 by omega] at h1
    have : (0 ^^^ 1 : ℕ) = 1 := by decide
    omega
  · rw [show k.toNat / 2 ^ 31 = 1 by omega] at h1
    have : (1 ^^^ 1 : ℕ) = 0 := by decide
    omega

theorem ord_lt (k : BitVec 32) : ord k < 2 ^ 32 := (k ^^^ 2147483648#32).isLt

theorem ord_inj {a b : BitVec 32} (h : ord a = ord b) : a = b := by
  have ha : a.toNat < 2 ^ 32 := a.isLt
  have hb : b.toNat < 2 ^ 32 := b.isLt
  rw [ord_eq, ord_eq] at h
  apply BitVec.eq_of_toNat_eq
  split_ifs at h <;> omega

theorem slt_iff (a b : BitVec 32) : a.slt b = true ↔ ord a < ord b := by
  have ha : a.toNat < 2 ^ 32 := a.isLt
  have hb : b.toNat < 2 ^ 32 := b.isLt
  rw [BitVec.slt_iff_toInt_lt, BitVec.toInt_eq_toNat_cond, BitVec.toInt_eq_toNat_cond, ord_eq, ord_eq]
  split_ifs <;> omega

theorem bits255 : ∀ i : Fin 32, (255#32).getLsbD i.val = decide (i.val < 8) := by decide

theorem low_shift {s : ℕ} (hs : s ≤ 24) (k : BitVec 32) : (k.sshiftRight s) &&& 255#32 = (k >>> s) &&& 255#32 := by
  refine BitVec.eq_of_getLsbD_eq fun i hi => ?_
  rw [BitVec.getLsbD_and, BitVec.getLsbD_and, bits255 ⟨i, hi⟩]
  by_cases h8 : i < 8
  · have h : s + i < 32 := by omega
    have h' : ¬ 32 ≤ i := by omega
    simp [BitVec.getLsbD_sshiftRight, h, h']
  · simp [h8]

/-- A round's eight bits of a key as an unsigned number. -/
theorem buck_eq {r : ℕ} (hr : r < 4) (k : BitVec 32) : (buck r k).toNat = ord k / 2 ^ (24 - 8 * r) % 256 := by
  have hk : k.toNat < 2 ^ 32 := k.isLt
  have e' : ((k >>> (24 - 8 * r)) &&& 255#32).toNat = k.toNat / 2 ^ (24 - 8 * r) % 256 := by
    rw [BitVec.toNat_and, BitVec.toNat_ushiftRight, Nat.shiftRight_eq_div_pow]
    exact Nat.and_two_pow_sub_one_eq_mod _ 8
  unfold buck
  rw [low_shift (by omega), BitVec.toNat_xor, e']
  have hx : ∀ n < 256, n ^^^ 128 = if n < 128 then n + 128 else n - 128 := by decide
  rw [ord_eq]
  interval_cases r
  · show (k.toNat / 2 ^ 24 % 256) ^^^ 128 = _
    rw [hx _ (Nat.mod_lt _ (by decide))]
    simp only [Nat.reduceMul, Nat.reduceSub, Nat.reducePow]
    split_ifs <;> omega
  all_goals
    show (_ ^^^ 0) = _
    rw [Nat.xor_zero]
    simp only [Nat.reduceMul, Nat.reduceSub, Nat.reducePow]
    split_ifs <;> omega

/-! ## A round -/

/-- The bits that a round's bucket turns over. -/
def turn (r : ℕ) : BitVec 32 := if r = 0 then 128#32 else 0#32

/-- Eight bits of a bucket back at their place in the key. -/
def place (r b : ℕ) : BitVec 32 := ((BitVec.ofNat 32 b ^^^ turn r) &&& 255#32) <<< (24 - 8 * r)

/-- A round's eight bits. -/
def field (r : ℕ) : BitVec 32 := 255#32 <<< (24 - 8 * r)

theorem zero_iff (x : BitVec 32) : x = 0#32 ↔ ∀ i < 32, x.getLsbD i = false :=
  ⟨fun h i _ => by rw [h]; exact BitVec.getLsbD_zero, fun h => BitVec.eq_of_getLsbD_eq fun i hi => by rw [h i hi]; exact BitVec.getLsbD_zero.symm⟩

theorem hit_shift {s : ℕ} (hs : s ≤ 24) (k w : BitVec 32) (hw : w &&& 255#32 = w) :
    (k ^^^ w <<< s) &&& (255#32 <<< s) = 0#32 ↔ (k >>> s) &&& 255#32 = w := by
  rw [zero_iff]
  constructor
  · intro h
    refine BitVec.eq_of_getLsbD_eq fun j hj => ?_
    rw [← hw, BitVec.getLsbD_and, BitVec.getLsbD_and, bits255 ⟨j, hj⟩]
    by_cases h8 : j < 8
    · have := h (s + j) (by omega)
      have h' : s + j < 32 := by omega
      have h'' := bits255 ⟨j, hj⟩
      simp only [BitVec.getLsbD_and, BitVec.getLsbD_xor, BitVec.getLsbD_shiftLeft, h', Nat.add_sub_cancel_left, h'', h8] at this
      simp only [BitVec.getLsbD_ushiftRight, h8]
      revert this
      have : ¬ s + j < s := by omega
      simp only [this]
      cases k.getLsbD (s + j) <;> cases w.getLsbD j <;> simp
    · simp [h8]
  · intro h i hi
    simp only [BitVec.getLsbD_and, BitVec.getLsbD_xor, BitVec.getLsbD_shiftLeft, hi]
    by_cases hsi : i < s
    · simp [hsi]
    · have h'' := bits255 ⟨i - s, by omega⟩
      simp only [h'']
      by_cases h8 : i - s < 8
      · have := congrArg (fun x => x.getLsbD (i - s)) h
        simp only [BitVec.getLsbD_and, h'', BitVec.getLsbD_ushiftRight, Nat.add_sub_cancel' (not_lt.mp hsi), h8] at this
        rw [← this]
        simp [hsi]
      · simp [h8]

theorem hit_place {r b : ℕ} (hr : r < 4) (hb : b < 256) (k : BitVec 32) : (k ^^^ place r b) &&& field r = 0#32 ↔ (buck r k).toNat = b := by
  have ht : turn r &&& 255#32 = turn r := by unfold turn; split_ifs <;> decide
  have hb' : BitVec.ofNat 32 b &&& 255#32 = BitVec.ofNat 32 b := by
    apply BitVec.eq_of_toNat_eq
    rw [BitVec.toNat_and, BitVec.toNat_ofNat]
    refine (Nat.and_two_pow_sub_one_eq_mod _ 8).trans ?_
    omega
  unfold place field
  rw [hit_shift (by omega) _ _ (by rw [BitVec.and_assoc, BitVec.and_self]), ← low_shift (by omega)]
  have e : (BitVec.ofNat 32 b ^^^ turn r) &&& 255#32 = BitVec.ofNat 32 b ^^^ turn r := by
    refine BitVec.eq_of_getLsbD_eq fun i hi => ?_
    have h1 := congrArg (fun x => x.getLsbD i) ht
    have h2 := congrArg (fun x => x.getLsbD i) hb'
    simp only [BitVec.getLsbD_and, BitVec.getLsbD_xor] at h1 h2 ⊢
    revert h1 h2
    cases (255#32).getLsbD i <;> cases (turn r).getLsbD i <;> cases (BitVec.ofNat 32 b).getLsbD i <;> simp
  rw [e]
  have hbk : buck r k = ((k.sshiftRight (24 - 8 * r)) &&& 255#32) ^^^ turn r := rfl
  constructor
  · intro h
    rw [hbk, h, BitVec.xor_assoc, BitVec.xor_self, BitVec.xor_zero, BitVec.toNat_ofNat]
    omega
  · intro h
    have : buck r k = BitVec.ofNat 32 b := BitVec.eq_of_toNat_eq (by rw [h, BitVec.toNat_ofNat]; omega)
    rw [← this, hbk, BitVec.xor_assoc, BitVec.xor_self, BitVec.xor_zero]

theorem hit_or (p fm y z k : BitVec 32) (h1 : p &&& z = 0#32) (h2 : y &&& fm = 0#32) :
    Hit (p ||| y) (fm ||| z) k ↔ Hit p fm k ∧ (k ^^^ y) &&& z = 0#32 := by
  unfold Hit
  rw [zero_iff] at *
  rw [zero_iff] at *
  rw [zero_iff, ← forall_and]
  refine forall_congr' fun i => ?_
  by_cases hi : i < 32
  · have a := h1 i hi
    have b := h2 i hi
    simp only [BitVec.getLsbD_and, BitVec.getLsbD_xor, BitVec.getLsbD_or, hi] at a b ⊢
    revert a b
    cases k.getLsbD i <;> cases p.getLsbD i <;> cases y.getLsbD i <;> cases z.getLsbD i <;> cases fm.getLsbD i <;> simp
  · simp [hi]

/-- The bits chosen before a round. -/
def mask : ℕ → BitVec 32
  | 0 => 0#32
  | r + 1 => mask r ||| field r

theorem mask_field : ∀ r < 4, mask r &&& field r = 0#32 := by decide

theorem place_field (r b : ℕ) : place r b &&& field r = place r b := by
  unfold place field
  rw [← BitVec.shiftLeft_and_distrib, BitVec.and_assoc, BitVec.and_self]

theorem within_or {p fm y z : BitVec 32} (h1 : p &&& fm = p) (h2 : y &&& z = y) : (p ||| y) &&& (fm ||| z) = p ||| y := by
  refine BitVec.eq_of_getLsbD_eq fun i hi => ?_
  have a := congrArg (fun x => x.getLsbD i) h1
  have b := congrArg (fun x => x.getLsbD i) h2
  simp only [BitVec.getLsbD_and, BitVec.getLsbD_or] at a b ⊢
  revert a b
  cases p.getLsbD i <;> cases y.getLsbD i <;> cases z.getLsbD i <;> cases fm.getLsbD i <;> simp

/-- A round's choice: the keys that agree with it are those that agreed before and lie in the bucket. -/
theorem hit_succ {r b : ℕ} (hr : r < 4) (hb : b < 256) {p : BitVec 32} (hp : p &&& mask r = p) (k : BitVec 32) :
    Hit (p ||| place r b) (mask (r + 1)) k ↔ Hit p (mask r) k ∧ (buck r k).toNat = b := by
  refine (hit_or p (mask r) (place r b) (field r) k ?_ ?_).trans (and_congr_right fun _ => hit_place hr hb k)
  · rw [← hp, BitVec.and_assoc, mask_field r hr, BitVec.and_zero]
  · rw [← place_field, BitVec.and_assoc, BitVec.and_comm (field r), mask_field r hr, BitVec.and_zero]

/-! ## Counting -/

/-- The counts of the buckets above one. -/
def above (G : ℕ → ℕ) (b : ℕ) : ℕ := ∑ b' ∈ Finset.Ico (b + 1) 256, G b'

/-- The bucket that holds the `kr`-th key from above. -/
def Pick (G : ℕ → ℕ) (kr b : ℕ) : Prop := b < 256 ∧ above G b < kr ∧ kr ≤ above G b + G b

theorem above_pred (G : ℕ → ℕ) {b : ℕ} (hb : b + 1 < 256) : above G b = above G (b + 1) + G (b + 1) := by
  unfold above
  rw [Finset.sum_eq_sum_Ico_succ_bot hb]
  omega

/-- There is such a bucket. -/
theorem exists_pick (G : ℕ → ℕ) {kr : ℕ} (h0 : 0 < kr) (h : kr ≤ ∑ b ∈ Finset.range 256, G b) : ∃ b, Pick G kr b := by
  by_contra hn
  have key : ∀ n < 256, above G (255 - n) + G (255 - n) < kr := by
    intro n
    induction n with
    | zero =>
      intro _
      by_contra hc
      refine hn ⟨255, by decide, ?_, not_lt.mp hc⟩
      unfold above; simpa using h0
    | succ n ih =>
      intro hn'
      have := ih (by omega)
      by_contra hc
      refine hn ⟨255 - (n + 1), by omega, ?_, not_lt.mp hc⟩
      rw [above_pred G (by omega), show 255 - (n + 1) + 1 = 255 - n by omega]
      exact this
  have := key 255 (by decide)
  have e : above G 0 + G 0 = ∑ b ∈ Finset.range 256, G b := by
    unfold above
    rw [Finset.range_eq_Ico, Finset.sum_eq_sum_Ico_succ_bot (by decide : 0 < 256)]
    omega
  simp only [Nat.sub_self] at this
  omega

/-- A round's bucket. -/
def pick (G : ℕ → ℕ) (kr : ℕ) : ℕ := Nat.findGreatest (fun b => kr ≤ above G b + G b) 255

/-- The state after some rounds: the bits chosen, and the rank still to go. -/
def radix (κ : ℕ → ℕ → BitVec 32) : ℕ → BitVec 32 × ℕ
  | 0 => (0#32, 11468)
  | r + 1 =>
    let G := allN κ r (radix κ r).1 (mask r)
    let b := pick G (radix κ r).2
    ((radix κ r).1 ||| place r b, (radix κ r).2 - above G b)

/-- The key the rounds choose. -/
def tauKey (κ : ℕ → ℕ → BitVec 32) : BitVec 32 := (radix κ 4).1

theorem pick_spec (G : ℕ → ℕ) {kr : ℕ} (h0 : 0 < kr) (h : kr ≤ ∑ b ∈ Finset.range 256, G b) : Pick G kr (pick G kr) := by
  obtain ⟨b, hb, h1, h2⟩ := exists_pick G h0 h
  have hle : pick G kr ≤ 255 := Nat.findGreatest_le _
  have hs : kr ≤ above G (pick G kr) + G (pick G kr) := Nat.findGreatest_spec (P := fun b => kr ≤ above G b + G b) (by omega) h2
  refine ⟨by omega, ?_, hs⟩
  by_contra hc
  rcases Nat.lt_or_ge (pick G kr) 255 with h | h
  · rw [not_lt, above_pred G (by omega)] at hc
    have : pick G kr + 1 ≤ pick G kr := Nat.le_findGreatest (P := fun b => kr ≤ above G b + G b) (by omega) hc
    omega
  · have : pick G kr = 255 := by omega
    rw [this] at hc
    apply hc
    unfold above
    simpa using h0

/-- The number of keys (a tile's are the keys `1024 s …`) with a property. -/
def countN (κ : ℕ → ℕ → BitVec 32) (P : BitVec 32 → Prop) [DecidablePred P] : ℕ :=
  ∑ s ∈ Finset.range 16, ∑ l ∈ Finset.range 16, ((Finset.range 64).filter fun m => P (κ s (16 * m + l))).card

theorem allN_eq (κ : ℕ → ℕ → BitVec 32) (r : ℕ) (p fm : BitVec 32) (b : ℕ) :
    allN κ r p fm b = countN κ (fun k => Hit p fm k ∧ (buck r k).toNat = b) := rfl

theorem countN_congr (κ : ℕ → ℕ → BitVec 32) {P Q : BitVec 32 → Prop} [DecidablePred P] [DecidablePred Q] (h : ∀ k, P k ↔ Q k) : countN κ P = countN κ Q := by
  unfold countN
  simp only [h]

theorem countN_or (κ : ℕ → ℕ → BitVec 32) {P Q : BitVec 32 → Prop} [DecidablePred P] [DecidablePred Q] (h : ∀ k, P k → ¬ Q k) :
    countN κ (fun k => P k ∨ Q k) = countN κ P + countN κ Q := by
  unfold countN
  rw [← Finset.sum_add_distrib]
  refine Finset.sum_congr rfl fun s _ => ?_
  rw [← Finset.sum_add_distrib]
  refine Finset.sum_congr rfl fun l _ => ?_
  rw [Finset.filter_or, Finset.card_union_of_disjoint]
  exact Finset.disjoint_filter.mpr fun m _ hp hq => h _ hp hq

theorem countN_sum (κ : ℕ → ℕ → BitVec 32) (P : BitVec 32 → Prop) [DecidablePred P] (f : BitVec 32 → ℕ) (S : Finset ℕ) :
    countN κ (fun k => P k ∧ f k ∈ S) = ∑ b ∈ S, countN κ (fun k => P k ∧ f k = b) := by
  unfold countN
  rw [Finset.sum_comm (s := S)]
  refine Finset.sum_congr rfl fun s _ => ?_
  rw [Finset.sum_comm (s := S)]
  refine Finset.sum_congr rfl fun l _ => ?_
  rw [Finset.card_eq_sum_card_fiberwise (f := fun m => f (κ s (16 * m + l))) (t := S) (fun m hm => (Finset.mem_filter.mp hm).2.2)]
  refine Finset.sum_congr rfl fun b hb => ?_
  congr 1
  ext m
  simp only [Finset.mem_filter]
  constructor
  · rintro ⟨⟨h1, h2, -⟩, h3⟩; exact ⟨h1, h2, h3⟩
  · rintro ⟨h1, h2, h3⟩; exact ⟨⟨h1, h2, h3 ▸ hb⟩, h3⟩

theorem countN_true (κ : ℕ → ℕ → BitVec 32) : countN κ (fun _ => True) = 16384 := by
  unfold countN
  simp

/-- What holds before round `r`. -/
structure Inv (κ : ℕ → ℕ → BitVec 32) (r : ℕ) (p : BitVec 32) (kr : ℕ) : Prop where
  within : p &&& mask r = p
  pre : ∃ q, (∀ k, Hit p (mask r) k ↔ ord k / 2 ^ (32 - 8 * r) = q) ∧ countN κ (fun k => q < ord k / 2 ^ (32 - 8 * r)) + kr = 11468
  pos : 0 < kr
  le : kr ≤ countN κ (fun k => Hit p (mask r) k)

theorem inv_zero (κ : ℕ → ℕ → BitVec 32) : Inv κ 0 0#32 11468 where
  within := by decide
  pre := by
    have h : ∀ k, ord k / 2 ^ (32 - 8 * 0) = 0 := fun k => Nat.div_eq_of_lt (ord_lt k)
    have hm : ∀ k : BitVec 32, (k ^^^ 0#32) &&& mask 0 = 0#32 := fun k => BitVec.and_zero
    refine ⟨0, fun k => ⟨fun _ => h k, fun _ => hm k⟩, ?_⟩
    rw [countN_congr κ (Q := fun _ => False) (fun k => by rw [h k]; simp)]
    unfold countN
    simp
  pos := by decide
  le := by
    have hm : ∀ k : BitVec 32, (k ^^^ 0#32) &&& mask 0 = 0#32 := fun k => BitVec.and_zero
    rw [countN_congr κ (P := fun k => Hit 0#32 (mask 0) k) (Q := fun _ => True) (fun k => ⟨fun _ => trivial, fun _ => hm k⟩), countN_true]
    decide

theorem sum_all (κ : ℕ → ℕ → BitVec 32) (r : ℕ) (p fm : BitVec 32) : ∑ b ∈ Finset.range 256, allN κ r p fm b = countN κ (fun k => Hit p fm k) := by
  refine (countN_sum κ (fun k => Hit p fm k) (fun k => (buck r k).toNat) (Finset.range 256)).symm.trans ?_
  exact countN_congr κ fun k => ⟨fun h => h.1, fun h => ⟨h, Finset.mem_range.mpr (buck_lt r k)⟩⟩

theorem Inv.pick {κ : ℕ → ℕ → BitVec 32} {r : ℕ} {p : BitVec 32} {kr : ℕ} (h : Inv κ r p kr) :
    Pick (allN κ r p (mask r)) kr (pick (allN κ r p (mask r)) kr) :=
  pick_spec _ h.pos (by rw [sum_all]; exact h.le)

theorem Inv.succ {κ : ℕ → ℕ → BitVec 32} {r : ℕ} (hr : r < 4) {p : BitVec 32} {kr b : ℕ} (h : Inv κ r p kr) (hb : Pick (allN κ r p (mask r)) kr b) :
    Inv κ (r + 1) (p ||| place r b) (kr - above (allN κ r p (mask r)) b) := by
  obtain ⟨hb, h1, h2⟩ := hb
  obtain ⟨q, hq, hc⟩ := h.pre
  have hdiv : ∀ k, ord k / 2 ^ (32 - 8 * (r + 1)) = 256 * (ord k / 2 ^ (32 - 8 * r)) + (buck r k).toNat := fun k => by
    rw [buck_eq hr, show 32 - 8 * (r + 1) = 24 - 8 * r by omega, show 32 - 8 * r = 24 - 8 * r + 8 by omega, Nat.pow_add, ← Nat.div_div_eq_div_mul]
    omega
  have hab : countN κ (fun k => Hit p (mask r) k ∧ (buck r k).toNat ∈ Finset.Ico (b + 1) 256) = above (allN κ r p (mask r)) b :=
    countN_sum κ (fun k => Hit p (mask r) k) (fun k => (buck r k).toNat) (Finset.Ico (b + 1) 256)
  refine ⟨within_or h.within (place_field r b), ⟨256 * q + b, fun k => ?_, ?_⟩, by omega, ?_⟩
  · rw [hit_succ hr hb h.within, hq, hdiv]
    have := buck_lt r k
    omega
  · have e : countN κ (fun k => 256 * q + b < ord k / 2 ^ (32 - 8 * (r + 1)))
        = countN κ (fun k => q < ord k / 2 ^ (32 - 8 * r)) + above (allN κ r p (mask r)) b := by
      rw [← hab, ← countN_or]
      · refine countN_congr κ fun k => ?_
        rw [hdiv, hq, Finset.mem_Ico]
        have := buck_lt r k
        omega
      · intro k hk hh
        have := (hq k).mp hh.1
        omega
    rw [e]
    omega
  · rw [countN_congr κ (Q := fun k => Hit p (mask r) k ∧ (buck r k).toNat = b) (fun k => hit_succ hr hb h.within k), ← allN_eq]
    omega

theorem inv_radix (κ : ℕ → ℕ → BitVec 32) : ∀ r ≤ 4, Inv κ r (radix κ r).1 (radix κ r).2 := by
  intro r
  induction r with
  | zero => exact fun _ => inv_zero κ
  | succ r ih =>
    intro hr
    exact (ih (by omega)).succ (by omega) (ih (by omega)).pick

/-- The key chosen: fewer than 11468 keys lie above it, and 11468 at least not below. -/
theorem tauKey_spec (κ : ℕ → ℕ → BitVec 32) :
    countN κ (fun k => (tauKey κ).slt k = true) < 11468 ∧ 11468 ≤ countN κ (fun k => (tauKey κ).slt k = true) + countN κ (fun k => k = tauKey κ) := by
  have h := inv_radix κ 4 le_rfl
  obtain ⟨q, hq, hc⟩ := h.pre
  have hm : ∀ k, Hit (tauKey κ) (mask 4) k ↔ k = tauKey κ := fun k => by
    have e : mask 4 = BitVec.allOnes 32 := by decide
    unfold Hit
    rw [e, BitVec.and_allOnes, BitVec.xor_eq_zero_iff]
  have hq' : ord (tauKey κ) = q := by
    have := (hq (tauKey κ)).mp ((hm _).mpr rfl)
    simpa using this
  have e : countN κ (fun k => q < ord k / 2 ^ (32 - 8 * 4)) = countN κ (fun k => (tauKey κ).slt k = true) :=
    countN_congr κ fun k => by rw [slt_iff, hq']; simp
  have e' : countN κ (fun k => Hit (radix κ 4).1 (mask 4) k) = countN κ (fun k => k = tauKey κ) := countN_congr κ hm
  have hp := h.pos
  have hl := h.le
  rw [e'] at hl
  rw [e] at hc
  omega

end Cert.Proof.Mean

end
-- ==== Proof.Cut.lean ====
/-
  One part of a task's program run at a time.
-/
module

public import proofs.«01_k».proof.Proof.Rows
public import Idealize.ShloMosaic.Lib.Pointwise.Index

@[expose] public section

noncomputable section

namespace Cert.Proof.Mean

open Cert.Sc Cert.Sc.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] stages

variable {F : FTy → Type}

local notation "𝕄" => MT nD τ sig (HIx 9) (Elt F) ℕ UU ℕ

variable [BitOps F]
variable (d : Dev nD) (L : grid0.Coords)

/-- A program's beginning, run by what is known of it. -/
theorem cut {α β : Type} {p : Prog (TpuEff nD τ sig (Elt F) Λ₀ (tV d L).2) α} {P : sProp 𝕄} {Φ : α → sProp 𝕄} {k : α → Prog (TpuEff nD τ sig (Elt F) Λ₀ (tV d L).2) β}
    {Q : β → sProp 𝕄} (h : P ⊢ wp frame (wpE (defs₀ (F := F)) 𝒱₀ (tV d L) none) Set.univ p Φ) :
    P ⊢ iprop((∀ a, Φ a -∗ wp frame (wpE (defs₀ (F := F)) 𝒱₀ (tV d L) none) Set.univ (k a) Q)
      -∗ wp frame (wpE (defs₀ (F := F)) 𝒱₀ (tV d L) none) Set.univ (p >>= k) Q) := by
  rw [wp_bind]
  exact h.trans (wp_wand _ _ _)

/-- The place of a lane in a row of one. -/
def rowIdx (j : S16.Idx) : S1x16.Idx := ix2 (⟨0, Nat.one_pos⟩ : Fin 1) (show Fin 16 from j 0)

theorem row_place (h : S16.numel = S1x16.numel) (j : S16.Idx) : Shape.reshapeEquiv (s := S1x16) (s' := S16) h.symm j = rowIdx j := by
  refine (Shape.reshapeEquiv_cons_one (d := ![16]) h.symm j).trans (funext fun a => ?_)
  match a with
  | ⟨0, _⟩ => rfl
  | ⟨1, _⟩ => rfl

end Cert.Proof.Mean

end
-- ==== Proof.Stats.lean ====
/-
  A tile's sums: the kept losses and their count, lane by lane and then over the lanes; and all tiles' sums.
-/
module

public import proofs.«01_k».proof.Proof.Counts
public import proofs.«01_k».proof.Proof.Cut

@[expose] public section

noncomputable section

namespace Cert.Proof.Mean

open Cert.Sc Cert.Sc.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] stages

variable {F : FTy → Type}

local notation "𝕄" => MT nD τ sig (HIx 9) (Elt F) ℕ UU ℕ

variable [BitOps F]

theorem pay33_apply (p : BitVec 32) (v : Vec F S16 .i32) (j : S16.Idx) : k0_pay33 (F := F) p v j = 1 ↔ p.slt (v j) = true := by
  show BitVec.ofBool ((0#32 + p).slt (v j)) = 1 ↔ _
  rw [BitVec.zero_add]
  cases p.slt (v j) <;> decide

theorem pay34_apply (p : BitVec 32) (acc : FVec F S16 .f32) (v : Vec F S16 .i32) (y : Vec F S16 .f32) (j : S16.Idx) :
    k0_pay34 p acc v y j = FloatOps.addf (acc j) (if p.slt (v j) = true then y j else zf) := by
  show FloatOps.addf (acc j) (if k0_pay33 (F := F) p v j = 1 then y j else zf) = _
  congr 1
  by_cases h : p.slt (v j) = true
  · rw [if_pos h, if_pos ((pay33_apply p v j).mpr h)]
  · rw [if_neg h, if_neg (fun e => h ((pay33_apply p v j).mp e))]

theorem pay35_apply (p : BitVec 32) (acc : IVec S16 32) (v : Vec F S16 .i32) (j : S16.Idx) :
    k0_pay35 (F := F) p acc v j = acc j + BitVec.ofNat 32 (if p.slt (v j) = true then 1 else 0) := by
  show acc j + (if k0_pay33 (F := F) p v j = 1 then 1#32 else 0#32) = _
  congr 1
  by_cases h : p.slt (v j) = true
  · rw [if_pos h, if_pos ((pay33_apply p v j).mpr h)]
  · rw [if_neg h, if_neg (fun e => h ((pay33_apply p v j).mp e))]

/-- The lanes of a vector of floats added up in their order. -/
def foldL (g : ℕ → F .f32) : F .f32 := (List.range 15).foldl (fun a l => Scalar.addf a (g (l + 1))) (g 0)

/-- A vector's lane, by its number. -/
def laneAt {α : Type} (v : S16.Idx → α) (l : ℕ) (hl : l < 16 := by decide) : α := v (ix1 ⟨l, hl⟩)

theorem pay42_apply (v : FVec F S16 .f32) (g : ℕ → F .f32) (hg : ∀ j : S16.Idx, v j = g (j 0).val) (j : S16.Idx) :
    k0_pay42 v (k0_pay36 v) (k0_pay37 v) (k0_pay38 v) (k0_pay39 v) (k0_pay40 v) j = FloatOps.addf zf (foldL g) := by
  obtain rfl : v = fun j => g (j 0).val := funext hg
  rfl

theorem pay47_apply (p : BitVec 32) (v : FVec F S16 .f32) (g : ℕ → F .f32) (hg : ∀ j : S16.Idx, v j = g (j 0).val) (j : S16.Idx) :
    k0_pay47 (k0_pay31 p) v j = FloatOps.addf (FloatOps.addf zf (g 0))
      (FloatOps.mulf (FloatOps.ofBits .f32 (if p.slt 0#32 = true then p ^^^ 2147483647#32 else p))
        (FloatOps.subf (FloatOps.addf zf (Scalar.ofBits .f32 0x46333000#32)) (FloatOps.addf zf (g 1)))) := by
  obtain rfl : v = fun j => g (j 0).val := funext hg
  have e : ∀ q : BitVec 32, (if IntOp.cmpi .slt q 0#32 = 1 then q ^^^ 2147483647#32 else q) = if q.slt 0#32 = true then q ^^^ 2147483647#32 else q := fun q => by
    unfold IntOp.cmpi
    by_cases h : q.slt 0#32 <;> simp [h]
  have e' := e (0#32 + p)
  rw [BitVec.zero_add] at e'
  rw [← e']
  show FloatOps.addf (FloatOps.addf zf (g 0))
      (FloatOps.mulf (FloatOps.ofBits .f32 (if IntOp.cmpi .slt (0#32 + p) 0#32 = 1 then (0#32 + p) ^^^ 2147483647#32 else 0#32 + p))
        (FloatOps.subf (FloatOps.addf zf (Scalar.ofBits .f32 0x46333000#32)) (FloatOps.addf zf (g 1)))) = _
  rw [BitVec.zero_add]

/-- A scan of a vector of words, lane after lane. -/
theorem scan_apply (kind : ScanKind) (v : IVec S16 32) (g : ℕ → BitVec 32) (hg : ∀ j : S16.Idx, v j = g (j 0).val) (i : S16.Idx) :
    scan kind v i = (List.range (i 0).val).foldl (fun r k => kind.step r (g (k + 1))) (g 0) := by
  obtain rfl : v = fun j => g (j 0).val := funext hg
  have e : ∀ n : Fin 16, ((List.finRange 16).filter fun k => decide (0 < k.val ∧ k.val ≤ n.val)).map Fin.val = (List.range n.val).map (· + 1) := by decide
  have h := e (i 0)
  have h' : ∀ (l : List (Fin 16)) (a : BitVec 32), l.foldl (fun r k => kind.step r (g k.val)) a = (l.map Fin.val).foldl (fun r k => kind.step r (g k)) a := fun l a => by
    rw [List.foldl_map]
  have h'' : ∀ (l : List ℕ) (a : BitVec 32), (l.map (· + 1)).foldl (fun r k => kind.step r (g k)) a = l.foldl (fun r k => kind.step r (g (k + 1))) a := fun l a => by
    rw [List.foldl_map]
  refine (h' _ _).trans ?_
  rw [← h'', ← h]
  rfl

/-- The running sums of a vector of words, of the numbers they stand for. -/
theorem scan_sum_apply (v : IVec S16 32) (g : ℕ → ℕ) (hg : ∀ j : S16.Idx, v j = BitVec.ofNat 32 (g (j 0).val)) (i : S16.Idx) :
    scan .sum v i = BitVec.ofNat 32 (∑ l ∈ Finset.range ((i 0).val + 1), g l) := by
  rw [scan_apply .sum v (fun l => BitVec.ofNat 32 (g l)) hg i]
  generalize (i 0).val = n
  induction n with
  | zero => simp
  | succ n ih =>
    rw [List.range_succ, List.foldl_append, ih, Finset.sum_range_succ _ (n + 1), ← word_add]
    rfl

theorem pay43_apply (v3 : IVec S16 32) (hv3 : ∀ j : S16.Idx, v3 j = BitVec.ofNat 32 (j 0).val) (c : IVec S16 32) (g : ℕ → ℕ) (hg : ∀ j : S16.Idx, c j = BitVec.ofNat 32 (g (j 0).val)) (j : S16.Idx) :
    k0_pay43 (F := F) v3 c j = if (j 0).val = 1 then FloatOps.addf zf (Scalar.sitofp .f32 (BitVec.ofNat 32 (∑ l ∈ Finset.range 16, g l))) else zf := by
  have hj : (j 0).val < 16 := (j 0).isLt
  show (if IntOp.cmpi .eq (v3 j) 1#32 = 1 then FloatOps.addf zf (Scalar.sitofp .f32 (scan .sum c (ix1 ⟨15, by decide⟩))) else zf) = _
  rw [hv3, scan_sum_apply c g hg]
  have : IntOp.cmpi .eq (BitVec.ofNat 32 (j 0).val) 1#32 = 1 ↔ (j 0).val = 1 := by
    unfold IntOp.cmpi
    generalize (j 0).val = n at hj
    interval_cases n <;> decide
  by_cases h : (j 0).val = 1
  · rw [if_pos h, if_pos (this.mpr h)]
    rfl
  · rw [if_neg h, if_neg (fun e => h (this.mp e))]

/-- A tile's statistics: lane 0 the sum, lane 1 the count, zeros beside. -/
def statF (t : F .f32) (n : ℕ) (j : ℕ) : F .f32 :=
  if j = 0 then FloatOps.addf zf t else if j = 1 then FloatOps.addf zf (Scalar.sitofp .f32 (BitVec.ofNat 32 n)) else zf

theorem pay44_apply (v3 : IVec S16 32) (hv3 : ∀ j : S16.Idx, v3 j = BitVec.ofNat 32 (j 0).val) (t : F .f32) (n : ℕ) (a b : FVec F S16 .f32)
    (ha : ∀ j, a j = FloatOps.addf zf t) (hb : ∀ j, b j = if (j 0).val = 1 then FloatOps.addf zf (Scalar.sitofp .f32 (BitVec.ofNat 32 n)) else zf) (j : S16.Idx) :
    k0_pay44 (k0_pay41 v3) a b j = statF t n (j 0).val := by
  have hj : (j 0).val < 16 := (j 0).isLt
  show (if IntOp.cmpi .eq (v3 j) 0#32 = 1 then a j else b j) = _
  rw [hv3, ha, hb]
  have : IntOp.cmpi .eq (BitVec.ofNat 32 (j 0).val) 0#32 = 1 ↔ (j 0).val = 0 := by
    unfold IntOp.cmpi
    generalize (j 0).val = n at hj
    interval_cases n <;> decide
  unfold statF
  by_cases h : (j 0).val = 0
  · rw [if_pos h, if_pos (this.mpr h)]
  · rw [if_neg h, if_neg (fun e => h (this.mp e))]

theorem pay46_apply (acc : FVec F S16 .f32) (v : Vec F S1x16 .f32) (j : S16.Idx) : k0_pay46 acc v j = FloatOps.addf (acc j) (v (rowIdx j)) := by
  show FloatOps.addf (acc j) (v (Shape.reshapeEquiv _ j)) = _
  rw [row_place rfl j]

variable (d : Dev nD) (L : grid0.Coords)

/-- The tallying loop: lane by lane the sum of the losses whose keys lie above `p`, and their number. -/
theorem wp_tally (h1 : k0_cond1 L = 1#1) (p : BitVec 32) (x : ℕ → F .f32) (κ : ℕ → BitVec 32) :
    iprop(((a4).view.loc (tV d L) ↦{fullShare} fun n => x (n 0).val) ∗ ((a5).view.loc (tV d L) ↦{fullShare} fun n => κ (n 0).val))
      ⊢ (wp frame (wpE (defs₀ (F := F)) 𝒱₀ (tV d L) none) Set.univ
          (Scf.Loop.for k0_t9_loop (k0_t9_ok L h1) (k0_pay32 (F := F), k0_pay28) (k0_t9_body L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5 (BitVec.ofNat 32 (L 1).val) h1 p))
          fun acc => iprop(((a4).view.loc (tV d L) ↦{fullShare} fun n => x (n 0).val) ∗ ((a5).view.loc (tV d L) ↦{fullShare} fun n => κ (n 0).val)
            ∗ ⌜(∀ j : S16.Idx, acc.1 j = laneF x κ p (j 0).val 64) ∧ ∀ j : S16.Idx, acc.2 j = BitVec.ofNat 32 (overN κ p 64 (j 0).val)⌝) : sProp 𝕄) := by
  unfold k0_t9_body
  iintro ⟨H4, H5⟩
  sl_for (fun n (acc : FVec F S16 .f32 × IVec S16 32) => iprop(((a4).view.loc (tV d L) ↦{fullShare} fun n => x (n 0).val) ∗ ((a5).view.loc (tV d L) ↦{fullShare} fun n => κ (n 0).val)
    ∗ ⌜(∀ j : S16.Idx, acc.1 j = laneF x κ p (j 0).val n) ∧ ∀ j : S16.Idx, acc.2 j = BitVec.ofNat 32 (overN κ p n (j 0).val)⌝)) $$ [H4 H5]
  case region =>
    intro n acc
    iintro ⟨H4, H5, %hacc⟩
    sl_exec
    sl_step
    isplitl [H4]; · iexact H4
    isplitl [H5]; · iexact H5
    ipureintro
    have hκ : ∀ j : S16.Idx, _ = κ (16 * n.val + (j 0).val) := fun j =>
      load_row (Val := Elt F) a5.view (fun n => κ (n 0).val) κ (fun _ => rfl) (k0_off11 n) (k0_off11_inb L n h1) (congrFun (k0_off11_eq n) 0) j
    have hx : ∀ j : S16.Idx, _ = x (16 * n.val + (j 0).val) := fun j =>
      load_row (Val := Elt F) a4.view (fun n => x (n 0).val) x (fun _ => rfl) (k0_off11 n) (k0_off11_inb L n h1) (congrFun (k0_off11_eq n) 0) j
    constructor
    · intro j
      refine (pay34_apply p _ _ _ j).trans ?_
      rw [hacc.1]
      refine congrArg (FloatOps.addf (laneF x κ p (j 0).val n.val)) ?_
      unfold kept
      rw [← hκ j, ← hx j]
      rfl
    · intro j
      refine (pay35_apply (F := F) p _ _ j).trans ?_
      rw [hacc.2, word_add, overN_succ, ← hκ j]
      rfl
  isplitl [H4 H5]
  · isplitl [H4]; · iexact H4
    isplitl [H5]; · iexact H5
    ipureintro
    exact ⟨fun j => rfl, fun j => rfl⟩
  iintro %acc H
  iexact H

/-- The totalling loop: the tiles' statistics added up, in the first sixteen columns. -/
theorem wp_total (h1 : k0_cond1 L = 1#1) (p : BitVec 32) (v71 : IVec S16 1) (v74 v81 : FVec F S16 .f32) (st : ℕ → ℕ → F .f32) (f : Buf (Elt F) ((tV d L).loc cc0_scratch6))
    (hf : ∀ n : S16x256.Idx, (n 1).val < 16 → f n = st (n 0).val (n 1).val) :
    ((a10).view.loc (tV d L) ↦{fullShare} f)
      ⊢ (wp frame (wpE (defs₀ (F := F)) 𝒱₀ (tV d L) none) Set.univ
          (Scf.Loop.for k0_t10_loop (k0_t10_ok L h1) (k0_pay45 (F := F)) (k0_t10_body L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5 h1 (k0_pay31 p) v71 v74 v81))
          fun acc => iprop(((a10).view.loc (tV d L) ↦{fullShare} f) ∗ ⌜∀ j : S16.Idx, acc j = rowsF st (j 0).val 16⌝) : sProp 𝕄) := by
  unfold k0_t10_body
  iintro H10
  sl_for (fun n (acc : FVec F S16 .f32) => iprop(((a10).view.loc (tV d L) ↦{fullShare} f) ∗ ⌜∀ j : S16.Idx, acc j = rowsF st (j 0).val n⌝)) $$ [H10]
  case region =>
    intro n acc
    iintro ⟨H10, %hacc⟩
    sl_exec
    sl_step
    isplitl [H10]; · iexact H10
    ipureintro
    intro j
    refine (pay46_apply _ _ j).trans ?_
    rw [hacc]
    refine congrArg (FloatOps.addf (rowsF st (j 0).val n.val)) ?_
    have e0 := congrFun (k0_off13_eq n) 0
    have e1 := congrFun (k0_off13_eq n) 1
    have hj : (j 0).val < 16 := (j 0).isLt
    have h0 : k0_off13 n 0 + 1 * 0 = n.val := by rw [e0]; rfl
    have h1 : k0_off13 n 1 + 1 * (j 0).val = (j 0).val := by rw [e1]; exact (Nat.zero_add _).trans (Nat.one_mul _)
    refine (hf _ ?_).trans ?_
    · show k0_off13 n 1 + 1 * (j 0).val < 16
      omega
    · show st (k0_off13 n 0 + 1 * 0) (k0_off13 n 1 + 1 * (j 0).val) = _
      rw [h0, h1]
  isplitl [H10]
  · isplitl [H10]; · iexact H10
    ipureintro
    exact fun j => rfl
  iintro %acc H
  iexact H

end Cert.Proof.Mean

end
-- ==== Proof.Pick.lean ====
/-
  A round's bucket, as the kernel finds it: the chunk by the chunks' totals, the lane by a scan of the chunk.
-/
module

public import proofs.«01_k».proof.Proof.Radix
public import proofs.«01_k».proof.Proof.Stats

@[expose] public section

noncomputable section

namespace Cert.Proof.Mean

open Cert.Sc Cert.Sc.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] stages

variable {F : FTy → Type}

local notation "𝕄" => MT nD τ sig (HIx 9) (Elt F) ℕ UU ℕ

/-! ## Numbers -/

/-- The counts of the buckets from one upwards. -/
def tail (G : ℕ → ℕ) (x : ℕ) : ℕ := ∑ b ∈ Finset.Ico x 256, G b

/-- The count of chunk `c`'s sixteen buckets. -/
def tot (G : ℕ → ℕ) (c : ℕ) : ℕ := ∑ l ∈ Finset.range 16, G (16 * c + l)

theorem tail_split (G : ℕ → ℕ) {x y : ℕ} (h : x ≤ y) (hy : y ≤ 256) : tail G x = (∑ b ∈ Finset.Ico x y, G b) + tail G y :=
  (Finset.sum_Ico_consecutive G h hy).symm

theorem tail_tot (G : ℕ → ℕ) {c : ℕ} (hc : c < 16) : tail G (16 * c) = tot G c + tail G (16 * c + 16) := by
  rw [tail_split G (y := 16 * c + 16) (by omega) (by omega)]
  congr 1
  rw [Finset.sum_Ico_eq_sum_range, Nat.add_sub_cancel_left]
  rfl

theorem tail_lane (G : ℕ → ℕ) {c j : ℕ} (hc : c < 16) (hj : j ≤ 16) : tail G (16 * c + j) = (∑ l ∈ Finset.Ico j 16, G (16 * c + l)) + tail G (16 * c + 16) := by
  rw [tail_split G (y := 16 * c + 16) (by omega) (by omega), Finset.sum_Ico_add G]
  rw [Nat.add_comm j, Nat.add_comm 16 (16 * c)]

theorem tail_anti (G : ℕ → ℕ) {x y : ℕ} (h : x ≤ y) : tail G y ≤ tail G x :=
  Finset.sum_le_sum_of_subset (Finset.Ico_subset_Ico_left h)

theorem tail_succ (G : ℕ → ℕ) {b : ℕ} (hb : b < 256) : tail G b = G b + above G b := Finset.sum_eq_sum_Ico_succ_bot hb G

theorem Pick.iff {G : ℕ → ℕ} {kr b : ℕ} (h : Pick G kr b) (x : ℕ) : kr ≤ tail G x ↔ x ≤ b := by
  obtain ⟨hb, h1, h2⟩ := h
  constructor
  · intro hx
    by_contra hc
    have : tail G x ≤ above G b := tail_anti G (by omega)
    omega
  · intro hx
    have := tail_anti G hx
    rw [tail_succ G hb] at this
    omega

theorem slt_small {a b : ℕ} (ha : a < 2 ^ 31) (hb : b < 2 ^ 31) : (BitVec.ofNat 32 a).slt (BitVec.ofNat 32 b) = true ↔ a < b := by
  rw [BitVec.slt_iff_toInt_lt, BitVec.toInt_eq_toNat_cond, BitVec.toInt_eq_toNat_cond, BitVec.toNat_ofNat, BitVec.toNat_ofNat]
  split_ifs <;> omega

theorem sle_small {a b : ℕ} (ha : a < 2 ^ 31) (hb : b < 2 ^ 31) : (BitVec.ofNat 32 a).sle (BitVec.ofNat 32 b) = true ↔ a ≤ b := by
  rw [BitVec.sle_iff_toInt_le, BitVec.toInt_eq_toNat_cond, BitVec.toInt_eq_toNat_cond, BitVec.toNat_ofNat, BitVec.toNat_ofNat]
  split_ifs <;> omega

/-! ## The chunk -/

/-- The totals above a chunk, as the kernel adds them up. -/
def sufW (T : ℕ → BitVec 32) : ℕ → BitVec 32
  | 0 => 0#32
  | n + 1 => Scalar.addi (sufW T n) (T (15 - n))

/-- Whether chunk `j` holds the `kr`-th key. -/
def condW (T : ℕ → BitVec 32) (kr : BitVec 32) (j : ℕ) : BitVec 1 :=
  Scalar.andi (Scalar.cmpi .slt (sufW T (15 - j)) kr) (Scalar.cmpi .sge (Scalar.addi (sufW T (15 - j)) (T j)) kr)

/-- A choice by conditions, the last that holds. -/
def chain (c : ℕ → BitVec 1) (a : ℕ → BitVec 32) : ℕ → BitVec 32
  | 0 => 0#32
  | n + 1 => Scalar.select (c n) (a n) (chain c a n)

theorem chain_eq {c : ℕ → BitVec 1} {β : ℕ} (a : ℕ → BitVec 32) (n : ℕ) (h : ∀ j < n, c j = 1 ↔ j = β) : chain c a n = if β < n then a β else 0#32 := by
  induction n with
  | zero => rfl
  | succ n ih =>
    show (if c n = 1 then a n else chain c a n) = _
    rw [ih fun j hj => h j (by omega)]
    by_cases e : n = β
    · rw [if_pos ((h n (by omega)).mpr e), if_pos (by omega), e]
    · rw [if_neg (fun hc => e ((h n (by omega)).mp hc))]
      by_cases h' : β < n
      · rw [if_pos h', if_pos (by omega)]
      · rw [if_neg h', if_neg (by omega)]

variable (G : ℕ → ℕ)

theorem sufW_eq (n : ℕ) (hn : n ≤ 15) : sufW (fun c => BitVec.ofNat 32 (tot G c)) n = BitVec.ofNat 32 (tail G (256 - 16 * n)) := by
  induction n with
  | zero => unfold tail; simp [sufW]
  | succ n ih =>
    show sufW _ n + BitVec.ofNat 32 (tot G (15 - n)) = _
    rw [ih (by omega), word_add, show 256 - 16 * (n + 1) = 16 * (15 - n) by omega, tail_tot G (by omega), show 16 * (15 - n) + 16 = 256 - 16 * n by omega, Nat.add_comm]

theorem condW_eq {kr b : ℕ} (h : Pick G kr b) (hG : tail G 0 ≤ 16384) (j : ℕ) (hj : j < 16) :
    condW (fun c => BitVec.ofNat 32 (tot G c)) (BitVec.ofNat 32 kr) j = 1 ↔ j = b / 16 := by
  have hkr : kr ≤ tail G 0 := (h.iff 0).mpr (by omega)
  have e1 : tail G (16 * j + 16) ≤ tail G 0 := tail_anti G (by omega)
  have e2 : tail G (16 * j) ≤ tail G 0 := tail_anti G (by omega)
  have hs := sufW_eq G (15 - j) (by omega)
  rw [show 256 - 16 * (15 - j) = 16 * j + 16 by omega] at hs
  unfold condW
  rw [hs]
  show (BitVec.ofBool ((BitVec.ofNat 32 (tail G (16 * j + 16))).slt (BitVec.ofNat 32 kr)))
    &&& (BitVec.ofBool ((BitVec.ofNat 32 kr).sle (BitVec.ofNat 32 (tail G (16 * j + 16)) + BitVec.ofNat 32 (tot G j)))) = 1 ↔ _
  rw [word_add, Nat.add_comm (tail G (16 * j + 16)) (tot G j), ← tail_tot G hj]
  have i1 := slt_small (a := tail G (16 * j + 16)) (b := kr) (by omega) (by omega)
  have i2 := sle_small (a := kr) (b := tail G (16 * j)) (by omega) (by omega)
  have p1 := h.iff (16 * j + 16)
  have p2 := h.iff (16 * j)
  have : ∀ x y : Bool, BitVec.ofBool x &&& BitVec.ofBool y = 1 ↔ (x = true ∧ y = true) := by decide
  rw [this, i1, i2]
  omega

/-! ## The lane -/

/-- A chunk of sixteen counts. -/
def vecG (c : ℕ) : IVec S16 32 := fun j => BitVec.ofNat 32 (G (16 * c + (j 0).val))

theorem last_sum (v : IVec S16 32) (g : ℕ → ℕ) (hg : ∀ j : S16.Idx, v j = BitVec.ofNat 32 (g (j 0).val)) :
    extractAt ![15] (scan .sum v) inpos_S16_p15 = BitVec.ofNat 32 (∑ l ∈ Finset.range 16, g l) := by
  have e := scan_sum_apply v g hg (fun a => ⟨(![15] : Fin 1 → ℕ) a, inpos_S16_p15 a⟩)
  have e15 : ((fun a => ⟨(![15] : Fin 1 → ℕ) a, inpos_S16_p15 a⟩ : S16.Idx) 0).val + 1 = 16 := rfl
  rw [e15] at e
  exact e

theorem scan_vecG (c : ℕ) : extractAt ![15] (scan .sum (vecG G c)) inpos_S16_p15 = BitVec.ofNat 32 (tot G c) :=
  last_sum (vecG G c) (fun l => G (16 * c + l)) (fun _ => rfl)

variable {F : FTy → Type} [BitOps F]

theorem suffix_word (g : ℕ → ℕ) {n : ℕ} (hn : n < 16) :
    BitVec.ofNat 32 (∑ l ∈ Finset.range 16, g l) - BitVec.ofNat 32 (∑ l ∈ Finset.range (n + 1), g l) + BitVec.ofNat 32 (g n) = BitVec.ofNat 32 (∑ l ∈ Finset.Ico n 16, g l) := by
  have e : (∑ l ∈ Finset.range 16, g l) = (∑ l ∈ Finset.Ico (n + 1) 16, g l) + ∑ l ∈ Finset.range (n + 1), g l := by
    rw [Nat.add_comm]; exact (Finset.sum_range_add_sum_Ico _ (by omega)).symm
  have e' : (∑ l ∈ Finset.Ico n 16, g l) = (∑ l ∈ Finset.Ico (n + 1) 16, g l) + g n := by
    rw [Nat.add_comm]; exact Finset.sum_eq_sum_Ico_succ_bot hn _
  rw [e, e', ← word_add, BitVec.add_sub_cancel, word_add]

theorem pay22_shape (v : IVec S16 32) (j : S16.Idx) : k0_pay22 (F := F) v j = extractAt ![15] (scan .sum v) inpos_S16_p15 - scan .sum v j + v j := by
  unfold k0_pay22
  generalize scan .sum v = s
  rfl

theorem pay22_apply (c : ℕ) (j : S16.Idx) : k0_pay22 (F := F) (vecG G c) j = BitVec.ofNat 32 (∑ l ∈ Finset.Ico (j 0).val 16, G (16 * c + l)) := by
  have hj : (j 0).val < 16 := (j 0).isLt
  have e1 := scan_vecG G c
  have e2 := scan_sum_apply (vecG G c) (fun l => G (16 * c + l)) (fun _ => rfl) j
  rw [pay22_shape, e1, e2]
  unfold tot
  generalize hg : (fun l => G (16 * c + l)) = g
  have eg : vecG G c j = BitVec.ofNat 32 (g (j 0).val) := by rw [← hg]; rfl
  rw [eg]
  exact suffix_word g hj

theorem iota_apply (j : S16.Idx) : iota .scVector S16 32 [0] iota_S16_d0_w32_scVector j = BitVec.ofNat 32 (j 0).val := by
  show BitVec.ofNat 32 (0 * 16 + (j 0).val) = _
  rw [Nat.zero_mul, Nat.zero_add]

/-- The kernel's lane numbers. -/
def lanesI : IVec S16 32 := iota .scVector S16 32 [0] iota_S16_d0_w32_scVector

variable {G}
variable {kr b : ℕ} (h : Pick G kr b) (hG : tail G 0 ≤ 16384)
include h hG

theorem pay23_lane (j : S16.Idx) :
    (if IntOp.cmpi .sge (k0_pay22 (F := F) (vecG G (b / 16)) j + (0#32 + BitVec.ofNat 32 (tail G (16 * (b / 16) + 16)))) (0#32 + BitVec.ofNat 32 kr) = 1 then lanesI j else 4294967295#32)
      = if (j 0).val ≤ b % 16 then BitVec.ofNat 32 (j 0).val else 4294967295#32 := by
  have hb := h.1
  have hj : (j 0).val < 16 := (j 0).isLt
  have hkr : kr ≤ tail G 0 := (h.iff 0).mpr (by omega)
  have e2 : tail G (16 * (b / 16) + (j 0).val) ≤ tail G 0 := tail_anti G (by omega)
  rw [pay22_apply, BitVec.zero_add, BitVec.zero_add, word_add, ← tail_lane G (by omega) (by omega)]
  have i2 := sle_small (a := kr) (b := tail G (16 * (b / 16) + (j 0).val)) (by omega) (by omega)
  have p2 := h.iff (16 * (b / 16) + (j 0).val)
  have e : IntOp.cmpi .sge (BitVec.ofNat 32 (tail G (16 * (b / 16) + (j 0).val))) (BitVec.ofNat 32 kr) = 1 ↔ (j 0).val ≤ b % 16 := by
    show BitVec.ofBool ((BitVec.ofNat 32 kr).sle (BitVec.ofNat 32 (tail G (16 * (b / 16) + (j 0).val)))) = 1 ↔ _
    have : ∀ x : Bool, BitVec.ofBool x = 1 ↔ x = true := by decide
    rw [this, i2]
    omega
  by_cases hc : (j 0).val ≤ b % 16
  · rw [if_pos hc, if_pos (e.mpr hc)]; exact iota_apply j
  · rw [if_neg hc, if_neg (fun hh => hc (e.mp hh))]

theorem pay23_last : extractAt ![15] (k0_pay23 (F := F) lanesI (BitVec.ofNat 32 kr) (BitVec.ofNat 32 (tail G (16 * (b / 16) + 16))) (vecG G (b / 16))) inpos_S16_p15 = BitVec.ofNat 32 (b % 16) := by
  have hm : b % 16 < 16 := Nat.mod_lt _ (by decide)
  refine (congrArg (· ^^^ 2147483648#32) (scan_apply .max _ (fun l => (if l ≤ b % 16 then BitVec.ofNat 32 l else 4294967295#32) ^^^ 2147483648#32)
    (fun j => congrArg (· ^^^ 2147483648#32) (pay23_lane (F := F) h hG j)) (ix1 ⟨15, by decide⟩))).trans ?_
  have : ∀ m < 16, ((List.range 15).foldl (fun r k => ScanKind.max.step r ((if k + 1 ≤ m then BitVec.ofNat 32 (k + 1) else 4294967295#32) ^^^ 2147483648#32))
    ((if 0 ≤ m then BitVec.ofNat 32 0 else 4294967295#32) ^^^ 2147483648#32)) ^^^ 2147483648#32 = BitVec.ofNat 32 m := by decide
  exact this _ hm

theorem pay24_lane (j : S16.Idx) : k0_pay24 (F := F) lanesI (BitVec.ofNat 32 kr) (BitVec.ofNat 32 (tail G (16 * (b / 16) + 16))) (vecG G (b / 16)) j = 1 ↔ (j 0).val = b % 16 := by
  have hj : (j 0).val < 16 := (j 0).isLt
  have hm : b % 16 < 16 := Nat.mod_lt _ (by decide)
  show IntOp.cmpi .eq (lanesI j) (0#32 + extractAt ![15] (k0_pay23 (F := F) lanesI (BitVec.ofNat 32 kr) (BitVec.ofNat 32 (tail G (16 * (b / 16) + 16))) (vecG G (b / 16))) inpos_S16_p15) = 1 ↔ _
  rw [pay23_last h hG, BitVec.zero_add]
  have e : lanesI j = BitVec.ofNat 32 (j 0).val := iota_apply j
  rw [e]
  have : ∀ m < 16, ∀ n < 16, IntOp.cmpi .eq (BitVec.ofNat 32 m) (BitVec.ofNat 32 n) = 1 ↔ m = n := by decide
  exact this _ hj _ hm

theorem pay25_last : extractAt ![15] (k0_pay25 (F := F) lanesI (BitVec.ofNat 32 kr) (BitVec.ofNat 32 (tail G (16 * (b / 16) + 16))) (vecG G (b / 16))) inpos_S16_p15 = BitVec.ofNat 32 (G b) := by
  have hm : b % 16 < 16 := Nat.mod_lt _ (by decide)
  refine (last_sum _ (fun l => if l = b % 16 then G (16 * (b / 16) + l) else 0) (fun j => ?_)).trans ?_
  · show (if k0_pay24 (F := F) lanesI _ _ _ j = 1 then BitVec.ofNat 32 (G (16 * (b / 16) + (j 0).val)) else 0#32) = _
    by_cases hc : (j 0).val = b % 16
    · rw [if_pos ((pay24_lane (F := F) h hG j).mpr hc), if_pos hc]
    · rw [if_neg (fun hh => hc ((pay24_lane (F := F) h hG j).mp hh)), if_neg hc]
  · rw [Finset.sum_ite_eq' (Finset.range 16) (b % 16) (fun l => G (16 * (b / 16) + l)), if_pos (Finset.mem_range.mpr hm), Nat.div_add_mod]

theorem pay26_last : extractAt ![15] (k0_pay26 (F := F) lanesI (BitVec.ofNat 32 kr) (BitVec.ofNat 32 (tail G (16 * (b / 16) + 16))) (vecG G (b / 16))) inpos_S16_p15
    = BitVec.ofNat 32 (∑ l ∈ Finset.Ico (b % 16) 16, G (16 * (b / 16) + l)) := by
  have hm : b % 16 < 16 := Nat.mod_lt _ (by decide)
  refine (last_sum _ (fun l => if l = b % 16 then ∑ l' ∈ Finset.Ico l 16, G (16 * (b / 16) + l') else 0) (fun j => ?_)).trans ?_
  · show (if k0_pay24 (F := F) lanesI _ _ _ j = 1 then k0_pay22 (F := F) (vecG G (b / 16)) j else 0#32) = _
    by_cases hc : (j 0).val = b % 16
    · rw [if_pos ((pay24_lane (F := F) h hG j).mpr hc), if_pos hc, pay22_apply]
    · rw [if_neg (fun hh => hc ((pay24_lane (F := F) h hG j).mp hh)), if_neg hc]
  · rw [Finset.sum_ite_eq' (Finset.range 16) (b % 16) (fun l => ∑ l' ∈ Finset.Ico l 16, G (16 * (b / 16) + l')), if_pos (Finset.mem_range.mpr hm)]

omit hG in
/-- The rank's loss: the counts above the bucket. -/
theorem above_word : BitVec.ofNat 32 (tail G (16 * (b / 16) + 16)) + BitVec.ofNat 32 (∑ l ∈ Finset.Ico (b % 16) 16, G (16 * (b / 16) + l)) - BitVec.ofNat 32 (G b)
    = BitVec.ofNat 32 (above G b) := by
  have hb := h.1
  have e : tail G (16 * (b / 16) + 16) + (∑ l ∈ Finset.Ico (b % 16) 16, G (16 * (b / 16) + l)) = above G b + G b := by
    have := tail_lane G (c := b / 16) (j := b % 16) (by omega) (by omega)
    rw [Nat.div_add_mod, tail_succ G hb] at this
    omega
  rw [word_add, e, ← word_add, BitVec.add_sub_cancel]

end Cert.Proof.Mean

end
-- ==== Proof.Collect.lean ====
/-
  A tile's histogram: the lanes' histograms added up, and the tiles' histograms added up.
-/
module

public import proofs.«01_k».proof.Proof.Counts
public import proofs.«01_k».proof.Proof.Cut

@[expose] public section

noncomputable section

namespace Cert.Proof.Mean

open Cert.Sc Cert.Sc.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] stages

variable {F : FTy → Type}

local notation "𝕄" => MT nD τ sig (HIx 9) (Elt F) ℕ UU ℕ

variable [BitOps F]

theorem pay4_apply (acc v : Vec F S16 .i32) (j : S16.Idx) : k0_pay4 (F := F) acc v j = acc j + v j := rfl

theorem pay5_apply (acc : IVec S16 32) (v : Vec F S1x16 .i32) (j : S16.Idx) : k0_pay5 (F := F) acc v j = acc j + v (rowIdx j) := by
  show acc j + v (Shape.reshapeEquiv _ j) = _
  rw [row_place rfl j]

variable (d : Dev nD) (L : grid0.Coords)

/-- What the collecting loop has left of the lanes' histograms: zeros in the chunks gone by and in chunk `c`'s first `n` lanes. -/
def left (h : ℕ → ℕ → ℕ) (c n : ℕ) : Buf (Elt F) ((tV d L).loc cc0_scratch2) := fun i =>
  if (i 0).val % 256 / 16 < c ∨ ((i 0).val % 256 / 16 = c ∧ (i 0).val / 256 < n) then (0#32 : BitVec 32) else BitVec.ofNat 32 (h ((i 0).val / 256) ((i 0).val % 256))

/-- One chunk's lanes added up, and zeroed. -/
theorem wp_chunk (h1 : k0_cond1 L = 1#1) (r : Fin k0_t3_loop.trips) (p fm : BitVec 32) (h : ℕ → ℕ → ℕ) (c : Fin k0_t5_loop.trips) :
    ((a6).view.loc (tV d L) ↦{fullShare} left (F := F) d L h c.val 0)
      ⊢ (wp frame (wpE (defs₀ (F := F)) 𝒱₀ (tV d L) none) Set.univ
          (Scf.Loop.for k0_t6_loop (k0_t6_ok L h1) k0_pay28 (k0_t6_body L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5 h1 k0_pay27 k0_pay28 k0_pay29 0#32 1#32 r p fm c))
          fun acc => iprop(((a6).view.loc (tV d L) ↦{fullShare} left (F := F) d L h c.val 16)
            ∗ ⌜∀ j : S16.Idx, acc j = BitVec.ofNat 32 (∑ l ∈ Finset.range 16, h l (16 * c.val + (j 0).val))⌝) : sProp 𝕄) := by
  have hc : c.val < 16 := c.isLt
  unfold k0_t6_body
  iintro H6
  sl_for (fun n (acc : IVec S16 32) => iprop(((a6).view.loc (tV d L) ↦{fullShare} left (F := F) d L h c.val n)
    ∗ ⌜∀ j : S16.Idx, acc j = BitVec.ofNat 32 (∑ l ∈ Finset.range n, h l (16 * c.val + (j 0).val))⌝)) $$ [H6]
  case region =>
    intro n acc
    have hn : n.val < 16 := n.isLt
    iintro ⟨H6, %hacc⟩
    sl_exec
    sl_step
    isplitl [H6]
    · iapply (Entails.of_eq (congrArg (fun f => ((a6).view.loc (tV d L) ↦{fullShare} f : sProp 𝕄)) (funext fun i => ?_))) $$ H6
      have hi : (i 0).val < 4096 := (i 0).isLt
      refine (store_row (Val := Elt F) (o := 256 * n.val + 16 * c.val) a6.view _ _ _ _ (fun _ => 0#32) (fun j => rfl) (congrFun (k0_off5_eq c n) 0) i).trans ?_
      show (if 256 * n.val + 16 * c.val ≤ (i 0).val ∧ (i 0).val < 256 * n.val + 16 * c.val + 16 then _ else left (F := F) d L h c.val n.val i) = _
      unfold left
      split_ifs <;> first | rfl | (exfalso; omega)
    ipureintro
    intro j
    have hj : (j 0).val < 16 := (j 0).isLt
    refine (pay4_apply (F := F) _ _ j).trans ?_
    rw [hacc, Finset.sum_range_succ, ← word_add]
    refine congrArg₂ (· + ·) rfl ?_
    refine (load_row (Val := Elt F) a6.view _ (fun i => if i % 256 / 16 < c.val ∨ (i % 256 / 16 = c.val ∧ i / 256 < n.val) then (0#32 : BitVec 32) else BitVec.ofNat 32 (h (i / 256) (i % 256)))
      (fun _ => rfl) _ _ (congrFun (k0_off5_eq c n) 0) j).trans ?_
    have e1 : (256 * n.val + 16 * c.val + (j 0).val) / 256 = n.val := by omega
    have e2 : (256 * n.val + 16 * c.val + (j 0).val) % 256 = 16 * c.val + (j 0).val := by omega
    show (if (256 * n.val + 16 * c.val + (j 0).val) % 256 / 16 < c.val ∨ ((256 * n.val + 16 * c.val + (j 0).val) % 256 / 16 = c.val ∧ (256 * n.val + 16 * c.val + (j 0).val) / 256 < n.val) then (0#32 : BitVec 32)
      else BitVec.ofNat 32 (h ((256 * n.val + 16 * c.val + (j 0).val) / 256) ((256 * n.val + 16 * c.val + (j 0).val) % 256))) = _
    rw [e1, e2, if_neg (by omega)]
  isplitl [H6]
  · isplitl [H6]; · iexact H6
    ipureintro
    intro j
    rfl
  iintro %acc H
  iexact H

/-- The collecting loop: from the lanes' histograms their sum, the lanes' zeroed for the next round. -/
theorem wp_collect (h1 : k0_cond1 L = 1#1) (r : Fin k0_t3_loop.trips) (p fm : BitVec 32) (h : ℕ → ℕ → ℕ) (f7 : Buf (Elt F) ((tV d L).loc cc0_scratch3)) :
    iprop(((a6).view.loc (tV d L) ↦{fullShare} fun n => BitVec.ofNat 32 (h ((n 0).val / 256) ((n 0).val % 256))) ∗ ((a7).view.loc (tV d L) ↦{fullShare} f7))
      ⊢ (wp frame (wpE (defs₀ (F := F)) 𝒱₀ (tV d L) none) Set.univ
          (Scf.Loop.for k0_t5_loop (k0_t5_ok L h1) ⟨⟩ (k0_t5_body L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5 h1 k0_pay27 k0_pay28 k0_pay29 0#32 1#32 r p fm))
          fun _ => iprop(((a6).view.loc (tV d L) ↦{fullShare} fun _ => (0#32 : BitVec 32))
            ∗ ((a7).view.loc (tV d L) ↦{fullShare} fun n => BitVec.ofNat 32 (∑ l ∈ Finset.range 16, h l (n 0).val))) : sProp 𝕄) := by
  unfold k0_t5_body
  iintro ⟨H6, H7⟩
  sl_for (fun k (_ : Unit) => iprop(((a6).view.loc (tV d L) ↦{fullShare} left (F := F) d L h k 0)
    ∗ ∃ f, ((a7).view.loc (tV d L) ↦{fullShare} f) ∗ ⌜∀ n : S256.Idx, (n 0).val < 16 * k → f n = BitVec.ofNat 32 (∑ l ∈ Finset.range 16, h l (n 0).val)⌝)) $$ [H6 H7]
  case region =>
    intro k acc
    have hk : k.val < 16 := k.isLt
    iintro ⟨H6, %f, H7, %hf⟩
    sl_exec
    iapply (cut (F := F) d L (wp_chunk (F := F) d L h1 r p fm h k)) $$ [H6]
    · iexact H6
    iintro %acc' ⟨H6, %hacc⟩
    sl_exec
    sl_step
    isplitl [H6]
    · iapply (Entails.of_eq (congrArg (fun f => ((a6).view.loc (tV d L) ↦{fullShare} f : sProp 𝕄)) (funext fun i => ?_))) $$ H6
      have hi : (i 0).val < 4096 := (i 0).isLt
      unfold left
      split_ifs <;> first | rfl | (exfalso; omega)
    iexists _
    isplitl [H7]; · iexact H7
    ipureintro
    intro n hn
    refine (store_row (Val := Elt F) (o := 16 * k.val) a7.view f _ _ _ (fun j => BitVec.ofNat 32 (∑ l ∈ Finset.range 16, h l (16 * k.val + j))) (fun j => hacc j) (congrFun (k0_off6_eq k) 0) n).trans ?_
    show (if 16 * k.val ≤ (n 0).val ∧ (n 0).val < 16 * k.val + 16 then _ else f n) = _
    split_ifs with hh
    · rw [Nat.add_sub_cancel' hh.1]
    · exact hf n (by omega)
  isplitl [H6 H7]
  · isplitl [H6]
    · iapply (Entails.of_eq (congrArg (fun f => ((a6).view.loc (tV d L) ↦{fullShare} f : sProp 𝕄)) (funext fun i => ?_))) $$ H6
      unfold left
      rw [if_neg (by omega)]
    iexists _
    isplitl [H7]; · iexact H7
    ipureintro; intro n hn; omega
  iintro %_ ⟨H6, %f, H7, %hf⟩
  obtain rfl : f = fun n => BitVec.ofNat 32 (∑ l ∈ Finset.range 16, h l (n 0).val) := funext fun n => hf n (n 0).isLt
  isplitl [H6]
  · iapply (Entails.of_eq (congrArg (fun f => ((a6).view.loc (tV d L) ↦{fullShare} f : sProp 𝕄)) (funext fun i => ?_))) $$ H6
    have hi : (i 0).val < 4096 := (i 0).isLt
    unfold left
    rw [if_pos]
    refine Or.inl ?_
    show (i 0).val % 256 / 16 < 16
    omega
  iexact H7

/-- One chunk of all tiles' histograms added up. -/
theorem wp_mergeChunk (h1 : k0_cond1 L = 1#1) (g : ℕ → ℕ → ℕ) (c : Fin k0_t7_loop.trips) :
    ((a8).view.loc (tV d L) ↦{fullShare} fun i => BitVec.ofNat 32 (g (i 0).val (i 1).val))
      ⊢ (wp frame (wpE (defs₀ (F := F)) 𝒱₀ (tV d L) none) Set.univ
          (Scf.Loop.for k0_t8_loop (k0_t8_ok L h1) k0_pay28 (k0_t8_body L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5 h1 k0_pay28 c))
          fun acc => iprop(((a8).view.loc (tV d L) ↦{fullShare} fun i => BitVec.ofNat 32 (g (i 0).val (i 1).val))
            ∗ ⌜∀ j : S16.Idx, acc j = BitVec.ofNat 32 (∑ s ∈ Finset.range 16, g s (16 * c.val + (j 0).val))⌝) : sProp 𝕄) := by
  unfold k0_t8_body
  iintro H8
  sl_for (fun n (acc : IVec S16 32) => iprop(((a8).view.loc (tV d L) ↦{fullShare} fun i => BitVec.ofNat 32 (g (i 0).val (i 1).val))
    ∗ ⌜∀ j : S16.Idx, acc j = BitVec.ofNat 32 (∑ s ∈ Finset.range n, g s (16 * c.val + (j 0).val))⌝)) $$ [H8]
  case region =>
    intro n acc
    iintro ⟨H8, %hacc⟩
    sl_exec
    sl_step
    isplitl [H8]; · iexact H8
    ipureintro
    intro j
    refine (pay5_apply (F := F) _ _ j).trans ?_
    rw [hacc, Finset.sum_range_succ, ← word_add]
    refine congrArg₂ (· + ·) rfl ?_
    refine (load_row₂ (Val := Elt F) a8.view _ (fun a b => BitVec.ofNat 32 (g a b)) (fun _ => rfl) _ _ (congrFun (k0_off8_eq c n) 0) (congrFun (k0_off8_eq c n) 1) _).trans ?_
    rfl
  isplitl [H8]
  · isplitl [H8]; · iexact H8
    ipureintro
    intro j
    rfl
  iintro %acc H
  iexact H

/-- The merging loop: from all tiles' histograms their sum. -/
theorem wp_merge (h1 : k0_cond1 L = 1#1) (g : ℕ → ℕ → ℕ) (f7 : Buf (Elt F) ((tV d L).loc cc0_scratch3)) :
    iprop(((a8).view.loc (tV d L) ↦{fullShare} fun i => BitVec.ofNat 32 (g (i 0).val (i 1).val)) ∗ ((a7).view.loc (tV d L) ↦{fullShare} f7))
      ⊢ (wp frame (wpE (defs₀ (F := F)) 𝒱₀ (tV d L) none) Set.univ
          (Scf.Loop.for k0_t7_loop (k0_t7_ok L h1) ⟨⟩ (k0_t7_body L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5 h1 k0_pay28))
          fun _ => iprop(((a8).view.loc (tV d L) ↦{fullShare} fun i => BitVec.ofNat 32 (g (i 0).val (i 1).val))
            ∗ ((a7).view.loc (tV d L) ↦{fullShare} fun n => BitVec.ofNat 32 (∑ s ∈ Finset.range 16, g s (n 0).val))) : sProp 𝕄) := by
  unfold k0_t7_body
  iintro ⟨H8, H7⟩
  sl_for (fun k (_ : Unit) => iprop(((a8).view.loc (tV d L) ↦{fullShare} fun i => BitVec.ofNat 32 (g (i 0).val (i 1).val))
    ∗ ∃ f, ((a7).view.loc (tV d L) ↦{fullShare} f) ∗ ⌜∀ n : S256.Idx, (n 0).val < 16 * k → f n = BitVec.ofNat 32 (∑ s ∈ Finset.range 16, g s (n 0).val)⌝)) $$ [H8 H7]
  case region =>
    intro k acc
    have hk : k.val < 16 := k.isLt
    iintro ⟨H8, %f, H7, %hf⟩
    sl_exec
    iapply (cut (F := F) d L (wp_mergeChunk (F := F) d L h1 g k)) $$ [H8]
    · iexact H8
    iintro %acc' ⟨H8, %hacc⟩
    sl_exec
    sl_step
    isplitl [H8]; · iexact H8
    iexists _
    isplitl [H7]; · iexact H7
    ipureintro
    intro n hn
    refine (store_row (Val := Elt F) (o := 16 * k.val) a7.view f _ _ _ (fun j => BitVec.ofNat 32 (∑ s ∈ Finset.range 16, g s (16 * k.val + j))) (fun j => hacc j) (congrFun (k0_off9_eq k) 0) n).trans ?_
    show (if 16 * k.val ≤ (n 0).val ∧ (n 0).val < 16 * k.val + 16 then _ else f n) = _
    split_ifs with hh
    · rw [Nat.add_sub_cancel' hh.1]
    · exact hf n (by omega)
  isplitl [H8 H7]
  · isplitl [H8]; · iexact H8
    iexists _
    isplitl [H7]; · iexact H7
    ipureintro; intro n hn; omega
  iintro %_ ⟨H8, %f, H7, %hf⟩
  obtain rfl : f = fun n => BitVec.ofNat 32 (∑ s ∈ Finset.range 16, g s (n 0).val) := funext fun n => hf n (n 0).isLt
  isplitl [H8]; · iexact H8
  iexact H7

end Cert.Proof.Mean

end
-- ==== Proof.Parts.lean ====
/-
  A round's choice run: the merged histogram read chunk by chunk, the chunk and the lane found, the state's new words.
-/
module

public import proofs.«01_k».proof.Proof.Pick
public import proofs.«01_k».proof.Proof.Collect

@[expose] public section

noncomputable section

namespace Cert.Proof.Mean

open Cert.Sc Cert.Sc.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] stages

variable {F : FTy → Type}

local notation "𝕄" => MT nD τ sig (HIx 9) (Elt F) ℕ UU ℕ

variable [BitOps F]
variable (d : Dev nD) (L : grid0.Coords)

/-- The merged histogram. -/
def hist (G : ℕ → ℕ) : Buf (Elt F) ((tV d L).loc cc0_scratch3) := fun n => BitVec.ofNat 32 (G (n 0).val)

/-- A chunk of the merged histogram, loaded. -/
theorem load_chunk (G : ℕ → ℕ) (c : ℕ) (off : Fin 1 → ℕ) (inb : ∀ a, off a + S16.size a ≤ S256.size a) (ho : off 0 = 16 * c) :
    a7.view.readAt (Elt F) (Rect.unit (s := S256) off S16.size inb).toLoadRect (hist (F := F) d L G) = vecG G c :=
  funext fun j => load_row (Val := Elt F) a7.view (hist (F := F) d L G) (fun n => BitVec.ofNat 32 (G n)) (fun _ => rfl) off inb ho j

/-- A chunk's total, of the chunk loaded. -/
theorem load_tot (G : ℕ → ℕ) (c : ℕ) (off : Fin 1 → ℕ) (inb : ∀ a, off a + S16.size a ≤ S256.size a) (ho : off 0 = 16 * c) :
    extractAt ![15] (scan .sum (a7.view.readAt (Elt F) (Rect.unit (s := S256) off S16.size inb).toLoadRect (hist (F := F) d L G))) inpos_S16_p15 = BitVec.ofNat 32 (tot G c) := by
  rw [load_chunk d L G c off inb ho, scan_vecG]

/-- The chunks' totals. -/
abbrev totW (G : ℕ → ℕ) (c : ℕ) : BitVec 32 := BitVec.ofNat 32 (tot G c)

theorem tuple9 {a a' b b' c c' e e' f f' g g' h h' i i' : BitVec 32} {v v' : IVec S16 32} (ha : a = a') (hb : b = b') (hc : c = c') (he : e = e') (hf : f = f') (hg : g = g') (hh : h = h') (hi : i = i') (hv : v = v') :
    (⟨a, b, c, e, f, g, h, i, v⟩ : Σ' (_ : BitVec 32) (_ : BitVec 32) (_ : BitVec 32) (_ : BitVec 32) (_ : BitVec 32) (_ : BitVec 32) (_ : BitVec 32) (_ : BitVec 32), IVec S16 32) = ⟨a', b', c', e', f', g', h', i', v'⟩ := by
  subst ha hb hc he hf hg hh hi hv; rfl

set_option maxHeartbeats 1600000 in
/-- The tiles' histograms merged, and the first chunks' totals read. -/
theorem wp_part2 (h1 : k0_cond1 L = 1#1) (g : ℕ → ℕ → ℕ) (G : ℕ → ℕ) (hG : ∀ b, ∑ s ∈ Finset.range 16, g s b = G b) (f7 : Buf (Elt F) ((tV d L).loc cc0_scratch3)) :
    iprop(((a8).view.loc (tV d L) ↦{fullShare} fun i => BitVec.ofNat 32 (g (i 0).val (i 1).val)) ∗ ((a7).view.loc (tV d L) ↦{fullShare} f7))
      ⊢ (wp frame (wpE (defs₀ (F := F)) 𝒱₀ (tV d L) none) Set.univ
          (k0_part2 L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5 h1 k0_pay28)
          fun r => iprop(((a8).view.loc (tV d L) ↦{fullShare} fun i => BitVec.ofNat 32 (g (i 0).val (i 1).val))
            ∗ ((a7).view.loc (tV d L) ↦{fullShare} hist (F := F) d L G)
            ∗ ⌜r = ⟨totW G 0, totW G 1, totW G 2, totW G 3, totW G 4, totW G 5, totW G 6, totW G 7, k0_pay14 (F := F) (vecG G 8)⟩⌝) : sProp 𝕄) := by
  rw [k0_part2_eq_skeleton]
  unfold k0_part2_skel
  iintro ⟨H8, H7⟩
  iapply (cut (F := F) d L (wp_merge (F := F) d L h1 g f7)) $$ [H8 H7]
  · isplitl [H8]; · iexact H8
    iexact H7
  iintro %_ ⟨H8, H7⟩
  ihave H7 := (Entails.of_eq (congrArg (fun f => ((a7).view.loc (tV d L) ↦{fullShare} f : sProp 𝕄)) (funext fun n => congrArg (BitVec.ofNat 32) (hG (n 0).val) : _ = hist (F := F) d L G))) $$ H7
  sl_exec
  sl_step
  isplitl [H8]; · iexact H8
  isplitl [H7]; · iexact H7
  ipureintro
  exact tuple9 (load_tot (F := F) d L _ 0 ![0] _ rfl) (load_tot (F := F) d L _ 1 ![16] _ rfl) (load_tot (F := F) d L _ 2 ![32] _ rfl) (load_tot (F := F) d L _ 3 ![48] _ rfl) (load_tot (F := F) d L _ 4 ![64] _ rfl)
    (load_tot (F := F) d L _ 5 ![80] _ rfl) (load_tot (F := F) d L _ 6 ![96] _ rfl) (load_tot (F := F) d L _ 7 ![112] _ rfl) (congrArg (k0_pay14 (F := F)) (load_chunk (F := F) d L _ 8 ![128] _ rfl))

theorem part3_congr (kr : BitVec 32) (T : ℕ → BitVec 32) {x8 x9 x10 x11 x12 x13 x14 x15 : BitVec 32} (h8 : x8 = T 8) (h9 : x9 = T 9) (h10 : x10 = T 10) (h11 : x11 = T 11) (h12 : x12 = T 12) (h13 : x13 = T 13) (h14 : x14 = T 14) (h15 : x15 = T 15) :
    (⟨x8, x9, x10, x11, x12, x13, x14, x15, k0_chk2_all _ _ _ _ _ _ _ _ _ _ _ _ _ _ _ _ _ _, (Scalar.addi 0#32 (x15)), (Scalar.addi (Scalar.addi 0#32 (x15)) (x14)), (Scalar.addi (Scalar.addi (Scalar.addi 0#32 (x15)) (x14)) (x13)), (Scalar.addi (Scalar.addi (Scalar.addi (Scalar.addi 0#32 (x15)) (x14)) (x13)) (x12)), (Scalar.addi (Scalar.addi (Scalar.addi (Scalar.addi (Scalar.addi 0#32 (x15)) (x14)) (x13)) (x12)) (x11)), (Scalar.addi (Scalar.addi (Scalar.addi (Scalar.addi (Scalar.addi (Scalar.addi 0#32 (x15)) (x14)) (x13)) (x12)) (x11)) (x10)), (Scalar.addi (Scalar.addi (Scalar.addi (Scalar.addi (Scalar.addi (Scalar.addi (Scalar.addi 0#32 (x15)) (x14)) (x13)) (x12)) (x11)) (x10)) (x9)), (Scalar.addi (Scalar.addi (Scalar.addi (Scalar.addi (Scalar.addi (Scalar.addi (Scalar.addi (Scalar.addi 0#32 (x15)) (x14)) (x13)) (x12)) (x11)) (x10)) (x9)) (x8)), (Scalar.addi (Scalar.addi (Scalar.addi (Scalar.addi (Scalar.addi (Scalar.addi (Scalar.addi (Scalar.addi (Scalar.addi 0#32 (x15)) (x14)) (x13)) (x12)) (x11)) (x10)) (x9)) (x8)) (T 7)), (Scalar.addi (Scalar.addi (Scalar.addi (Scalar.addi (Scalar.addi (Scalar.addi (Scalar.addi (Scalar.addi (Scalar.addi (Scalar.addi 0#32 (x15)) (x14)) (x13)) (x12)) (x11)) (x10)) (x9)) (x8)) (T 7)) (T 6)), (Scalar.addi (Scalar.addi (Scalar.addi (Scalar.addi (Scalar.addi (Scalar.addi (Scalar.addi (Scalar.addi (Scalar.addi (Scalar.addi (Scalar.addi 0#32 (x15)) (x14)) (x13)) (x12)) (x11)) (x10)) (x9)) (x8)) (T 7)) (T 6)) (T 5)), (Scalar.addi (Scalar.addi (Scalar.addi (Scalar.addi (Scalar.addi (Scalar.addi (Scalar.addi (Scalar.addi (Scalar.addi (Scalar.addi (Scalar.addi (Scalar.addi 0#32 (x15)) (x14)) (x13)) (x12)) (x11)) (x10)) (x9)) (x8)) (T 7)) (T 6)) (T 5)) (T 4)), (Scalar.addi (Scalar.addi (Scalar.addi (Scalar.addi (Scalar.addi (Scalar.addi (Scalar.addi (Scalar.addi (Scalar.addi (Scalar.addi (Scalar.addi (Scalar.addi (Scalar.addi 0#32 (x15)) (x14)) (x13)) (x12)) (x11)) (x10)) (x9)) (x8)) (T 7)) (T 6)) (T 5)) (T 4)) (T 3)), (Scalar.addi (Scalar.addi (Scalar.addi (Scalar.addi (Scalar.addi (Scalar.addi (Scalar.addi (Scalar.addi (Scalar.addi (Scalar.addi (Scalar.addi (Scalar.addi (Scalar.addi (Scalar.addi 0#32 (x15)) (x14)) (x13)) (x12)) (x11)) (x10)) (x9)) (x8)) (T 7)) (T 6)) (T 5)) (T 4)) (T 3)) (T 2)), (Scalar.addi (Scalar.addi (Scalar.addi (Scalar.addi (Scalar.addi (Scalar.addi (Scalar.addi (Scalar.addi (Scalar.addi (Scalar.addi (Scalar.addi (Scalar.addi (Scalar.addi (Scalar.addi (Scalar.addi 0#32 (x15)) (x14)) (x13)) (x12)) (x11)) (x10)) (x9)) (x8)) (T 7)) (T 6)) (T 5)) (T 4)) (T 3)) (T 2)) (T 1))⟩ :
      (Σ' (v169 : BitVec 32) (v173 : BitVec 32) (v177 : BitVec 32) (v181 : BitVec 32) (v185 : BitVec 32) (v189 : BitVec 32) (v193 : BitVec 32) (v197 : BitVec 32) (k0_hw2 : k0_chk2 L kr (T 0) (T 1) (T 2) (T 3) (T 4) (T 5) (T 6) (T 7) v169 v173 v177 v181 v185 v189 v193 v197) (v198 : BitVec 32) (v199 : BitVec 32) (v200 : BitVec 32) (v201 : BitVec 32) (v202 : BitVec 32) (v203 : BitVec 32) (v204 : BitVec 32) (v205 : BitVec 32) (v206 : BitVec 32) (v207 : BitVec 32) (v208 : BitVec 32) (v209 : BitVec 32) (v210 : BitVec 32) (v211 : BitVec 32), BitVec 32))
      = ⟨T 8, T 9, T 10, T 11, T 12, T 13, T 14, T 15, k0_chk2_all _ _ _ _ _ _ _ _ _ _ _ _ _ _ _ _ _ _, sufW T 1, sufW T 2, sufW T 3, sufW T 4, sufW T 5, sufW T 6, sufW T 7, sufW T 8, sufW T 9, sufW T 10, sufW T 11, sufW T 12, sufW T 13, sufW T 14, sufW T 15⟩ := by
  subst h8 h9 h10 h11 h12 h13 h14 h15
  rfl

set_option maxHeartbeats 1600000 in
/-- The other chunks' totals read, and the totals above each chunk. -/
theorem wp_part3 (G : ℕ → ℕ) (kr : BitVec 32) :
    ((a7).view.loc (tV d L) ↦{fullShare} hist (F := F) d L G)
      ⊢ (wp frame (wpE (defs₀ (F := F)) 𝒱₀ (tV d L) none) Set.univ
          (k0_part3 L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5 kr (totW G 0) (totW G 1) (totW G 2) (totW G 3) (totW G 4) (totW G 5) (totW G 6) (totW G 7) (k0_pay14 (F := F) (vecG G 8)))
          fun r => iprop(((a7).view.loc (tV d L) ↦{fullShare} hist (F := F) d L G)
            ∗ ⌜r = ⟨totW G 8, totW G 9, totW G 10, totW G 11, totW G 12, totW G 13, totW G 14, totW G 15, k0_chk2_all _ _ _ _ _ _ _ _ _ _ _ _ _ _ _ _ _ _, sufW (totW G) 1, sufW (totW G) 2, sufW (totW G) 3,
              sufW (totW G) 4, sufW (totW G) 5, sufW (totW G) 6, sufW (totW G) 7, sufW (totW G) 8, sufW (totW G) 9, sufW (totW G) 10, sufW (totW G) 11, sufW (totW G) 12, sufW (totW G) 13, sufW (totW G) 14, sufW (totW G) 15⟩⌝) : sProp 𝕄) := by
  rw [k0_part3_eq_skeleton]
  unfold k0_part3_skel
  iintro H7
  sl_exec
  sl_step
  isplitl [H7]; · iexact H7
  ipureintro
  exact part3_congr L kr (totW G) (scan_vecG G 8) (load_tot (F := F) d L G 9 ![144] _ rfl) (load_tot (F := F) d L G 10 ![160] _ rfl) (load_tot (F := F) d L G 11 ![176] _ rfl)
    (load_tot (F := F) d L G 12 ![192] _ rfl) (load_tot (F := F) d L G 13 ![208] _ rfl) (load_tot (F := F) d L G 14 ![224] _ rfl) (load_tot (F := F) d L G 15 ![240] _ rfl)

end Cert.Proof.Mean

end
-- ==== Proof.Choose.lean ====
/-
  The merged histogram's choice: the chunk whose totals straddle the rank, and the lane of it.
-/
module

public import proofs.«01_k».proof.Proof.Parts

@[expose] public section

noncomputable section

namespace Cert.Proof.Mean

open Cert.Sc Cert.Sc.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] stages

variable {F : FTy → Type}

local notation "𝕄" => MT nD τ sig (HIx 9) (Elt F) ℕ UU ℕ

variable [BitOps F]
variable (d : Dev nD) (L : grid0.Coords)

/-- The first eight chunks tried. -/
theorem part4_eq (T : ℕ → BitVec 32) (kr : BitVec 32) :
    k0_part4 (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5 kr (T 0) (T 1) (T 2) (T 3) (T 4) (T 5) (T 6) (T 7) (sufW T 7) (sufW T 8) (sufW T 9) (sufW T 10) (sufW T 11) (sufW T 12) (sufW T 13) (sufW T 14) (sufW T 15)
      = pure ⟨chain (condW T kr) (BitVec.ofNat 32) 8, chain (condW T kr) (fun j => sufW T (15 - j)) 8, Scalar.cmpi .slt (sufW T 7) kr⟩ := by
  rw [k0_part4_eq_skeleton]
  rfl

/-- The other eight chunks tried. -/
theorem part5_eq (T : ℕ → BitVec 32) (kr : BitVec 32) :
    k0_part5 (F := F) L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5 kr (T 8) (T 9) (T 10) (T 11) (T 12) (T 13) (T 14) (T 15) (sufW T 1) (sufW T 2) (sufW T 3) (sufW T 4) (sufW T 5) (sufW T 6) (sufW T 7)
        (chain (condW T kr) (BitVec.ofNat 32) 8) (chain (condW T kr) (fun j => sufW T (15 - j)) 8) (Scalar.cmpi .slt (sufW T 7) kr)
      = pure ⟨chain (condW T kr) (BitVec.ofNat 32) 16, chain (condW T kr) (fun j => sufW T (15 - j)) 16, Scalar.muli (chain (condW T kr) (BitVec.ofNat 32) 16) 16#32⟩ := by
  rw [k0_part5_eq_skeleton]
  rfl

theorem off10_chain (T : ℕ → BitVec 32) (kr : BitVec 32) :
    k0_off10 kr (T 0) (T 1) (T 2) (T 3) (T 4) (T 5) (T 6) (T 7) (T 8) (T 9) (T 10) (T 11) (T 12) (T 13) (T 14) (T 15) 0 = (Scalar.muli (chain (condW T kr) (BitVec.ofNat 32) 16) 16#32).toNat := rfl

section
variable {G : ℕ → ℕ} {kr b : ℕ} (h : Pick G kr b) (hG : tail G 0 ≤ 16384)
include h hG

theorem chain_chunk : chain (condW (totW G) (BitVec.ofNat 32 kr)) (BitVec.ofNat 32) 16 = BitVec.ofNat 32 (b / 16) := by
  have hb := h.1
  refine (chain_eq (β := b / 16) _ 16 (fun j hj => condW_eq G h hG j hj)).trans ?_
  rw [if_pos (by omega)]

theorem chain_suf : chain (condW (totW G) (BitVec.ofNat 32 kr)) (fun j => sufW (totW G) (15 - j)) 16 = BitVec.ofNat 32 (tail G (16 * (b / 16) + 16)) := by
  have hb := h.1
  refine (chain_eq (β := b / 16) _ 16 (fun j hj => condW_eq G h hG j hj)).trans ?_
  rw [if_pos (by omega)]
  refine (sufW_eq G (15 - b / 16) (by omega)).trans ?_
  congr 2
  omega

theorem off10_eq : k0_off10 (BitVec.ofNat 32 kr) (totW G 0) (totW G 1) (totW G 2) (totW G 3) (totW G 4) (totW G 5) (totW G 6) (totW G 7) (totW G 8) (totW G 9) (totW G 10) (totW G 11) (totW G 12) (totW G 13) (totW G 14) (totW G 15) 0
    = 16 * (b / 16) := by
  have hb := h.1
  rw [off10_chain, chain_chunk h hG]
  show (BitVec.ofNat 32 (b / 16) * BitVec.ofNat 32 16).toNat = _
  rw [BitVec.toNat_mul, BitVec.toNat_ofNat, BitVec.toNat_ofNat]
  omega

set_option maxHeartbeats 1600000 in
/-- The bucket's chunk read, and in it the lane: the counts above the bucket, and the bucket's eight bits of the key. -/
theorem wp_part6 (h1 : k0_cond1 L = 1#1) (x v310 : BitVec 32) :
    ((a7).view.loc (tV d L) ↦{fullShare} hist (F := F) d L G)
      ⊢ (wp frame (wpE (defs₀ (F := F)) 𝒱₀ (tV d L) none) Set.univ
          (k0_part6 L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5 h1 lanesI (BitVec.ofNat 32 kr) x (totW G 0) (totW G 1) (totW G 2) (totW G 3) (totW G 4) (totW G 5) (totW G 6) (totW G 7) (totW G 8) (totW G 9) (totW G 10) (totW G 11) (totW G 12) (totW G 13) (totW G 14) (totW G 15)
            (k0_chk2_all _ _ _ _ _ _ _ _ _ _ _ _ _ _ _ _ _ _) (BitVec.ofNat 32 (b / 16)) (BitVec.ofNat 32 (tail G (16 * (b / 16) + 16))) v310)
          fun r => iprop(((a7).view.loc (tV d L) ↦{fullShare} hist (F := F) d L G)
            ∗ ⌜r = ⟨BitVec.ofNat 32 (above G b), (BitVec.ofNat 32 b ^^^ x) &&& 255#32⟩⌝) : sProp 𝕄) := by
  have hb := h.1
  rw [k0_part6_eq_skeleton]
  unfold k0_part6_skel
  iintro H7
  sl_exec
  sl_step
  isplitl [H7]; · iexact H7
  ipureintro
  have e := load_chunk (F := F) d L G (b / 16) _ (k0_off10_inb L _ _ _ _ _ _ _ _ _ _ _ _ _ _ _ _ _ (k0_chk2_all _ _ _ _ _ _ _ _ _ _ _ _ _ _ _ _ _ _) h1) (off10_eq h hG)
  have e1 := pay23_last (F := F) h hG
  have e2 := pay25_last (F := F) h hG
  have e3 := pay26_last (F := F) h hG
  rw [← e] at e1 e2 e3
  have t : ∀ a a' c c' : BitVec 32, a = a' → c = c' → (⟨a, c⟩ : Σ' (_ : BitVec 32), BitVec 32) = ⟨a', c'⟩ := by rintro _ _ _ _ rfl rfl; rfl
  refine t _ _ _ _ ?_ ?_
  · refine Eq.trans (congrArg₂ (fun u v => BitVec.ofNat 32 (tail G (16 * (b / 16) + 16)) + u - v) e3 e2) ?_
    exact above_word h
  · refine Eq.trans (congrArg (fun u => ((BitVec.ofNat 32 (b / 16) * 16#32 + u) ^^^ x) &&& 255#32) e1) ?_
    have : BitVec.ofNat 32 (b / 16) * 16#32 + BitVec.ofNat 32 (b % 16) = BitVec.ofNat 32 b := by
      have e16 : (16#32 : BitVec 32) = BitVec.ofNat 32 16 := rfl
      rw [e16, ← BitVec.ofNat_mul, word_add]
      congr 1
      omega
    rw [this]
end

end Cert.Proof.Mean

end
-- ==== Proof.Hist.lean ====
/-
  A tile's histogram: the scatter of its keys into a histogram per lane, and the lanes' histograms added up.
-/
module

public import proofs.«01_k».proof.Proof.Counts
public import Idealize.ShloMosaic.Lib.SparseCore.Ops

@[expose] public section

noncomputable section

namespace Cert.Proof.Mean

open Cert.Sc Cert.Sc.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] stages

variable {F : FTy → Type}

local notation "𝕄" => MT nD τ sig (HIx 9) (Elt F) ℕ UU ℕ

variable [BitOps F]

/-! ## The scatter -/

/-- The scatter's places: each lane in its own histogram, at its key's bucket. -/
theorem pay3_apply (r : Fin k0_t3_loop.trips) (v : Vec F S16 .i32) (j : S16.Idx) :
    k0_pay3 (F := F) k0_pay27 0#32 1#32 r v j = BitVec.ofNat 32 (256 * (j 0).val) + buck r.val (v j) := by
  have e5 : k0_pay27 j = BitVec.ofNat 32 (256 * (j 0).val) := by
    show BitVec.ofNat 32 (0 * 16 + (j 0).val) * 256#32 = _
    rw [← BitVec.ofNat_mul]; congr 1; omega
  have e : ∀ r : Fin k0_t3_loop.trips, (0#32 + Scalar.subi 24#32 (Scalar.muli 8#32 (Scf.iv 0#32 1#32 r)) = BitVec.ofNat 32 (24 - 8 * r.val))
      ∧ (0#32 + Scalar.select (Scalar.cmpi .eq (Scf.iv 0#32 1#32 r) 0#32) 128#32 0#32 = if r.val = 0 then 128#32 else 0#32)
      ∧ (BitVec.ofNat 32 (24 - 8 * r.val)).toNat = 24 - 8 * r.val ∧ 24 - 8 * r.val < 32 := by decide
  obtain ⟨e1, e2, e3, e4⟩ := e r
  show k0_pay27 j + IntOp.xori (IntOp.andi (IntOp.shrsi .vector (v j) (0#32 + Scalar.subi 24#32 (Scalar.muli 8#32 (Scf.iv 0#32 1#32 r)))) 255#32)
    (0#32 + Scalar.select (Scalar.cmpi .eq (Scf.iv 0#32 1#32 r) 0#32) 128#32 0#32) = _
  rw [e5, e1, e2]
  unfold IntOp.shrsi
  rw [e3, if_pos e4]
  show _ = BitVec.ofNat 32 (256 * (j 0).val) + buck r.val (v j)
  unfold buck BitVec.sshiftRight'
  rw [e3]
  rfl

theorem pay3_toNat (r : Fin k0_t3_loop.trips) (v : Vec F S16 .i32) (j : S16.Idx) :
    (k0_pay3 (F := F) k0_pay27 0#32 1#32 r v j).toNat = 256 * (j 0).val + (buck r.val (v j)).toNat := by
  have hj : (j 0).val < 16 := (j 0).isLt
  have hb := buck_lt r.val (v j)
  rw [pay3_apply, BitVec.toNat_add, BitVec.toNat_ofNat]
  omega

theorem pay2_apply (p fm : BitVec 32) (v : Vec F S16 .i32) (j : S16.Idx) : k0_pay2 (F := F) p fm v j = 1 ↔ Hit p fm (v j) := by
  show BitVec.ofBool (((v j ^^^ (0#32 + p)) &&& (0#32 + fm)) == 0#32) = 1 ↔ _
  rw [BitVec.zero_add, BitVec.zero_add]
  unfold Hit
  rcases hb : ((v j ^^^ p) &&& fm == 0#32) with _ | _
  · exact ⟨fun h => absurd h (by decide), fun h => by rw [h] at hb; cases hb⟩
  · exact ⟨fun _ => eq_of_beq hb, fun _ => rfl⟩

/-- Words added up over a list of lanes of which one at most adds a one. -/
theorem foldl_once {ι : Type} (step : (ι → BitVec 32) → Fin 16 → (ι → BitVec 32)) (j : ι) (k₀ : Fin 16) (q : Prop) [Decidable q]
    (hstep : ∀ g k, step g k j = g j + if k = k₀ ∧ q then 1#32 else 0#32) :
    ∀ (l : List (Fin 16)), l.Nodup → ∀ f, (l.foldl step f) j = f j + if k₀ ∈ l ∧ q then 1#32 else 0#32 := by
  intro l
  induction l with
  | nil => intro _ f; simp
  | cons k l ih =>
    intro hn f
    rw [List.nodup_cons] at hn
    rw [List.foldl_cons, ih hn.2, hstep]
    by_cases hk : k = k₀
    · subst hk
      by_cases hq : q <;> simp [hn.1, hq]
    · have : ¬ k₀ = k := fun e => hk e.symm
      by_cases hl : k₀ ∈ l <;> by_cases hq : q <;> simp [hk, this, hl, hq]

/-- Ones scattered by lanes, each lane in a histogram of its own. -/
theorem storeIdx_lanes (f : Vec F S4096 .i32) (idx : IVec S16 32) (mask : IVec S16 1) (h : ∀ a x, ((![idx] : Fin 1 → IVec S16 32) a x).toNat < S4096.size a)
    (b : ℕ → ℕ) (hb : ∀ l, b l < 256) (hidx : ∀ x : S16.Idx, (idx x).toNat = 256 * (x 0).val + b (x 0).val)
    (m : ℕ → Prop) [DecidablePred m] (hm : ∀ x : S16.Idx, mask x = 1 ↔ m (x 0).val) (j : S4096.Idx) :
    storeIdx (F := F) (e := .i32) f ![idx] k0_pay29 mask true h j
      = f j + if m ((j 0).val / 256) ∧ b ((j 0).val / 256) = (j 0).val % 256 then 1#32 else 0#32 := by
  have hj : (j 0).val < 4096 := (j 0).isLt
  unfold storeIdx
  have hk₀ : (j 0).val / 256 < 16 := by omega
  refine (foldl_once (ι := S4096.Idx) _ j ⟨(j 0).val / 256, hk₀⟩ (m ((j 0).val / 256) ∧ b ((j 0).val / 256) = (j 0).val % 256) ?_
    (List.finRange 16) (List.nodup_finRange 16) f).trans ?_
  · intro g k
    have hi : (∀ a, (j a).val = (idxAt (s := S4096) ![idx] h (Shape.ofLane k) a).val) ↔ (k.val = (j 0).val / 256 ∧ b k.val = (j 0).val % 256) := by
      have e : (idxAt (s := S4096) ![idx] h (Shape.ofLane k) 0).val = 256 * k.val + b k.val := hidx (Shape.ofLane k)
      have := hb k.val
      constructor
      · intro hh
        have : (j 0).val = 256 * k.val + b k.val := by rw [← e, ← hh 0]
        constructor <;> omega
      · rintro ⟨h1, h2⟩ a
        rw [Fin.eq_zero a, e]
        omega
    have hmk : mask (Shape.ofLane k : S16.Idx) = 1 ↔ m k.val := hm _
    by_cases h1 : m k.val
    · refine (congrFun (if_pos (hmk.mpr h1)) j).trans ?_
      by_cases h2 : k.val = (j 0).val / 256 ∧ b k.val = (j 0).val % 256
      · refine (if_pos (hi.mpr h2)).trans ?_
        have hji : j = idxAt (s := S4096) ![idx] h (Shape.ofLane k) := funext fun a => Fin.ext (hi.mpr h2 a)
        rw [← hji, if_pos (⟨Fin.ext h2.1, h2.1 ▸ h1, h2.1 ▸ h2.2⟩ : k = _ ∧ m _ ∧ _)]
        rfl
      · refine (if_neg (fun hh => h2 (hi.mp hh))).trans ?_
        rw [if_neg, BitVec.add_zero]
        rintro ⟨rfl, -, h4⟩
        exact h2 ⟨rfl, h4⟩
    · refine (congrFun (if_neg (fun hh => h1 (hmk.mp hh))) j).trans ?_
      rw [if_neg, BitVec.add_zero]
      rintro ⟨rfl, h3, -⟩
      exact h1 h3
  · simp only [List.mem_finRange, _root_.true_and]

variable (d : Dev nD) (L : grid0.Coords)

/-- The histogram's buffer, as a scatter's access to the whole of it. -/
theorem pts_a6 (f : Buf (Elt F) ((tV d L).loc cc0_scratch2)) :
    (((a6).access (.whole S4096)).loc (tV d L) ↦[((a6).access (.whole S4096)).set]{fullShare} f : sProp 𝕄) = ((a6).view.loc (tV d L) ↦{fullShare} f) := by
  rw [show ((a6).access (.whole S4096)).set = Finset.univ from Memref.set_access_whole (cc0_scratch2 : Ref sig .scVector)]

set_option maxHeartbeats 1600000 in
/-- The scatter's loop: from zeros the lanes' histograms of the keys that agree with `p` on `fm`. -/
theorem wp_scatter (h1 : k0_cond1 L = 1#1) (r : Fin k0_t3_loop.trips) (p fm : BitVec 32) (κ : ℕ → BitVec 32) :
    iprop(((a5).view.loc (tV d L) ↦{fullShare} fun n => κ (n 0).val) ∗ ((a6).view.loc (tV d L) ↦{fullShare} fun _ => (0#32 : BitVec 32)))
      ⊢ (wp frame (wpE (defs₀ (F := F)) 𝒱₀ (tV d L) none) Set.univ
          (Scf.Loop.for k0_t4_loop (k0_t4_ok L h1) ⟨⟩ (k0_t4_body L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5 h1 k0_pay27 k0_pay28 k0_pay29 0#32 1#32 r p fm))
          fun _ => iprop(((a5).view.loc (tV d L) ↦{fullShare} fun n => κ (n 0).val)
            ∗ ((a6).view.loc (tV d L) ↦{fullShare} fun n => BitVec.ofNat 32 (laneN κ r.val p fm 64 ((n 0).val / 256) ((n 0).val % 256)))) : sProp 𝕄) := by
  unfold k0_t4_body
  iintro ⟨H5, H6⟩
  sl_for (fun k (_ : Unit) => iprop(((a5).view.loc (tV d L) ↦{fullShare} fun n => κ (n 0).val)
    ∗ ((a6).view.loc (tV d L) ↦{fullShare} fun n => BitVec.ofNat 32 (laneN κ r.val p fm k ((n 0).val / 256) ((n 0).val % 256))))) $$ [H5 H6]
  case region =>
    intro k acc
    have hchk : ∀ w : Vec F S16 .i32, k0_chk1 L (k0_pay3 (F := F) k0_pay27 0#32 1#32 r w) := fun w _ a x => by
      rw [Fin.eq_zero a]
      show (k0_pay3 (F := F) k0_pay27 0#32 1#32 r w x).toNat < 4096
      have hj : (x 0).val < 16 := (x 0).isLt
      have hb := buck_lt r.val (w x)
      rw [pay3_toNat]; omega
    iintro ⟨H5, H6⟩
    sl_exec
    ihave H6' := (Entails.of_eq (pts_a6 (F := F) d L _).symm) $$ H6
    iapply (SparseCore.wp_vectorStoreIdx (defs := defs₀ (F := F)) 𝒱₀ (tV d L) none Set.univ (base := a6)) $$ H6'
    iintro H6'
    ihave H6 := (Entails.of_eq (pts_a6 (F := F) d L _)) $$ H6'
    sl_step
    isplitl [H5]; · iexact H5
    iapply (Entails.of_eq (congrArg (fun f => ((a6).view.loc (tV d L) ↦{fullShare} f : sProp 𝕄)) ?_)) $$ H6
    refine (Memref.write_access_whole_univ (Elt F) cc0_scratch2 _ _).trans (funext fun n => ?_)
    have hw : ∀ x : S16.Idx, wp_scatter.sl.v364 (F := F) d L h1 κ k x = κ (16 * k.val + (x 0).val) := fun x => by
      refine (load_row (Val := Elt F) a5.view _ κ (fun _ => rfl) _ _ (congrFun (k0_off4_eq k) 0) x).trans ?_
      rfl
    refine (storeIdx_lanes _ _ _ _ (fun l => (buck r.val (κ (16 * k.val + l))).toNat) (fun l => buck_lt _ _) (fun x => ?_)
      (fun l => Hit p fm (κ (16 * k.val + l))) (fun x => ?_) n).trans ?_
    · refine (pay3_toNat (F := F) r _ x).trans ?_
      rw [hw]
    · refine (pay2_apply (F := F) p fm _ x).trans ?_
      rw [hw]
    · rw [laneN_succ, ← word_add]
      refine congrArg₂ (· + ·) ?_ ?_
      · exact Memref.read_access_whole (Elt F) cc0_scratch2 _ ▸ rfl
      · split_ifs <;> rfl
  isplitl [H5 H6]
  · isplitl [H5]; · iexact H5
    iexact H6
  iintro %_ H
  iexact H

end Cert.Proof.Mean

end
-- ==== Proof.Shared.lean ====
/-
  The SparseCore's shared scratch: row by row, and each row in sixteen shares; what the tiles hand each other at their meetings.
-/
module

public import proofs.«01_k».proof.Proof.Meet
public import proofs.«01_k».proof.Proof.Cut
public import Idealize.ShloMosaic.Lib.ShareLeaves

@[expose] public section

noncomputable section

namespace Cert.Proof.Mean

open Cert.Sc Cert.Sc.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] stages

variable {F : FTy → Type}

local notation "𝕄" => MT nD τ sig (HIx 9) (Elt F) ℕ UU ℕ

/-- Row `i` of a shared buffer. -/
def rowSet (i : Fin 16) : Finset S16x256.Idx := Finset.univ.filter fun x => (x 0).val = i.val

theorem mem_rowSet {i : Fin 16} {x : S16x256.Idx} : x ∈ rowSet i ↔ (x 0).val = i.val := by simp [rowSet]

theorem rows_disjoint : ∀ i ∈ (Finset.univ : Finset (Fin 16)), ∀ j ∈ (Finset.univ : Finset (Fin 16)), i ≠ j → Disjoint (rowSet i) (rowSet j) :=
  fun i _ j _ h => Finset.disjoint_left.mpr fun x hi hj => h (Fin.ext ((mem_rowSet.mp hi).symm.trans (mem_rowSet.mp hj)))

theorem rows_cover : (Finset.univ : Finset (Fin 16)).biUnion rowSet = Finset.univ := by
  refine Finset.eq_univ_of_forall fun x => Finset.mem_biUnion.mpr ⟨⟨(x 0).val, (x 0).isLt⟩, Finset.mem_univ _, mem_rowSet.mpr rfl⟩

/-- The sixteen shares of a row, one per tile. -/
def shr (j : Fin 16) : PosShare TreeShare := ShareLeaves.leaf 4 fullShare (finCongr (show 16 = 2 ^ 4 from rfl) j)

variable [BitOps F]

/-- An assertion's sixteen shares. -/
theorem shares {ℓ : Loc nD τ sig} (I : Finset (Idx ℓ)) (f : Buf (Elt F) ℓ) :
    (ℓ ↦[I]{fullShare} f : sProp 𝕄) = bigSep Finset.univ fun j : Fin 16 => ℓ ↦[I]{shr j} f := by
  rw [ShareLeaves.pointsTo_leaves I f 4 fullShare]
  exact bigSep_univ_equiv (finCongr (show 16 = 2 ^ 4 from rfl)) (fun i : Fin (2 ^ 4) => (ℓ ↦[I]{ShareLeaves.leaf 4 fullShare i} f : sProp 𝕄))

variable (d : Dev nD) (c : Fin τ.nSC)

/-- A buffer's rows are it, at one share. -/
theorem hs_rows (q : PosShare TreeShare) (f : Buf (Elt F) (hsLoc d c)) :
    (hsLoc d c ↦{q} f : sProp 𝕄) = bigSep Finset.univ fun i : Fin 16 => hsLoc d c ↦[rowSet i]{q} f := by
  rw [← pointsTo_biUnion Finset.univ (ℓ := hsLoc d c) rowSet rows_disjoint, rows_cover]; try rfl
theorem st_rows (q : PosShare TreeShare) (f : Buf (Elt F) (stLoc d c)) :
    (stLoc d c ↦{q} f : sProp 𝕄) = bigSep Finset.univ fun i : Fin 16 => stLoc d c ↦[rowSet i]{q} f := by
  rw [← pointsTo_biUnion Finset.univ (ℓ := stLoc d c) rowSet rows_disjoint, rows_cover]; try rfl

/-- A row is its sixteen shares. -/
theorem hs_shares (i : Fin 16) (f : Buf (Elt F) (hsLoc d c)) :
    (hsLoc d c ↦[rowSet i]{fullShare} f : sProp 𝕄) = bigSep Finset.univ fun j : Fin 16 => hsLoc d c ↦[rowSet i]{shr j} f :=
  shares (ℓ := hsLoc d c) (rowSet i) f
theorem st_shares (i : Fin 16) (f : Buf (Elt F) (stLoc d c)) :
    (stLoc d c ↦[rowSet i]{fullShare} f : sProp 𝕄) = bigSep Finset.univ fun j : Fin 16 => stLoc d c ↦[rowSet i]{shr j} f :=
  shares (ℓ := stLoc d c) (rowSet i) f

/-- Rows at contents of their own are a buffer. -/
theorem hs_join : (bigSep Finset.univ fun i : Fin 16 => iprop(∃ f, hsLoc d c ↦[rowSet i]{fullShare} f)) ⊢ (iprop(∃ f, hsLoc d c ↦{fullShare} f) : sProp 𝕄) := by
  refine (bigSep_exists_pi Finset.univ (fun i (f : Buf (Elt F) (hsLoc d c)) => (hsLoc d c ↦[rowSet i]{fullShare} f : sProp 𝕄))).trans ?_
  iintro ⟨%fs, H⟩
  ihave H' := (pointsTo_biUnion_join Finset.univ rowSet fs (fs 0) rows_disjoint) $$ H
  icases H' with ⟨%g, -, Hg⟩
  rw [rows_cover]
  iexists g; iexact Hg

/-- Rows of the totals at one share, known in their first columns, are the buffer at that share, so known. -/
theorem st_join (q : PosShare TreeShare) (st : ℕ → ℕ → F .f32) :
    (bigSep Finset.univ fun i : Fin 16 => iprop(∃ f : Buf (Elt F) (stLoc d c), ⌜∀ x ∈ rowSet i, (x 1).val < 16 → f x = st i.val (x 1).val⌝ ∗ stLoc d c ↦[rowSet i]{q} f))
      ⊢ (iprop(∃ f : Buf (Elt F) (stLoc d c), ⌜∀ x : S16x256.Idx, (x 1).val < 16 → f x = st (x 0).val (x 1).val⌝ ∗ stLoc d c ↦{q} f) : sProp 𝕄) := by
  refine (bigSep_exists_pi Finset.univ (fun i (f : Buf (Elt F) (stLoc d c)) => (iprop(⌜∀ x ∈ rowSet i, (x 1).val < 16 → f x = st i.val (x 1).val⌝ ∗ stLoc d c ↦[rowSet i]{q} f) : sProp 𝕄))).trans ?_
  iintro ⟨%fs, H⟩
  ihave H1 := (fam_unzip Finset.univ (fun i => (iprop(⌜∀ x ∈ rowSet i, (x 1).val < 16 → fs i x = st i.val (x 1).val⌝) : sProp 𝕄)) (fun i => (stLoc d c ↦[rowSet i]{q} fs i : sProp 𝕄))) $$ H
  icases H1 with ⟨#Hp, H⟩
  have hget : ∀ i : Fin 16, (bigSep Finset.univ fun i : Fin 16 => (iprop(⌜∀ x ∈ rowSet i, (x 1).val < 16 → fs i x = st i.val (x 1).val⌝) : sProp 𝕄)) ⊢ iprop(⌜∀ x ∈ rowSet i, (x 1).val < 16 → fs i x = st i.val (x 1).val⌝) :=
    fun i => fam_get (Finset.mem_univ i) _
  ihave %hp := (show (bigSep Finset.univ fun i : Fin 16 => (iprop(⌜∀ x ∈ rowSet i, (x 1).val < 16 → fs i x = st i.val (x 1).val⌝) : sProp 𝕄)) ⊢ iprop(⌜∀ i, ∀ x ∈ rowSet i, (x 1).val < 16 → fs i x = st i.val (x 1).val⌝) from
    fun ρ h i => hget i ρ h) $$ Hp
  ihave H' := (pointsTo_biUnion_join Finset.univ rowSet fs (fs 0) rows_disjoint) $$ H
  icases H' with ⟨%g, %hg, Hg⟩
  rw [rows_cover]
  iexists g
  isplitr
  · ipureintro
    intro x hx
    have hi : x ∈ rowSet ⟨(x 0).val, (x 0).isLt⟩ := mem_rowSet.mpr rfl
    exact (hg _ (Finset.mem_univ _) x hi).trans (hp _ x hi hx)
  iexact Hg

/-- The shares of a buffer, one per tile, each at contents it knows, are the buffer: shares agree. -/
theorem st_whole : (bigSep Finset.univ fun j : Fin 16 => iprop(∃ f, stLoc d c ↦{shr j} f)) ⊢ (iprop(∃ f, stLoc d c ↦{fullShare} f) : sProp 𝕄) := by
  refine (bigSep_exists_pi Finset.univ (fun j (f : Buf (Elt F) (stLoc d c)) => (stLoc d c ↦{shr j} f : sProp 𝕄))).trans ?_
  iintro ⟨%fs, H⟩
  have hag : ∀ j : Fin 16, (bigSep Finset.univ fun j : Fin 16 => (stLoc d c ↦{shr j} fs j : sProp 𝕄)) ⊢ iprop(⌜fs j = fs 0⌝) := fun j => by
    by_cases h : j = 0
    · subst h; iintro -; ipureintro; rfl
    · iintro H
      ihave H1 := (fam_out (Finset.mem_univ j) _) $$ H
      icases H1 with ⟨Hj, H⟩
      ihave H2 := (fam_out (i := (0 : Fin 16)) (Finset.mem_erase.mpr ⟨Ne.symm h, Finset.mem_univ _⟩) _) $$ H
      icases H2 with ⟨H0, -⟩
      ihave %ha := (pointsTo_agree (ℓ := stLoc d c) (I := Finset.univ) (J := Finset.univ) (f := fs j) (g := fs 0)) $$ [Hj H0]
      · isplitl [Hj]; · iexact Hj
        iexact H0
      ipureintro
      exact funext fun x => (ha x (by simp)).1
  ihave %he := (show (bigSep Finset.univ fun j : Fin 16 => (stLoc d c ↦{shr j} fs j : sProp 𝕄)) ⊢ iprop(⌜∀ j, fs j = fs 0⌝) from fun ρ h j => hag j ρ h) $$ H
  iexists fs 0
  have e : (bigSep Finset.univ fun j : Fin 16 => (stLoc d c ↦{shr j} fs j : sProp 𝕄)) = (stLoc d c ↦{fullShare} fs 0 : sProp 𝕄) := by
    refine (bigSep_congr fun j _ => by rw [he j]).trans (shares (ℓ := stLoc d c) Finset.univ (fs 0)).symm
  iapply (Entails.of_eq e); iexact H

/-! ## What is handed over -/

/-- The merged histograms of round `r`, as the shared buffer holds them. -/
def hsBuf (hs : ℕ → ℕ → ℕ → ℕ) (r : ℕ) : Buf (Elt F) (hsLoc d c) := fun x => BitVec.ofNat 32 (hs r (x 0).val (x 1).val)

/-- What tile `s` hands tile `j` at meeting `b`: at the first of a round, a share of its row of the histograms; at the second, that share of
    the receiver's row back; at the last, a share of its row of the totals. -/
def pay (hs : ℕ → ℕ → ℕ → ℕ) (st : ℕ → ℕ → F .f32) (x : Dep) (j : Fin 16) : sProp 𝕄 :=
  if x.2.2.1 = 8 then iprop(∃ f : Buf (Elt F) (stLoc x.1 x.2.1), ⌜∀ y ∈ rowSet x.2.2.2, (y 1).val < 16 → f y = st x.2.2.2.val (y 1).val⌝ ∗ stLoc x.1 x.2.1 ↦[rowSet x.2.2.2]{shr j} f)
  else if x.2.2.1 % 2 = 0 then hsLoc x.1 x.2.1 ↦[rowSet x.2.2.2]{shr j} hsBuf x.1 x.2.1 hs (x.2.2.1 / 2)
  else hsLoc x.1 x.2.1 ↦[rowSet j]{shr x.2.2.2} hsBuf x.1 x.2.1 hs (x.2.2.1 / 2)

instance pay_storable (hs : ℕ → ℕ → ℕ → ℕ) (st : ℕ → ℕ → F .f32) (x : Dep) (j : Fin 16) : BI.Storable (upEmb : UEmb _ 𝕄) (pay hs st x j) := by
  unfold pay; split_ifs <;> infer_instance

theorem pay_row (hs : ℕ → ℕ → ℕ → ℕ) (st : ℕ → ℕ → F .f32) {r : ℕ} (hr : r < 4) (s : Fin 16) :
    (bigSep Finset.univ fun j : Fin 16 => pay hs st (d, c, 2 * r, s) j) = (hsLoc d c ↦[rowSet s]{fullShare} hsBuf d c hs r : sProp 𝕄) := by
  rw [hs_shares]
  refine bigSep_congr fun j _ => ?_
  unfold pay
  rw [if_neg (show ¬ 2 * r = 8 by omega), if_pos (show 2 * r % 2 = 0 by omega), show 2 * r / 2 = r by omega]

theorem pay_all (hs : ℕ → ℕ → ℕ → ℕ) (st : ℕ → ℕ → F .f32) {r : ℕ} (hr : r < 4) (j : Fin 16) :
    (bigSep Finset.univ fun s : Fin 16 => pay hs st (d, c, 2 * r, s) j) = (hsLoc d c ↦{shr j} hsBuf d c hs r : sProp 𝕄) := by
  rw [hs_rows]
  refine bigSep_congr fun s _ => ?_
  unfold pay
  rw [if_neg (show ¬ 2 * r = 8 by omega), if_pos (show 2 * r % 2 = 0 by omega), show 2 * r / 2 = r by omega]

theorem back_all (hs : ℕ → ℕ → ℕ → ℕ) (st : ℕ → ℕ → F .f32) {r : ℕ} (hr : r < 4) (s : Fin 16) :
    (bigSep Finset.univ fun j : Fin 16 => pay hs st (d, c, 2 * r + 1, s) j) = (hsLoc d c ↦{shr s} hsBuf d c hs r : sProp 𝕄) := by
  rw [hs_rows]
  refine bigSep_congr fun j _ => ?_
  unfold pay
  rw [if_neg (show ¬ 2 * r + 1 = 8 by omega), if_neg (show ¬ (2 * r + 1) % 2 = 0 by omega), show (2 * r + 1) / 2 = r by omega]

theorem back_row (hs : ℕ → ℕ → ℕ → ℕ) (st : ℕ → ℕ → F .f32) {r : ℕ} (hr : r < 4) (j : Fin 16) :
    (bigSep Finset.univ fun s : Fin 16 => pay hs st (d, c, 2 * r + 1, s) j) = (hsLoc d c ↦[rowSet j]{fullShare} hsBuf d c hs r : sProp 𝕄) := by
  rw [hs_shares]
  refine bigSep_congr fun s _ => ?_
  unfold pay
  rw [if_neg (show ¬ 2 * r + 1 = 8 by omega), if_neg (show ¬ (2 * r + 1) % 2 = 0 by omega), show (2 * r + 1) / 2 = r by omega]

/-- A row of the totals left: its shares, -/
theorem pay_stats (hs : ℕ → ℕ → ℕ → ℕ) (st : ℕ → ℕ → F .f32) (s : Fin 16) (f : Buf (Elt F) (stLoc d c)) (hf : ∀ y ∈ rowSet s, (y 1).val < 16 → f y = st s.val (y 1).val) :
    (stLoc d c ↦[rowSet s]{fullShare} f) ⊢ (bigSep Finset.univ fun j : Fin 16 => pay hs st (d, c, 8, s) j : sProp 𝕄) := by
  rw [st_shares]
  refine fam_mono fun j _ => ?_
  unfold pay
  rw [if_pos rfl]
  iintro H
  iexists f
  isplitr; · ipureintro; exact hf
  iexact H

/-- and all rows' shares found. -/
theorem got_stats (hs : ℕ → ℕ → ℕ → ℕ) (st : ℕ → ℕ → F .f32) (j : Fin 16) :
    (bigSep Finset.univ fun s : Fin 16 => pay hs st (d, c, 8, s) j)
      ⊢ (iprop(∃ f : Buf (Elt F) (stLoc d c), ⌜∀ x : S16x256.Idx, (x 1).val < 16 → f x = st (x 0).val (x 1).val⌝ ∗ stLoc d c ↦{shr j} f) : sProp 𝕄) := by
  refine BI.Entails.trans (fam_mono fun s _ => ?_) (st_join d c (shr j) st)
  unfold pay
  rw [if_pos rfl]

/-! ## A tile's row, as the tile addresses it -/

variable (L : grid0.Coords)

theorem rowView_set (off : Fin 2 → ℕ) (inb : ∀ a, off a + S1x256.size a ≤ S16x256.size a) (h0 : off 0 = (L 1).val) (h1 : off 1 = 0) :
    (Rect.unit (s := S16x256) off S1x256.size inb).set = rowSet (Fin.cast rfl (L 1)) := by
  ext x
  rw [Rect.mem_set_unit, mem_rowSet]
  constructor
  · intro h
    have := h 0
    have h2 : x 0 < off 0 + 1 := this.2
    show (x 0).val = (L 1).val
    have h3 := this.1
    omega
  · intro h a
    have h' : (x 0).val = (L 1).val := h
    match a with
    | ⟨0, _⟩ => exact ⟨by show off 0 ≤ (x 0).val; omega, by show (x 0).val < off 0 + 1; omega⟩
    | ⟨1, _⟩ => exact ⟨by show off 1 ≤ (x 1).val; omega, by have := (x 1).isLt; show (x 1).val < off 1 + 256; rw [h1, zero_add]; exact this⟩

end Cert.Proof.Mean

end
-- ==== Proof.Round.lean ====
/-
  One round of the choice, on one tile: its keys counted, the counts merged and shared, everyone's counts read, the next eight bits chosen.
-/
module

public import proofs.«01_k».proof.Proof.Choose
public import proofs.«01_k».proof.Proof.Hist
public import proofs.«01_k».proof.Proof.Radix
public import proofs.«01_k».proof.Proof.Shared

@[expose] public section

noncomputable section

namespace Cert.Proof.Mean

open Cert.Sc Cert.Sc.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] stages

variable {F : FTy → Type}

local notation "𝕄" => MT nD τ sig (HIx 9) (Elt F) ℕ UU ℕ

variable [BitOps F]
variable (d : Dev nD) (L : grid0.Coords)

/-- The merged histograms, round by round, tile by tile, of the tiles' keys. -/
def hsOf (κ : ℕ → ℕ → BitVec 32) (r s b : ℕ) : ℕ := tileN (κ s) r (radix κ r).1 (mask r) b

abbrev rowR (h1 : k0_cond1 L = 1#1) : Rect S16x256 := Rect.unit (s := S16x256) (k0_off7 L) S1x256.size (k0_off7_inb L h1)
/-- The tile's row of the shared histograms, as the tile addresses it. -/
abbrev rowM (h1 : k0_cond1 L = 1#1) : Memref sig .scVector .shared S256 .i32 := ((a12).slice (rowR L h1) (fun _ => rfl)).squeeze S256 squeezes_S1x256_S256

theorem set_rowM (h1 : k0_cond1 L = 1#1) : (rowM L h1).view.set = rowSet (jL L) := by
  show (((a12).view.slice (rowR L h1)).reshape S256 squeezes_S1x256_S256.numel_eq).set = _
  rw [View.set_reshape, View.set_slice]
  exact Finset.map_refl.trans (rowView_set L _ _ (by rw [k0_off7_eq]; rfl) (by rw [k0_off7_eq]; rfl))

theorem pts_rowM (h1 : k0_cond1 L = 1#1) (f : Buf (Elt F) (hsLoc d (cV L))) :
    ((rowM L h1).view.loc (tV d L) ↦[(rowM L h1).view.set]{fullShare} f : sProp 𝕄) = hsLoc d (cV L) ↦[rowSet (jL L)]{fullShare} f := by
  rw [set_rowM]; rfl

/-- A place of the row, in the buffer. -/
theorem rowM_emb (h1 : k0_cond1 L = 1#1) (y : S256.Idx) : ((rowM L h1).view.emb y 0).val = (L 1).val ∧ ((rowM L h1).view.emb y 1).val = (y 0).val := by
  have e : (rowM L h1).view.emb y = (rowR L h1).emb (Fin.cons ⟨0, Nat.one_pos⟩ y) :=
    congrArg (rowR L h1).emb (Shape.reshapeEquiv_cons_one (d := ![256]) squeezes_S1x256_S256.numel_eq y)
  rw [e]
  constructor
  · show k0_off7 L 0 + 1 * 0 = _
    rw [k0_off7_eq]; rfl
  · show k0_off7 L 1 + 1 * (y 0).val = _
    rw [k0_off7_eq]; show 0 + 1 * (y 0).val = _; omega

/-- The row written whole holds what was written. -/
theorem rowM_write (h1 : k0_cond1 L = 1#1) (fr : Buf (Elt F) (hsLoc d (cV L))) (w : S256.Idx → BitVec 32) (H : Buf (Elt F) (hsLoc d (cV L)))
    (hw : ∀ x : S16x256.Idx, ∀ y : S256.Idx, (x 0).val = (L 1).val → (x 1).val = (y 0).val → w y = H x) :
    ((rowM L h1).view.loc (tV d L) ↦[(rowM L h1).view.set]{fullShare} (rowM L h1).view.writes (Elt F) fr [⟨Rect.whole S256, w⟩] : sProp 𝕄) = hsLoc d (cV L) ↦[rowSet (jL L)]{fullShare} H := by
  rw [← pts_rowM]
  refine pointsTo_congr fun x hx => ?_
  obtain ⟨y, -, rfl⟩ := Finset.mem_map.mp hx
  have e := View.read_writes_cons_emb (Val := Elt F) (rowM L h1).view fr (Rect.whole S256) w [] y
  have ey : (Rect.whole S256).emb y = y := funext fun a => Fin.ext (show 0 + 1 * (y a).val = (y a).val by omega)
  rw [ey] at e
  exact e.trans (hw _ y (rowM_emb L h1 y).1 (rowM_emb L h1 y).2)

/-- What the waits of a task's rounds are recorded at. -/
def Met (W W' : Waits sig (HIx 9)) : Prop := ∀ p ∈ W', p ∈ W ∨ p.2 = none ∨ ∃ b, p.2 = some (stg b)

theorem Met.refl (W : Waits sig (HIx 9)) : Met W W := fun _ h => .inl h
theorem Met.trans {W W' W'' : Waits sig (HIx 9)} (h : Met W W') (h' : Met W' W'') : Met W W'' := fun p hp => (h' p hp).elim (h p) .inr
theorem Met.none {W W' : Waits sig (HIx 9)} (h : Met W W') (s : SemLoc sig) : Met W (insert (s, (default : HIx 9)) W') := fun p hp =>
  (Finset.mem_insert.mp hp).elim (fun e => .inr (.inl (by rw [e]; rfl))) (h p)
theorem Met.some {W W' : Waits sig (HIx 9)} (h : Met W W') (s : SemLoc sig) (b : ℕ) : Met W (insert (s, some (stg b)) W') := fun p hp =>
  (Finset.mem_insert.mp hp).elim (fun e => .inr (.inr ⟨b, by rw [e]⟩)) (h p)

/-- The meeting, where the tile's program names it. -/
theorem meet_at (pay : Dep → Fin 16 → sProp (MT nD τ sig (HIx 9) (Elt F) ℕ UU ℕ)) {b : ℕ} (hb : b < 9) (κ : GSem nD τ sig → ℕ) (κe : Dep → ℕ) (O : CellTallies nD τ sig (HIx 9))
    (W : Waits sig (HIx 9)) (hOlev : ∀ g ι, 0 < O g ι → 70 ≤ (K (F := F)).lev g ι) {α : Type} {Q : α → sProp (MT nD τ sig (HIx 9) (Elt F) ℕ UU ℕ)}
    {k : PUnit → Prog (TpuEff nD τ sig (Elt F) Λ₀ (tV d L).2) α} :
    iprop(common pay d (cV L) κ κe ∗ levAts (K (F := F)).L (K (F := F)).lev ∗ mst (F := F) d (cV L) (jL L) b ∗ owes (tV d L) (O + owed d (cV L) b) W
        ∗ bigSep Finset.univ fun j : Fin 16 => pay (d, cV L, b, jL L) j)
      ⊢ iprop((iprop(mst (F := F) d (cV L) (jL L) (b + 1) ∗ owes (tV d L) (O + owed d (cV L) (b + 1)) (insert (SemLoc.reg sc_bar0, some (stg b)) W)
            ∗ bigSep Finset.univ fun s : Fin 16 => pay (d, cV L, b, s) (jL L))
          -∗ wp frame (wpE (defs₀ (F := F)) 𝒱₀ (tV d L) none) Set.univ (k ⟨⟩) Q)
        -∗ wp frame (wpE (defs₀ (F := F)) 𝒱₀ (tV d L) none) Set.univ (SparseCore.subcoreBarrier sc_bar0 (grid0.bound 1) hsub0 >>= k) Q) :=
  wp_meet pay 𝒱₀ none d (cV L) (jL L) hb κ κe hsub0 O W hOlev

theorem part1_out : ∀ r : Fin k0_t3_loop.trips,
    (⟨Scalar.subi 24#32 (Scalar.muli 8#32 (Scf.iv 0#32 1#32 r.val)), Scalar.select (Scalar.cmpi CmpIPredicate.eq (Scf.iv 0#32 1#32 r.val) 0#32) 128#32 0#32⟩ : Σ' (_ : BitVec 32), BitVec 32)
      = ⟨BitVec.ofNat 32 (24 - 8 * r.val), turn r.val⟩ := by
  have h : ∀ r : Fin 4, Scalar.subi 24#32 (Scalar.muli 8#32 (Scf.iv 0#32 1#32 r.val)) = BitVec.ofNat 32 (24 - 8 * r.val)
      ∧ Scalar.select (Scalar.cmpi CmpIPredicate.eq (Scf.iv 0#32 1#32 r.val) 0#32) 128#32 0#32 = turn r.val := by decide
  intro r
  obtain ⟨h1, h2⟩ := h r
  rw [h1, h2]

theorem wp_part1 (h1 : k0_cond1 L = 1#1) (r : Fin k0_t3_loop.trips) (κ : ℕ → ℕ → BitVec 32) (st : ℕ → ℕ → F .f32) (κi : GSem nD τ sig → ℕ) (κe : Dep → ℕ)
    (O : CellTallies nD τ sig (HIx 9)) (W : Waits sig (HIx 9)) (hO : ∀ g, O g none = 0) (hOlev : ∀ g ι, 0 < O g ι → 70 ≤ (K (F := F)).lev g ι) (f7 : Buf (Elt F) ((tV d L).loc cc0_scratch3))
    (f8 : Buf (Elt F) ((tV d L).loc cc0_scratch4)) (fr : Buf (Elt F) (hsLoc d (cV L))) :
    iprop(common (pay (hsOf κ) st) d (cV L) κi κe ∗ levAts (K (F := F)).L (K (F := F)).lev ∗ mst (F := F) d (cV L) (jL L) (2 * r.val) ∗ owes (tV d L) (O + owed d (cV L) (2 * r.val)) W
        ∗ ((a5).view.loc (tV d L) ↦{fullShare} fun n => κ (L 1).val (n 0).val) ∗ ((a6).view.loc (tV d L) ↦{fullShare} fun _ => (0#32 : BitVec 32))
        ∗ ((a7).view.loc (tV d L) ↦{fullShare} f7) ∗ ((a8).view.loc (tV d L) ↦{fullShare} f8) ∗ (hsLoc d (cV L) ↦[rowSet (jL L)]{fullShare} fr)
        ∗ semVal ((tV d L, .dma cc0_scoped1.sem) : GSem nD τ sig) 0 ∗ semVal ((tV d L, .dma cc0_scoped2.sem) : GSem nD τ sig) 0)
      ⊢ (wp frame (wpE (defs₀ (F := F)) 𝒱₀ (tV d L) none) Set.univ
          (k0_part1 L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5 h1 k0_pay27 k0_pay28 k0_pay29 0#32 1#32 r (radix κ r.val).1 (mask r.val))
          fun q => iprop(mst (F := F) d (cV L) (jL L) (2 * (r.val + 1)) ∗ (∃ W', ⌜Met W W'⌝ ∗ owes (tV d L) (O + owed d (cV L) (2 * (r.val + 1))) W')
            ∗ ((a5).view.loc (tV d L) ↦{fullShare} fun n => κ (L 1).val (n 0).val) ∗ ((a6).view.loc (tV d L) ↦{fullShare} fun _ => (0#32 : BitVec 32))
            ∗ (∃ f7, (a7).view.loc (tV d L) ↦{fullShare} f7) ∗ ((a8).view.loc (tV d L) ↦{fullShare} fun i => BitVec.ofNat 32 (hsOf κ r.val (i 0).val (i 1).val))
            ∗ (∃ fr, hsLoc d (cV L) ↦[rowSet (jL L)]{fullShare} fr)
            ∗ semVal ((tV d L, .dma cc0_scoped1.sem) : GSem nD τ sig) 0 ∗ semVal ((tV d L, .dma cc0_scoped2.sem) : GSem nD τ sig) 0
            ∗ ⌜q = ⟨BitVec.ofNat 32 (24 - 8 * r.val), turn r.val⟩⌝) : sProp 𝕄) := by
  have hr : r.val < 4 := r.isLt
  have hO1 : ∀ b g, (O + owed d (cV L) b) g none = 0 := fun b g => by rw [Pi.add_apply, Finsupp.add_apply, hO g, owed_none]
  rw [k0_part1_eq_skeleton]
  unfold k0_part1_skel
  iintro ⟨#Hcom, #Hlv, Hm, HO, H5, H6, H7, H8, Hrow, Hs1, Hs2⟩
  iapply (cut (F := F) d L (wp_scatter (F := F) d L h1 r (radix κ r.val).1 (mask r.val) (κ (L 1).val))) $$ [H5 H6]
  · isplitl [H5] <;> iassumption
  iintro %_ ⟨H5, H6⟩
  sl_exec
  iapply (cut (F := F) d L (wp_collect (F := F) d L h1 r (radix κ r.val).1 (mask r.val) (fun l b => laneN (κ (L 1).val) r.val (radix κ r.val).1 (mask r.val) 64 l b) f7)) $$ [H6 H7]
  · isplitl [H6] <;> iassumption
  iintro %_ ⟨H6, H7⟩
  ihave Hmw1 := (show levAts (K (F := F)).L (K (F := F)).lev ⊢ Transfers.MayWaits (tV d L) (default : HIx 9) (O + owed d (cV L) (2 * r.val)) from
    (K (F := F)).mayWaits_none (thr := tV d L) (hO1 _)) $$ Hlv
  ihave Hrow' := (Entails.of_eq (pts_rowM (F := F) d L h1 _).symm) $$ Hrow
  sl_exec
  have hw : ∀ x : S16x256.Idx, ∀ y : S256.Idx, (x 0).val = (L 1).val → (x 1).val = (y 0).val →
      (BitVec.ofNat 32 (∑ l ∈ Finset.range 16, laneN (κ (L 1).val) r.val (radix κ r.val).1 (mask r.val) 64 l (y 0).val)) = hsBuf (F := F) d (cV L) (hsOf κ) r.val x := by
    intro x y h0 h1
    unfold hsBuf hsOf tileN
    rw [h0, h1]
  ihave Hrow := (Entails.of_eq (rowM_write (F := F) d L h1 fr (wp_part1.sl.dma0 (F := F) d L r κ) _ hw)) $$ Hrow'
  ihave Hpay := (Entails.of_eq (pay_row (F := F) d (cV L) (hsOf κ) st hr (jL L)).symm) $$ Hrow
  iapply (meet_at (F := F) d L (pay (hsOf κ) st) (show 2 * r.val < 9 by omega) κi κe O _ hOlev) $$ [Hm HO Hpay]
  · isplitr; · iexact Hcom
    isplitr; · iexact Hlv
    isplitl [Hm]; · iexact Hm
    isplitl [HO]; · iexact HO
    iexact Hpay
  iintro ⟨Hm, HO, Hgot⟩
  ihave Hsh := (Entails.of_eq (pay_all (F := F) d (cV L) (hsOf κ) st hr (jL L))) $$ Hgot
  ihave Hsh' := (Entails.of_eq (show (hsLoc d (cV L) ↦{shr (jL L)} hsBuf (F := F) d (cV L) (hsOf κ) r.val : sProp 𝕄) = ((a12).view.loc (tV d L) ↦{shr (jL L)} hsBuf (F := F) d (cV L) (hsOf κ) r.val) from rfl)) $$ Hsh
  ihave Hmw2 := (show levAts (K (F := F)).L (K (F := F)).lev ⊢ Transfers.MayWaits (tV d L) (default : HIx 9) (O + owed d (cV L) (2 * r.val + 1)) from
    (K (F := F)).mayWaits_none (thr := tV d L) (hO1 _)) $$ Hlv
  sl_exec
  ihave H8' := (Entails.of_eq (congrArg (fun f => ((a8).view.loc (tV d L) ↦{fullShare} f : sProp 𝕄)) (View.write_whole_univ (Val := Elt F) cc0_scratch4 f8 (wp_part1.sl.dma0_1 (F := F) d L r κ)))) $$ H8
  ihave Hsh := (Entails.of_eq (show ((a12).view.loc (tV d L) ↦{shr (jL L)} hsBuf (F := F) d (cV L) (hsOf κ) r.val : sProp 𝕄) = (hsLoc d (cV L) ↦{shr (jL L)} hsBuf (F := F) d (cV L) (hsOf κ) r.val) from rfl)) $$ Hsh'
  ihave Hpay := (Entails.of_eq (back_all (F := F) d (cV L) (hsOf κ) st hr (jL L)).symm) $$ Hsh
  iapply (meet_at (F := F) d L (pay (hsOf κ) st) (show 2 * r.val + 1 < 9 by omega) κi κe O _ hOlev) $$ [Hm HO Hpay]
  · isplitr; · iexact Hcom
    isplitr; · iexact Hlv
    isplitl [Hm]; · iexact Hm
    isplitl [HO]; · iexact HO
    iexact Hpay
  iintro ⟨Hm, HO, Hgot⟩
  ihave Hrow := (Entails.of_eq (back_row (F := F) d (cV L) (hsOf κ) st hr (jL L))) $$ Hgot
  sl_step
  isplitl [Hm]; · iexact Hm
  isplitl [HO]
  · iexists _
    isplitr
    swap; · iexact HO
    ipureintro
    exact (((((Met.refl W).none _).some _ _).none _).some _ _)
  isplitl [H5]; · iexact H5
  isplitl [H6]; · iexact H6
  isplitl [H7]; · iexists _; iexact H7
  isplitl [H8']; · iexact H8'
  isplitl [Hrow]; · iexists _; iexact Hrow
  isplitl [Hs1]; · iexact Hs1
  isplitl [Hs2]; · iexact Hs2
  ipureintro
  exact part1_out r

theorem shl_at (v : BitVec 32) : ∀ r : Fin 4, Scalar.shli v (BitVec.ofNat 32 (24 - 8 * r.val)) = v <<< (24 - 8 * r.val) := by
  have h : ∀ r : Fin 4, (BitVec.ofNat 32 (24 - 8 * r.val)).toNat = 24 - 8 * r.val ∧ 24 - 8 * r.val < 32 := by decide
  intro r
  obtain ⟨h1, h2⟩ := h r
  show (if (BitVec.ofNat 32 (24 - 8 * r.val)).toNat < 32 then _ else _) = _
  rw [if_pos (by rw [h1]; exact h2)]
  show v <<< (BitVec.ofNat 32 (24 - 8 * r.val)).toNat = _
  rw [h1]

/-- A round's new state, in words. -/
theorem next_state (κ : ℕ → ℕ → BitVec 32) (r : Fin 4) :
    let G := allN κ r.val (radix κ r.val).1 (mask r.val)
    let b := pick G (radix κ r.val).2
    (Scalar.ori (radix κ r.val).1 (Scalar.shli ((BitVec.ofNat 32 b ^^^ turn r.val) &&& 255#32) (BitVec.ofNat 32 (24 - 8 * r.val))),
      Scalar.ori (mask r.val) (Scalar.shli 255#32 (BitVec.ofNat 32 (24 - 8 * r.val))),
      Scalar.subi (BitVec.ofNat 32 (radix κ r.val).2) (BitVec.ofNat 32 (above G b)))
      = ((radix κ (r.val + 1)).1, mask (r.val + 1), BitVec.ofNat 32 (radix κ (r.val + 1)).2) := by
  intro G b
  have hP : Pick G (radix κ r.val).2 b := (inv_radix κ r.val (by omega)).pick
  rw [shl_at, shl_at]
  have h3 : Scalar.subi (BitVec.ofNat 32 (radix κ r.val).2) (BitVec.ofNat 32 (above G b)) = BitVec.ofNat 32 (radix κ (r.val + 1)).2 := by
    have h2 : BitVec.ofNat 32 (radix κ r.val).2 = BitVec.ofNat 32 ((radix κ r.val).2 - above G b) + BitVec.ofNat 32 (above G b) := by
      rw [word_add]; congr 1; have := hP.2.1; omega
    show BitVec.ofNat 32 (radix κ r.val).2 - BitVec.ofNat 32 (above G b) = BitVec.ofNat 32 ((radix κ r.val).2 - above G b)
    rw [h2, BitVec.add_sub_cancel]
  rw [h3]
  rfl

theorem tail_le (κ : ℕ → ℕ → BitVec 32) (r : ℕ) (p fm : BitVec 32) : tail (allN κ r p fm) 0 ≤ 16384 := by
  have e : tail (allN κ r p fm) 0 = ∑ b ∈ Finset.range 256, allN κ r p fm b := by
    unfold tail
    rw [Finset.range_eq_Ico]
  rw [e, sum_all, ← countN_true κ]
  refine Finset.sum_le_sum fun s _ => Finset.sum_le_sum fun l _ => Finset.card_le_card ?_
  intro m hm
  rw [Finset.mem_filter] at hm ⊢
  exact ⟨hm.1, trivial⟩

/-- The state before round `r`. -/
def stateW (κ : ℕ → ℕ → BitVec 32) (r : ℕ) : BitVec 32 × BitVec 32 × BitVec 32 := ((radix κ r).1, mask r, BitVec.ofNat 32 (radix κ r).2)

/-- What a tile holds between rounds. -/
def mid (κ : ℕ → ℕ → BitVec 32) (O : CellTallies nD τ sig (HIx 9)) (W : Waits sig (HIx 9)) (r : ℕ) : sProp 𝕄 :=
  iprop(mst (F := F) d (cV L) (jL L) (2 * r) ∗ (∃ W', ⌜Met W W'⌝ ∗ owes (tV d L) (O + owed d (cV L) (2 * r)) W')
    ∗ ((a5).view.loc (tV d L) ↦{fullShare} fun n => κ (L 1).val (n 0).val) ∗ ((a6).view.loc (tV d L) ↦{fullShare} fun _ => (0#32 : BitVec 32))
    ∗ (∃ f7, (a7).view.loc (tV d L) ↦{fullShare} f7) ∗ (∃ f8, (a8).view.loc (tV d L) ↦{fullShare} f8) ∗ (∃ fr, hsLoc d (cV L) ↦[rowSet (jL L)]{fullShare} fr)
    ∗ semVal ((tV d L, .dma cc0_scoped1.sem) : GSem nD τ sig) 0 ∗ semVal ((tV d L, .dma cc0_scoped2.sem) : GSem nD τ sig) 0)

set_option maxHeartbeats 1600000 in
/-- The four rounds choose the whole key. -/
theorem wp_rounds (h1 : k0_cond1 L = 1#1) (κ : ℕ → ℕ → BitVec 32) (st : ℕ → ℕ → F .f32) (κi : GSem nD τ sig → ℕ) (κe : Dep → ℕ)
    (O : CellTallies nD τ sig (HIx 9)) (W : Waits sig (HIx 9)) (hO : ∀ g, O g none = 0) (hOlev : ∀ g ι, 0 < O g ι → 70 ≤ (K (F := F)).lev g ι) :
    iprop(common (pay (hsOf κ) st) d (cV L) κi κe ∗ levAts (K (F := F)).L (K (F := F)).lev ∗ mid (F := F) d L κ O W 0)
      ⊢ (wp frame (wpE (defs₀ (F := F)) 𝒱₀ (tV d L) none) Set.univ
          (Scf.Loop.for k0_t3_loop (k0_t3_ok L h1) (0#32, 0#32, 11468#32) (k0_t3_body L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5 (BitVec.ofNat 32 (L 1).val) h1 lanesI))
          fun acc => iprop(mid (F := F) d L κ O W 4 ∗ ⌜acc = stateW κ 4⌝) : sProp 𝕄) := by
  unfold k0_t3_body
  iintro ⟨#Hcom, #Hlv, Hmid⟩
  sl_for (fun n (acc : BitVec 32 × BitVec 32 × BitVec 32) => iprop(common (pay (hsOf κ) st) d (cV L) κi κe ∗ levAts (K (F := F)).L (K (F := F)).lev ∗ mid (F := F) d L κ O W n ∗ ⌜acc = stateW κ n⌝)) $$ [Hmid]
  case region =>
    intro r acc
    have hr : r.val < 4 := r.isLt
    have hP : Pick (allN κ r.val (radix κ r.val).1 (mask r.val)) (radix κ r.val).2 (pick (allN κ r.val (radix κ r.val).1 (mask r.val)) (radix κ r.val).2) := (inv_radix κ r.val (by omega)).pick
    iintro ⟨#Hcom, #Hlv, Hmid, %hacc⟩
    subst hacc
    unfold mid
    icases Hmid with ⟨Hm, ⟨%W1, %hW1, HO⟩, H5, H6, ⟨%f7, H7⟩, ⟨%f8, H8⟩, ⟨%fr, Hrow⟩, Hs1, Hs2⟩
    iapply (cut (F := F) d L (wp_part1 (F := F) d L h1 r κ st κi κe O W1 hO hOlev f7 f8 fr)) $$ [Hm HO H5 H6 H7 H8 Hrow Hs1 Hs2]
    · isplitr; · iexact Hcom
      isplitr; · iexact Hlv
      isplitl [Hm]; · iexact Hm
      isplitl [HO]; · iexact HO
      isplitl [H5]; · iexact H5
      isplitl [H6]; · iexact H6
      isplitl [H7]; · iexact H7
      isplitl [H8]; · iexact H8
      isplitl [Hrow]; · iexact Hrow
      isplitl [Hs1]; · iexact Hs1
      iexact Hs2
    iintro %q ⟨Hm, ⟨%W2, %hW2, HO⟩, H5, H6, ⟨%f7', H7⟩, H8, Hrow, Hs1, Hs2, %hq⟩
    subst hq
    dsimp only
    iapply (cut (F := F) d L (wp_part2 (F := F) d L h1 (hsOf κ r.val) (allN κ r.val (radix κ r.val).1 (mask r.val)) (fun _ => rfl) f7')) $$ [H7 H8]
    · isplitl [H8]; · iexact H8
      iexact H7
    iintro %q ⟨H8, H7, %hq⟩
    subst hq
    dsimp only
    iapply (cut (F := F) d L (wp_part3 (F := F) d L (allN κ r.val (radix κ r.val).1 (mask r.val)) (BitVec.ofNat 32 (radix κ r.val).2))) $$ [H7]
    · iexact H7
    iintro %q ⟨H7, %hq⟩
    subst hq
    dsimp only
    rw [part4_eq (F := F) L (totW (allN κ r.val (radix κ r.val).1 (mask r.val)))]
    rw [pure_bind]
    dsimp only
    rw [part5_eq (F := F) L (totW (allN κ r.val (radix κ r.val).1 (mask r.val))), pure_bind]
    dsimp only
    rw [chain_chunk hP (tail_le κ r.val (radix κ r.val).1 (mask r.val)), chain_suf hP (tail_le κ r.val (radix κ r.val).1 (mask r.val))]
    iapply (cut (F := F) d L (wp_part6 (F := F) d L hP (tail_le κ r.val (radix κ r.val).1 (mask r.val)) h1 (turn r.val) _)) $$ [H7]
    · iexact H7
    iintro %q ⟨H7, %hq⟩
    subst hq
    sl_step
    isplitr; · iexact Hcom
    isplitr; · iexact Hlv
    isplitl [Hm HO H5 H6 H7 H8 Hrow Hs1 Hs2]
    · isplitl [Hm]; · iexact Hm
      isplitl [HO]
      · iexists _
        isplitr
        swap; · iexact HO
        ipureintro
        exact hW1.trans hW2
      isplitl [H5]; · iexact H5
      isplitl [H6]; · iexact H6
      isplitl [H7]; · iexists _; iexact H7
      isplitl [H8]; · iexists _; iexact H8
      isplitl [Hrow]; · iexact Hrow
      isplitl [Hs1]; · iexact Hs1
      iexact Hs2
    ipureintro
    exact next_state κ r
  isplitl [Hmid]
  · isplitr; · iexact Hcom
    isplitr; · iexact Hlv
    isplitl [Hmid]; · iexact Hmid
    ipureintro
    rfl
  iintro %acc ⟨_, _, Hmid, %hacc⟩
  isplitl [Hmid]; · iexact Hmid
  ipureintro
  exact hacc

end Cert.Proof.Mean

end
-- ==== Proof.Fetch.lean ====
/-
  The loops that prepare a task's scratch: the losses' keys, the zeroed histogram.
-/
module

public import proofs.«01_k».proof.Proof.Rows

@[expose] public section

noncomputable section

namespace Cert.Proof.Mean

open Cert.Sc Cert.Sc.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] stages

variable {F : FTy → Type}

local notation "𝕄" => MT nD τ sig (HIx 9) (Elt F) ℕ UU ℕ

variable [BitOps F]
variable (d : Dev nD) (L : grid0.Coords)

/-- The keys of sixteen lanes of losses. -/
theorem pay30_apply (v : Vec F S16 .f32) (j : S16.Idx) : k0_pay30 v j = keyW (v j) := by
  show Scalar.select (IntOp.cmpi .slt (BitOps.toBits (v j)) 0#32) _ _ = _
  unfold Scalar.select keyW IntOp.cmpi
  by_cases h : (BitOps.toBits (v j)).slt 0#32 <;> simp [h] <;> rfl

/-- The keys' loop: from a tile's losses their keys. -/
theorem wp_keys (h1 : k0_cond1 L = 1#1) (x : ℕ → F .f32) (f5 : Buf (Elt F) ((tV d L).loc cc0_scratch1)) :
    iprop(((a4).view.loc (tV d L) ↦{fullShare} fun n => x (n 0).val) ∗ ((a5).view.loc (tV d L) ↦{fullShare} f5))
      ⊢ (wp frame (wpE (defs₀ (F := F)) 𝒱₀ (tV d L) none) Set.univ
          (Scf.Loop.for k0_t1_loop (k0_t1_ok L h1) ⟨⟩ (k0_t1_body L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5 (BitVec.ofNat 32 (L 1).val) h1))
          fun _ => iprop(((a4).view.loc (tV d L) ↦{fullShare} fun n => x (n 0).val) ∗ ((a5).view.loc (tV d L) ↦{fullShare} fun n => keyW (x (n 0).val))) : sProp 𝕄) := by
  unfold k0_t1_body
  iintro ⟨H4, H5⟩
  sl_for (fun k (_ : Unit) => iprop(((a4).view.loc (tV d L) ↦{fullShare} fun n => x (n 0).val)
    ∗ ∃ f, ((a5).view.loc (tV d L) ↦{fullShare} f) ∗ ⌜∀ n : S1024.Idx, (n 0).val < 16 * k → f n = keyW (x (n 0).val)⌝)) $$ [H4 H5]
  case region =>
    intro k acc
    iintro ⟨H4, %f, H5, %hf⟩
    sl_exec
    sl_step
    isplitl [H4]; · iexact H4
    iexists _
    isplitl [H5]; · iexact H5
    ipureintro
    intro n hn
    refine (store_row (o := 16 * k.val) a5.view f _ _ _ (fun l => keyW (x (16 * k.val + l))) (fun j => ?_) (congrFun (k0_off2_eq k) 0) n).trans ?_
    · rw [pay30_apply]
      refine congrArg keyW ((load_row a4.view _ x (fun _ => rfl) _ _ (congrFun (k0_off2_eq k) 0) j).trans ?_)
      rfl
    · show (if 16 * k.val ≤ (n 0).val ∧ (n 0).val < 16 * k.val + 16 then _ else f n) = _
      split_ifs with h
      · rw [Nat.add_sub_cancel' h.1]
      · exact hf n (by omega)
  isplitl [H4 H5]
  · isplitl [H4]; · iexact H4
    iexists _
    isplitl [H5]; · iexact H5
    ipureintro; intro n hn; omega
  iintro %_ ⟨H4, %f, H5, %hf⟩
  isplitl [H4]; · iexact H4
  obtain rfl : f = fun n => keyW (x (n 0).val) := funext fun n => hf n (n 0).isLt
  iexact H5

/-- The histogram's zeroing loop. -/
theorem wp_zero (h1 : k0_cond1 L = 1#1) (f6 : Buf (Elt F) ((tV d L).loc cc0_scratch2)) :
    ((a6).view.loc (tV d L) ↦{fullShare} f6)
      ⊢ (wp frame (wpE (defs₀ (F := F)) 𝒱₀ (tV d L) none) Set.univ
          (Scf.Loop.for k0_t2_loop (k0_t2_ok L h1) ⟨⟩ (k0_t2_body L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5 (BitVec.ofNat 32 (L 1).val) h1))
          fun _ => ((a6).view.loc (tV d L) ↦{fullShare} fun _ => (0#32 : BitVec 32)) : sProp 𝕄) := by
  unfold k0_t2_body
  iintro H6
  sl_for (fun k (_ : Unit) => iprop(∃ f, ((a6).view.loc (tV d L) ↦{fullShare} f) ∗ ⌜∀ n : S4096.Idx, (n 0).val < 16 * k → f n = (0#32 : BitVec 32)⌝)) $$ [H6]
  case region =>
    intro k acc
    iintro ⟨%f, H6, %hf⟩
    sl_exec
    sl_step
    iexists _
    isplitl [H6]; · iexact H6
    ipureintro
    intro n hn
    refine (store_row (o := 16 * k.val) a6.view f _ _ _ (fun _ => 0#32) (fun j => rfl) (congrFun (k0_off3_eq k) 0) n).trans ?_
    show (if 16 * k.val ≤ (n 0).val ∧ (n 0).val < 16 * k.val + 16 then _ else f n) = _
    split_ifs with h
    · rfl
    · exact hf n (by omega)
  isplitl [H6]
  · iexists _
    isplitl [H6]; · iexact H6
    ipureintro; intro n hn; omega
  iintro %_ ⟨%f, H6, %hf⟩
  obtain rfl : f = fun _ => (0#32 : BitVec 32) := funext fun n => hf n (n 0).isLt
  iexact H6

end Cert.Proof.Mean

end
-- ==== Proof.Part7.lean ====
/-
  The task up to its choice of the key: its losses fetched, their keys, the four rounds, and what lies above the chosen key summed and counted.
-/
module

public import proofs.«01_k».proof.Proof.Round
public import proofs.«01_k».proof.Proof.Fetch
public import proofs.«01_k».proof.Proof.Stats

@[expose] public section

noncomputable section

namespace Cert.Proof.Mean

open Cert.Sc Cert.Sc.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] stages

variable {F : FTy → Type}

local notation "𝕄" => MT nD τ sig (HIx 9) (Elt F) ℕ UU ℕ

variable [BitOps F]

/-! ## What the tiles compute, of the losses `x`: tile `s`'s `n`-th is `x s n` -/

/-- The keys. -/
def keysOf (x : ℕ → ℕ → F .f32) (s n : ℕ) : BitVec 32 := keyW (x s n)
/-- The chosen key. -/
def chosen (x : ℕ → ℕ → F .f32) : BitVec 32 := tauKey (keysOf x)
/-- The totals tile `s` leaves: its sum and its count. -/
def statsOf (x : ℕ → ℕ → F .f32) (s : ℕ) : ℕ → F .f32 :=
  statF (foldL fun l => laneF (x s) (keysOf x s) (chosen x) l 64) (∑ l ∈ Finset.range 16, overN (keysOf x s) (chosen x) 64 l)

/-- Tile `i`'s losses, in the buffer of them all. -/
def xSet (i : Fin 16) : Finset S16384.Idx := Finset.univ.filter fun n => (n 0).val / 1024 = i.val

theorem mem_xSet {i : Fin 16} {n : S16384.Idx} : n ∈ xSet i ↔ (n 0).val / 1024 = i.val := by simp [xSet]

variable (d : Dev nD) (L : grid0.Coords)

abbrev xR (h1 : k0_cond1 L = 1#1) : Rect S16384 := Rect.unit (s := S16384) (k0_off1 L) S1024.size (k0_off1_inb L h1)
/-- The tile's losses, as the tile addresses them. -/
abbrev xM (h1 : k0_cond1 L = 1#1) : Memref sig .scVector .hbm S1024 .f32 := (a2).slice (xR L h1) (fun _ => rfl)

theorem off1_zero : k0_off1 L 0 = 1024 * (L 1).val := by rw [k0_off1_eq]; rfl

theorem set_xM (h1 : k0_cond1 L = 1#1) : (xM L h1).view.set = xSet (jL L) := by
  show ((a2).view.slice (xR L h1)).set = _
  rw [View.set_slice]
  refine Finset.map_refl.trans ?_
  ext n
  rw [Rect.mem_set_unit, mem_xSet]
  have h0 := off1_zero L
  constructor
  · intro h
    have h2 : k0_off1 L 0 ≤ (n 0).val ∧ (n 0).val < k0_off1 L 0 + 1024 := h 0
    show (n 0).val / 1024 = (L 1).val
    omega
  · intro h a
    have h' : (n 0).val / 1024 = (L 1).val := h
    match a with
    | ⟨0, _⟩ => exact ⟨by show k0_off1 L 0 ≤ (n 0).val; omega, by show (n 0).val < k0_off1 L 0 + 1024; omega⟩

theorem pts_xM (h1 : k0_cond1 L = 1#1) (f : Buf (Elt F) (xLoc d)) :
    ((xM L h1).view.loc (tV d L) ↦[(xM L h1).view.set]{fullShare} f : sProp 𝕄) = xLoc d ↦[xSet (jL L)]{fullShare} f := by
  rw [set_xM]

theorem xM_emb (h1 : k0_cond1 L = 1#1) (y : S1024.Idx) : ((xM L h1).view.emb y 0).val = 1024 * (L 1).val + (y 0).val := by
  show k0_off1 L 0 + 1 * (y 0).val = _
  rw [off1_zero, Nat.one_mul]

set_option maxHeartbeats 1600000 in
/-- The task up to the tile's totals. -/
theorem wp_part7 (h1 : k0_cond1 L = 1#1) (x : ℕ → ℕ → F .f32) (fx : Buf (Elt F) (xLoc d)) (hx : ∀ n : S16384.Idx, fx n = x ((n 0).val / 1024) ((n 0).val % 1024))
    (κi : GSem nD τ sig → ℕ) (κe : Dep → ℕ)
    (O : CellTallies nD τ sig (HIx 9)) (W : Waits sig (HIx 9)) (hO : ∀ g, O g none = 0) (hOlev : ∀ g ι, 0 < O g ι → 70 ≤ (K (F := F)).lev g ι)
    (f4 : Buf (Elt F) ((tV d L).loc cc0_scratch0)) (f5 : Buf (Elt F) ((tV d L).loc cc0_scratch1)) (f6 : Buf (Elt F) ((tV d L).loc cc0_scratch2))
    (f7 : Buf (Elt F) ((tV d L).loc cc0_scratch3)) (f8 : Buf (Elt F) ((tV d L).loc cc0_scratch4)) (fr : Buf (Elt F) (hsLoc d (cV L))) :
    iprop(common (pay (hsOf (keysOf x)) (statsOf x)) d (cV L) κi κe ∗ levAts (K (F := F)).L (K (F := F)).lev ∗ mst (F := F) d (cV L) (jL L) 0 ∗ owes (tV d L) (O + owed d (cV L) 0) W
        ∗ (xLoc d ↦[xSet (jL L)]{fullShare} fx) ∗ ((a4).view.loc (tV d L) ↦{fullShare} f4) ∗ ((a5).view.loc (tV d L) ↦{fullShare} f5) ∗ ((a6).view.loc (tV d L) ↦{fullShare} f6)
        ∗ ((a7).view.loc (tV d L) ↦{fullShare} f7) ∗ ((a8).view.loc (tV d L) ↦{fullShare} f8) ∗ (hsLoc d (cV L) ↦[rowSet (jL L)]{fullShare} fr)
        ∗ semVal ((tV d L, .dma cc0_scoped0.sem) : GSem nD τ sig) 0
        ∗ semVal ((tV d L, .dma cc0_scoped1.sem) : GSem nD τ sig) 0 ∗ semVal ((tV d L, .dma cc0_scoped2.sem) : GSem nD τ sig) 0)
      ⊢ (wp frame (wpE (defs₀ (F := F)) 𝒱₀ (tV d L) none) Set.univ
          (k0_part7 L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5 (BitVec.ofNat 32 (L 1).val) h1)
          fun q => iprop(mst (F := F) d (cV L) (jL L) 8 ∗ (∃ W', ⌜Met W W'⌝ ∗ owes (tV d L) (O + owed d (cV L) 8) W')
            ∗ (xLoc d ↦[xSet (jL L)]{fullShare} fx) ∗ (∃ f, (a4).view.loc (tV d L) ↦{fullShare} f) ∗ (∃ f, (a5).view.loc (tV d L) ↦{fullShare} f) ∗ (∃ f, (a6).view.loc (tV d L) ↦{fullShare} f)
            ∗ (∃ f, (a7).view.loc (tV d L) ↦{fullShare} f) ∗ (∃ f, (a8).view.loc (tV d L) ↦{fullShare} f) ∗ (∃ f, hsLoc d (cV L) ↦[rowSet (jL L)]{fullShare} f)
            ∗ semVal ((tV d L, .dma cc0_scoped0.sem) : GSem nD τ sig) 0
            ∗ semVal ((tV d L, .dma cc0_scoped1.sem) : GSem nD τ sig) 0 ∗ semVal ((tV d L, .dma cc0_scoped2.sem) : GSem nD τ sig) 0
            ∗ ⌜∃ (v : FVec F S16 .f32) (c : IVec S16 32), q = ⟨lanesI, k0_pay31 (chosen x), v, c, k0_pay36 v, k0_pay37 v, k0_pay38 v, k0_pay39 v, k0_pay40 v⟩
                ∧ (∀ j : S16.Idx, v j = laneF (x (L 1).val) (keysOf x (L 1).val) (chosen x) (j 0).val 64) ∧ ∀ j : S16.Idx, c j = BitVec.ofNat 32 (overN (keysOf x (L 1).val) (chosen x) 64 (j 0).val)⌝) : sProp 𝕄) := by
  have hO1 : ∀ b g, (O + owed d (cV L) b) g none = 0 := fun b g => by rw [Pi.add_apply, Finsupp.add_apply, hO g, owed_none]
  rw [k0_part7_eq_skeleton]
  unfold k0_part7_skel
  iintro ⟨#Hcom, #Hlv, Hm, HO, Hx, H4, H5, H6, H7, H8, Hrow, Hs0, Hs1, Hs2⟩
  ihave Hmw1 := (show levAts (K (F := F)).L (K (F := F)).lev ⊢ Transfers.MayWaits (tV d L) (default : HIx 9) (O + owed d (cV L) 0) from
    (K (F := F)).mayWaits_none (thr := tV d L) (hO1 _)) $$ Hlv
  ihave Hx' := (Entails.of_eq (pts_xM (F := F) d L h1 _).symm) $$ Hx
  sl_exec
  have hd : View.write (Elt F) (a4).view f4 (wp_part7.sl.dma0 (F := F) d L h1 fx) Finset.univ = fun n => x (L 1).val (n 0).val := by
    refine (View.write_whole_univ (Val := Elt F) cc0_scratch0 f4 (wp_part7.sl.dma0 (F := F) d L h1 fx)).trans (funext fun n => ?_)
    have hn : (n 0).val < 1024 := (n 0).isLt
    refine (hx ((xM L h1).view.emb n)).trans ?_
    rw [xM_emb]
    congr 1 <;> omega
  ihave H4' := (Entails.of_eq (congrArg (fun f => ((a4).view.loc (tV d L) ↦{fullShare} f : sProp 𝕄)) hd)) $$ H4
  iapply (cut (F := F) d L (wp_keys (F := F) d L h1 (x (L 1).val) f5)) $$ [H4' H5]
  · isplitl [H4'] <;> iassumption
  iintro %_ ⟨H4, H5⟩
  iapply (cut (F := F) d L (wp_zero (F := F) d L h1 f6)) $$ [H6]
  · iexact H6
  iintro %_ H6
  iapply (cut (F := F) d L (wp_rounds (F := F) d L h1 (keysOf x) (statsOf x) κi κe O _ hO hOlev)) $$ [Hm HO H5 H6 H7 H8 Hrow Hs1 Hs2]
  · isplitr; · iexact Hcom
    isplitr; · iexact Hlv
    unfold mid
    isplitl [Hm]; · iexact Hm
    isplitl [HO]
    · iexists _
      isplitr
      swap; · iexact HO
      ipureintro
      exact Met.refl _
    isplitl [H5]; · iexact H5
    isplitl [H6]; · iexact H6
    isplitl [H7]; · iexists _; iexact H7
    isplitl [H8]; · iexists _; iexact H8
    isplitl [Hrow]; · iexists _; iexact Hrow
    isplitl [Hs1]; · iexact Hs1
    iexact Hs2
  iintro %acc ⟨Hmid, %hacc⟩
  subst hacc
  unfold mid
  icases Hmid with ⟨Hm, ⟨%W1, %hW1, HO⟩, H5, H6, H7, H8, Hrow, Hs1, Hs2⟩
  unfold stateW
  dsimp only
  iapply (cut (F := F) d L (wp_tally (F := F) d L h1 (chosen x) (x (L 1).val) (keysOf x (L 1).val))) $$ [H4 H5]
  · isplitl [H4] <;> iassumption
  iintro %acc ⟨H4, H5, %hacc⟩
  sl_step
  isplitl [Hm]; · iexact Hm
  isplitl [HO]
  · iexists _
    isplitr
    swap; · iexact HO
    ipureintro
    exact ((Met.refl W).none _).trans hW1
  isplitl [Hx']; · iapply (Entails.of_eq (pts_xM (F := F) d L h1 _)); iexact Hx'
  isplitl [H4]; · iexists _; iexact H4
  isplitl [H5]; · iexists _; iexact H5
  isplitl [H6]; · iexists _; iexact H6
  isplitl [H7]; · iexact H7
  isplitl [H8]; · iexact H8
  isplitl [Hrow]; · iexact Hrow
  isplitl [Hs0]; · iexact Hs0
  isplitl [Hs1]; · iexact Hs1
  isplitl [Hs2]; · iexact Hs2
  ipureintro
  exact ⟨acc.1, acc.2, rfl, hacc.1, hacc.2⟩

end Cert.Proof.Mean

end
-- ==== Proof.Part9.lean ====
/-
  The task's end on every tile: its totals left in its row of the shared buffer, everyone's totals fetched and added up.
-/
module

public import proofs.«01_k».proof.Proof.Part7

@[expose] public section

noncomputable section

namespace Cert.Proof.Mean

open Cert.Sc Cert.Sc.Gen

open Idealize.ShloMosaic
open Idealize.ShloMosaic.SparseCore (S V T)
open Idealize.ShloMosaic.SparseCore.Cfg (HIx Pay Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] stages

variable {F : FTy → Type}

local notation "𝕄" => MT nD τ sig (HIx 9) (Elt F) ℕ UU ℕ

variable [BitOps F]
variable (d : Dev nD) (L : grid0.Coords)

abbrev rowT (h1 : k0_cond1 L = 1#1) : Rect S16x256 := Rect.unit (s := S16x256) (k0_off12 L) S1x256.size (k0_off12_inb L h1)
/-- The tile's row of the shared totals, as the tile addresses it. -/
abbrev rowS (h1 : k0_cond1 L = 1#1) : Memref sig .scVector .shared S256 .f32 := ((a13).slice (rowT L h1) (fun _ => rfl)).squeeze S256 squeezes_S1x256_S256

theorem set_rowS (h1 : k0_cond1 L = 1#1) : (rowS L h1).view.set = rowSet (jL L) := by
  show (((a13).view.slice (rowT L h1)).reshape S256 squeezes_S1x256_S256.numel_eq).set = _
  rw [View.set_reshape, View.set_slice]
  exact Finset.map_refl.trans (rowView_set L _ _ (by rw [k0_off12_eq]; rfl) (by rw [k0_off12_eq]; rfl))

theorem pts_rowS (h1 : k0_cond1 L = 1#1) (f : Buf (Elt F) (stLoc d (cV L))) :
    ((rowS L h1).view.loc (tV d L) ↦[(rowS L h1).view.set]{fullShare} f : sProp 𝕄) = stLoc d (cV L) ↦[rowSet (jL L)]{fullShare} f := by
  rw [set_rowS]; rfl

/-- A place of the row, in the buffer. -/
theorem rowS_emb (h1 : k0_cond1 L = 1#1) (y : S256.Idx) : ((rowS L h1).view.emb y 0).val = (L 1).val ∧ ((rowS L h1).view.emb y 1).val = (y 0).val := by
  have e : (rowS L h1).view.emb y = (rowT L h1).emb (Fin.cons ⟨0, Nat.one_pos⟩ y) :=
    congrArg (rowT L h1).emb (Shape.reshapeEquiv_cons_one (d := ![256]) squeezes_S1x256_S256.numel_eq y)
  rw [e]
  constructor
  · show k0_off12 L 0 + 1 * 0 = _
    rw [k0_off12_eq]; rfl
  · show k0_off12 L 1 + 1 * (y 0).val = _
    rw [k0_off12_eq]; show 0 + 1 * (y 0).val = _; omega

/-- The row written whole holds in its first columns what was written there. -/
theorem rowS_write (h1 : k0_cond1 L = 1#1) (fr : Buf (Elt F) (stLoc d (cV L))) (w : S256.Idx → F .f32) (t : ℕ → F .f32)
    (hw : ∀ y : S256.Idx, (y 0).val < 16 → w y = t (y 0).val) :
    ∀ y ∈ rowSet (jL L), (y 1).val < 16 → (rowS L h1).view.writes (Elt F) fr [⟨Rect.whole S256, w⟩] y = t (y 1).val := by
  intro x hx h16
  rw [← set_rowS L h1] at hx
  obtain ⟨y, -, rfl⟩ := Finset.mem_map.mp hx
  have e := View.read_writes_cons_emb (Val := Elt F) (rowS L h1).view fr (Rect.whole S256) w [] y
  have ey : (Rect.whole S256).emb y = y := funext fun a => Fin.ext (show 0 + 1 * (y a).val = (y a).val by omega)
  rw [ey] at e
  have h2 := (rowS_emb L h1 y).2
  rw [h2] at h16 ⊢
  exact e.trans (hw y h16)

set_option maxHeartbeats 1600000 in
/-- The totals shared and added up. -/
theorem wp_part9 (h1 : k0_cond1 L = 1#1) (x : ℕ → ℕ → F .f32) (v71 : IVec S16 1) (v74 v81 : FVec F S16 .f32)
    (hv : ∀ j : S16.Idx, k0_pay44 v71 v74 v81 j = statsOf x (L 1).val (j 0).val)
    (κi : GSem nD τ sig → ℕ) (κe : Dep → ℕ)
    (O : CellTallies nD τ sig (HIx 9)) (W : Waits sig (HIx 9)) (hO : ∀ g, O g none = 0) (hOlev : ∀ g ι, 0 < O g ι → 70 ≤ (K (F := F)).lev g ι)
    (f9 : Buf (Elt F) ((tV d L).loc cc0_scratch5)) (f10 : Buf (Elt F) ((tV d L).loc cc0_scratch6)) (fr : Buf (Elt F) (stLoc d (cV L))) :
    iprop(common (pay (hsOf (keysOf x)) (statsOf x)) d (cV L) κi κe ∗ levAts (K (F := F)).L (K (F := F)).lev ∗ mst (F := F) d (cV L) (jL L) 8 ∗ owes (tV d L) (O + owed d (cV L) 8) W
        ∗ ((a9).view.loc (tV d L) ↦{fullShare} f9) ∗ ((a10).view.loc (tV d L) ↦{fullShare} f10) ∗ (stLoc d (cV L) ↦[rowSet (jL L)]{fullShare} fr)
        ∗ semVal ((tV d L, .dma cc0_scoped3.sem) : GSem nD τ sig) 0 ∗ semVal ((tV d L, .dma cc0_scoped4.sem) : GSem nD τ sig) 0)
      ⊢ (wp frame (wpE (defs₀ (F := F)) 𝒱₀ (tV d L) none) Set.univ
          (k0_part9 L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5 h1 (k0_pay31 (chosen x)) v71 v74 v81)
          fun q => iprop(mst (F := F) d (cV L) (jL L) 9 ∗ (∃ W', ⌜Met W W'⌝ ∗ owes (tV d L) O W')
            ∗ (∃ f, (a9).view.loc (tV d L) ↦{fullShare} f) ∗ (∃ f, (a10).view.loc (tV d L) ↦{fullShare} f) ∗ (∃ f, stLoc d (cV L) ↦{shr (jL L)} f)
            ∗ semVal ((tV d L, .dma cc0_scoped3.sem) : GSem nD τ sig) 0 ∗ semVal ((tV d L, .dma cc0_scoped4.sem) : GSem nD τ sig) 0
            ∗ ⌜∃ v : FVec F S16 .f32, q = ⟨k0_pay47 (k0_pay31 (chosen x)) v, k0_pay48⟩ ∧ ∀ j : S16.Idx, v j = rowsF (statsOf x) (j 0).val 16⌝) : sProp 𝕄) := by
  have hO1 : ∀ b g, (O + owed d (cV L) b) g none = 0 := fun b g => by rw [Pi.add_apply, Finsupp.add_apply, hO g, owed_none]
  rw [k0_part9_eq_skeleton]
  unfold k0_part9_skel
  iintro ⟨#Hcom, #Hlv, Hm, HO, H9, H10, Hrow, Hs3, Hs4⟩
  ihave Hmw1 := (show levAts (K (F := F)).L (K (F := F)).lev ⊢ Transfers.MayWaits (tV d L) (default : HIx 9) (O + owed d (cV L) 8) from
    (K (F := F)).mayWaits_none (thr := tV d L) (hO1 _)) $$ Hlv
  ihave Hrow' := (Entails.of_eq (pts_rowS (F := F) d L h1 _).symm) $$ Hrow
  sl_exec
  have hw : ∀ y : S256.Idx, (y 0).val < 16 → wp_part9.sl.dma2 (F := F) d L v71 v74 v81 f9 y = statsOf x (L 1).val (y 0).val := fun y hy =>
    (store_row (N := 256) (Val := Elt F) (a9).view f9 ![0] inb_S256_S16_0 (k0_pay44 v71 v74 v81) (statsOf x (L 1).val) hv (o := 0) rfl y).trans (if_pos ⟨Nat.zero_le _, by omega⟩)
  ihave Hrow := (Entails.of_eq (pts_rowS (F := F) d L h1 _)) $$ Hrow'
  ihave Hpay := (pay_stats (F := F) d (cV L) (hsOf (keysOf x)) (statsOf x) (jL L) _ (rowS_write (F := F) d L h1 fr (wp_part9.sl.dma2 (F := F) d L v71 v74 v81 f9) (statsOf x (L 1).val) hw)) $$ Hrow
  iapply (meet_at (F := F) d L (pay (hsOf (keysOf x)) (statsOf x)) (show 8 < 9 by omega) κi κe O _ hOlev) $$ [Hm HO Hpay]
  · isplitr; · iexact Hcom
    isplitr; · iexact Hlv
    isplitl [Hm]; · iexact Hm
    isplitl [HO]; · iexact HO
    iexact Hpay
  iintro ⟨Hm, HO, Hgot⟩
  ihave Hst := (got_stats (F := F) d (cV L) (hsOf (keysOf x)) (statsOf x) (jL L)) $$ Hgot
  icases Hst with ⟨%fg, %hfg, Hst⟩
  ihave Hst' := (Entails.of_eq (show (stLoc d (cV L) ↦{shr (jL L)} fg : sProp 𝕄) = ((a13).view.loc (tV d L) ↦{shr (jL L)} fg) from rfl)) $$ Hst
  ihave Hmw2 := (show levAts (K (F := F)).L (K (F := F)).lev ⊢ Transfers.MayWaits (tV d L) (default : HIx 9) (O + owed d (cV L) (8 + 1)) from
    (K (F := F)).mayWaits_none (thr := tV d L) (hO1 _)) $$ Hlv
  sl_exec
  have e10 : View.write (Elt F) (a10).view f10 (wp_part9.sl.dma0 (F := F) d L fg) Finset.univ = fg :=
    View.write_whole_univ (Val := Elt F) cc0_scratch6 f10 (wp_part9.sl.dma0 (F := F) d L fg)
  ihave H10' := (Entails.of_eq (congrArg (fun f => ((a10).view.loc (tV d L) ↦{fullShare} f : sProp 𝕄)) e10)) $$ H10
  iapply (cut (F := F) d L (wp_total (F := F) d L h1 (chosen x) v71 v74 v81 (statsOf x) fg hfg)) $$ [H10']
  · iexact H10'
  iintro %acc ⟨H10, %hacc⟩
  sl_step
  isplitl [Hm]; · iexact Hm
  isplitl [HO]
  · iexists _
    isplitr
    swap
    · rw [show O + owed d (cV L) (8 + 1) = O by rw [owed_nine, add_zero]]
      iexact HO
    ipureintro
    exact ((((Met.refl W).none _).some _ _).none _)
  isplitl [H9]; · iexists _; iexact H9
  isplitl [H10]; · iexists _; iexact H10
  isplitl [Hst']; · iexists _; iexact Hst'
  isplitl [Hs3]; · iexact Hs3
  isplitl [Hs4]; · iexact Hs4
  ipureintro
  exact ⟨acc, rfl, hacc⟩

end Cert.Proof.Mean

end
-- ==== Proof.Task.lean ====
/-
  The whole task on one tile of SparseCore 0, and on one of SparseCore 1, which does nothing.
-/
module

public import proofs.«01_k».proof.Proof.Part9

@[expose] public section

noncomputable section

namespace Cert.Proof.Mean

open Cert.Sc Cert.Sc.Gen

open Idealize.ShloMosaic
open Idealize.ShloMosaic.SparseCore (S V T)
open Idealize.ShloMosaic.SparseCore.Cfg (HIx Pay Blocks ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] stages

variable {F : FTy → Type}

local notation "𝕄" => MT nD τ sig (HIx 9) (Elt F) ℕ UU ℕ

variable [BitOps F]

/-- The mean the call computes, of the losses `x`. -/
def meanOf (x : ℕ → ℕ → F .f32) : F .f32 :=
  FloatOps.divf (FloatOps.addf (FloatOps.addf zf (rowsF (statsOf x) 0 16))
      (FloatOps.mulf (FloatOps.ofBits .f32 (if (chosen x).slt 0#32 = true then chosen x ^^^ 2147483647#32 else chosen x))
        (FloatOps.subf (FloatOps.addf zf (Scalar.ofBits .f32 0x46333000#32)) (FloatOps.addf zf (rowsF (statsOf x) 1 16)))))
    (Scalar.ofBits .f32 0x46333000#32)

variable (d : Dev nD) (L : grid0.Coords)

/-- The result's buffer is tile 0's. -/
def outPts (i : Fin 16) (f : Buf (Elt F) (oLoc d)) : sProp 𝕄 := if i.val = 0 then oLoc d ↦{fullShare} f else iprop(emp)

theorem first_tile : ∀ i : Fin 16, Scalar.cmpi .ne (Scalar.extui (Scalar.cmpi .eq (BitVec.ofNat 32 i.val) 0#32) : BitVec 32) 0#32 = 1#1 ↔ i.val = 0 := by decide

theorem out_zero {i : Fin 16} (h : i.val = 0) (f : Buf (Elt F) (oLoc d)) : (outPts d i f : sProp 𝕄) = ((a3).view.loc (tV d L) ↦{fullShare} f) := if_pos h
theorem out_other {i : Fin 16} (h : ¬ i.val = 0) (f : Buf (Elt F) (oLoc d)) : (outPts d i f : sProp 𝕄) = iprop(emp) := if_neg h

theorem pts_out (f : Buf (Elt F) (oLoc d)) : (oLoc d ↦{fullShare} f : sProp 𝕄) = ((a3).view.loc (tV d L) ↦{fullShare} f) := rfl

/-- A tile's scratch and its copies' semaphores. -/
def scratch : sProp 𝕄 :=
  iprop((∃ f, (a4).view.loc (tV d L) ↦{fullShare} f) ∗ (∃ f, (a5).view.loc (tV d L) ↦{fullShare} f) ∗ (∃ f, (a6).view.loc (tV d L) ↦{fullShare} f)
    ∗ (∃ f, (a7).view.loc (tV d L) ↦{fullShare} f) ∗ (∃ f, (a8).view.loc (tV d L) ↦{fullShare} f) ∗ (∃ f, (a9).view.loc (tV d L) ↦{fullShare} f)
    ∗ (∃ f, (a10).view.loc (tV d L) ↦{fullShare} f) ∗ (∃ f, (a11).view.loc (tV d L) ↦{fullShare} f))
def copySems : sProp 𝕄 :=
  iprop(semVal ((tV d L, .dma cc0_scoped0.sem) : GSem nD τ sig) 0 ∗ semVal ((tV d L, .dma cc0_scoped1.sem) : GSem nD τ sig) 0
    ∗ semVal ((tV d L, .dma cc0_scoped2.sem) : GSem nD τ sig) 0 ∗ semVal ((tV d L, .dma cc0_scoped3.sem) : GSem nD τ sig) 0
    ∗ semVal ((tV d L, .dma cc0_scoped4.sem) : GSem nD τ sig) 0 ∗ semVal ((tV d L, .dma cc0_scoped5.sem) : GSem nD τ sig) 0)

set_option maxHeartbeats 1600000 in
/-- The task on a tile of SparseCore 0. -/
theorem wp_task (h1 : k0_cond1 L = 1#1) (x : ℕ → ℕ → F .f32) (fx : Buf (Elt F) (xLoc d)) (hx : ∀ n : S16384.Idx, fx n = x ((n 0).val / 1024) ((n 0).val % 1024))
    (κi : GSem nD τ sig → ℕ) (κe : Dep → ℕ)
    (O : CellTallies nD τ sig (HIx 9)) (W : Waits sig (HIx 9)) (hO : ∀ g, O g none = 0) (hOlev : ∀ g ι, 0 < O g ι → 70 ≤ (K (F := F)).lev g ι)
    (fo : Buf (Elt F) (oLoc d)) :
    iprop(common (pay (hsOf (keysOf x)) (statsOf x)) d (cV L) κi κe ∗ levAts (K (F := F)).L (K (F := F)).lev ∗ mst (F := F) d (cV L) (jL L) 0 ∗ owes (tV d L) (O + owed d (cV L) 0) W
        ∗ (xLoc d ↦[xSet (jL L)]{fullShare} fx) ∗ outPts d (jL L) fo ∗ (∃ f, hsLoc d (cV L) ↦[rowSet (jL L)]{fullShare} f) ∗ (∃ f, stLoc d (cV L) ↦[rowSet (jL L)]{fullShare} f)
        ∗ scratch d L ∗ copySems d L)
      ⊢ (wp frame (wpE (defs₀ (F := F)) 𝒱₀ (tV d L) none) Set.univ
          (cc0__sc_body L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5)
          fun _ => iprop((∃ W', ⌜Met W W'⌝ ∗ owes (tV d L) O W')
            ∗ (xLoc d ↦[xSet (jL L)]{fullShare} fx) ∗ outPts d (jL L) (fun _ => meanOf x) ∗ (∃ f, hsLoc d (cV L) ↦[rowSet (jL L)]{fullShare} f) ∗ (∃ f, stLoc d (cV L) ↦{shr (jL L)} f)
            ∗ scratch d L ∗ copySems d L ∗ semVal (cell d (cV L) (jL L)) 0) : sProp 𝕄) := by
  rw [cc0__sc_body_eq_skeleton]
  unfold cc0__sc_body_skel
  rw [dif_pos h1]
  unfold scratch copySems
  iintro ⟨#Hcom, #Hlv, Hm, HO, Hx, Hout, ⟨%fr, Hrow⟩, ⟨%fs, Hst⟩, ⟨⟨%f4, H4⟩, ⟨%f5, H5⟩, ⟨%f6, H6⟩, ⟨%f7, H7⟩, ⟨%f8, H8⟩, ⟨%f9, H9⟩, ⟨%f10, H10⟩, ⟨%f11, H11⟩⟩, Hs0, Hs1, Hs2, Hs3, Hs4, Hs5⟩
  dsimp only
  iapply (cut (F := F) d L (wp_part7 (F := F) d L h1 x fx hx κi κe O W hO hOlev f4 f5 f6 f7 f8 fr)) $$ [Hm HO Hx H4 H5 H6 H7 H8 Hrow Hs0 Hs1 Hs2]
  · isplitr; · iexact Hcom
    isplitr; · iexact Hlv
    isplitl [Hm]; · iexact Hm
    isplitl [HO]; · iexact HO
    isplitl [Hx]; · iexact Hx
    isplitl [H4]; · iexact H4
    isplitl [H5]; · iexact H5
    isplitl [H6]; · iexact H6
    isplitl [H7]; · iexact H7
    isplitl [H8]; · iexact H8
    isplitl [Hrow]; · iexact Hrow
    isplitl [Hs0]; · iexact Hs0
    isplitl [Hs1]; · iexact Hs1
    iexact Hs2
  iintro %q ⟨Hm, ⟨%W1, %hW1, HO⟩, Hx, H4, H5, H6, H7, H8, Hrow, Hs0, Hs1, Hs2, %hq⟩
  obtain ⟨v, c, rfl, hv, hc⟩ := hq
  dsimp only
  rw [k0_part8_eq_skeleton]
  unfold k0_part8_skel
  rw [pure_bind]
  dsimp only
  have hlane : ∀ j : S16.Idx, lanesI j = BitVec.ofNat 32 (j 0).val := fun j => iota_apply j
  have h44 : ∀ j : S16.Idx, k0_pay44 (k0_pay41 lanesI) (k0_pay42 v (k0_pay36 v) (k0_pay37 v) (k0_pay38 v) (k0_pay39 v) (k0_pay40 v)) (k0_pay43 (F := F) lanesI c) j = statsOf x (L 1).val (j 0).val :=
    pay44_apply lanesI hlane _ _ _ _ (pay42_apply v (fun l => laneF (x (L 1).val) (keysOf x (L 1).val) (chosen x) l 64) hv)
      (pay43_apply lanesI hlane c (fun l => overN (keysOf x (L 1).val) (chosen x) 64 l) hc)
  iapply (cut (F := F) d L (wp_part9 (F := F) d L h1 x _ _ _ h44 κi κe O W1 hO hOlev f9 f10 fs)) $$ [Hm HO H9 H10 Hst Hs3 Hs4]
  · isplitr; · iexact Hcom
    isplitr; · iexact Hlv
    isplitl [Hm]; · iexact Hm
    isplitl [HO]; · iexact HO
    isplitl [H9]; · iexact H9
    isplitl [H10]; · iexact H10
    isplitl [Hst]; · iexact Hst
    isplitl [Hs3]; · iexact Hs3
    iexact Hs4
  iintro %q ⟨Hm, ⟨%W2, %hW2, HO⟩, H9, H10, Hst, Hs3, Hs4, %hq⟩
  obtain ⟨u, rfl, hu⟩ := hq
  dsimp only
  have hres : ∀ j : S16.Idx, k0_pay1 (k0_pay47 (k0_pay31 (chosen x)) u) k0_pay48 j = meanOf x := fun j =>
    congrArg (fun w => FloatOps.divf w (Scalar.ofBits .f32 0x46333000#32)) (pay47_apply (chosen x) u (fun l => rowsF (statsOf x) l 16) hu j)
  imod (mst_close (F := F) (pay (hsOf (keysOf x)) (statsOf x)) d (cV L) (jL L) κi κe) $$ [Hm] with Hbar
  · isplitr; · iexact Hcom
    iexact Hm
  ihave Hmw1 := (show levAts (K (F := F)).L (K (F := F)).lev ⊢ Transfers.MayWaits (tV d L) (default : HIx 9) O from
    (K (F := F)).mayWaits_none (thr := tV d L) hO) $$ Hlv
  by_cases h0 : (L 1).val = 0
  · have hc := (first_tile (jL L)).mpr h0
    have hc' : Scalar.cmpi .ne (Scalar.extui (Scalar.cmpi .eq (BitVec.ofNat 32 (L 1).val) 0#32) : BitVec 32) 0#32 = 1#1 := hc
    rw [dif_pos hc']
    ihave Hout' := (Entails.of_eq (out_zero (F := F) d L (i := jL L) h0 fo)) $$ Hout
    ihave H11' := (Entails.of_eq (show ((View.whole cc0_scratch7).loc (tV d L) ↦{fullShare} f11 : sProp 𝕄) = ((a11).view.loc (tV d L) ↦{fullShare} f11) from rfl)) $$ H11
    sl_exec
    sl_step
    have eo : View.write (Elt F) (a3).view fo (wp_task.sl.dma2 (F := F) d L x f11 u) Finset.univ = fun _ => meanOf x := by
      refine (View.write_whole_univ (Val := Elt F) main_v0_scv fo (wp_task.sl.dma2 (F := F) d L x f11 u)).trans (funext fun y => ?_)
      exact (store_row (N := 16) (Val := Elt F) (a11).view f11 ![0] inb_S16_S16_0 (k0_pay1 (k0_pay47 (k0_pay31 (chosen x)) u) k0_pay48) (fun _ => meanOf x) hres (o := 0) rfl y).trans
        (if_pos ⟨Nat.zero_le _, by have := (y 0).isLt; show (y 0).val < 0 + 16; rw [zero_add]; exact this⟩)
    isplitl [HO]
    · iexists _
      isplitr
      swap; · iexact HO
      ipureintro
      exact (hW1.trans hW2).none _
    isplitl [Hx]; · iexact Hx
    isplitl [Hout']
    · ihave He := (Entails.of_eq (congrArg (fun f => ((a3).view.loc (tV d L) ↦{fullShare} f : sProp 𝕄)) eo)) $$ Hout'
      iapply (Entails.of_eq (out_zero (F := F) d L (i := jL L) h0 (fun _ => meanOf x)).symm); iexact He
    isplitl [Hrow]; · iexact Hrow
    isplitl [Hst]; · iexact Hst
    isplitr [Hs0 Hs1 Hs2 Hs3 Hs4 Hs5 Hbar]
    · isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11'
    isplitr [Hbar]; swap; · iexact Hbar
    isplitl [Hs0]; · iexact Hs0
    isplitl [Hs1]; · iexact Hs1
    isplitl [Hs2]; · iexact Hs2
    isplitl [Hs3]; · iexact Hs3
    isplitl [Hs4]; · iexact Hs4
    iexact Hs5
  · have hc' : ¬ Scalar.cmpi .ne (Scalar.extui (Scalar.cmpi .eq (BitVec.ofNat 32 (L 1).val) 0#32) : BitVec 32) 0#32 = 1#1 := fun h => h0 ((first_tile (jL L)).mp h)
    rw [dif_neg hc']
    ihave H11' := (Entails.of_eq (show ((View.whole cc0_scratch7).loc (tV d L) ↦{fullShare} f11 : sProp 𝕄) = ((a11).view.loc (tV d L) ↦{fullShare} f11) from rfl)) $$ H11
    sl_exec
    sl_step
    isplitl [HO]
    · iexists _
      isplitr
      swap; · iexact HO
      ipureintro
      exact hW1.trans hW2
    isplitl [Hx]; · iexact Hx
    isplitl [Hout]
    · ihave He := (Entails.of_eq (out_other (F := F) d (i := jL L) h0 fo)) $$ Hout
      iapply (Entails.of_eq (out_other (F := F) d (i := jL L) h0 (fun _ => meanOf x)).symm); iexact He
    isplitl [Hrow]; · iexact Hrow
    isplitl [Hst]; · iexact Hst
    isplitr [Hs0 Hs1 Hs2 Hs3 Hs4 Hs5 Hbar]
    · isplitl [H4]; · iexact H4
      isplitl [H5]; · iexact H5
      isplitl [H6]; · iexact H6
      isplitl [H7]; · iexact H7
      isplitl [H8]; · iexact H8
      isplitl [H9]; · iexact H9
      isplitl [H10]; · iexact H10
      iexists _; iexact H11'
    isplitr [Hbar]; swap; · iexact Hbar
    isplitl [Hs0]; · iexact Hs0
    isplitl [Hs1]; · iexact Hs1
    isplitl [Hs2]; · iexact Hs2
    isplitl [Hs3]; · iexact Hs3
    isplitl [Hs4]; · iexact Hs4
    iexact Hs5

/-- A tile of the other SparseCore does nothing. -/
theorem wp_idle (h1 : ¬ k0_cond1 L = 1#1) {R Q : sProp (MT nD τ sig (HIx 9) (Elt F) ℕ UU ℕ)} (h : R ⊢ Q) :
    R ⊢ (wp frame (wpE (defs₀ (F := F)) 𝒱₀ (tV d L) none) Set.univ
          (cc0__sc_body L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5)
          fun _ => Q : sProp 𝕄) := by
  rw [cc0__sc_body_eq_skeleton]
  unfold cc0__sc_body_skel
  rw [dif_neg h1]
  iintro H
  sl_exec
  sl_step
  iapply h; iexact H

end Cert.Proof.Mean

end
-- ==== Proof.Own.lean ====
/-
  A tile's own semaphores and buffers, and the sequencer's shared buffers, taken out of all that a thread owns.
-/
module

public import proofs.«01_k».proof.Proof.Task

@[expose] public section

noncomputable section

namespace Cert.Proof.Mean

open Cert.Sc Cert.Sc.Gen

open Idealize.ShloMosaic
open Idealize.ShloMosaic.SparseCore (S V T)
open Idealize.ShloMosaic.SparseCore.Cfg (HIx Pay Blocks ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] stages

variable {F : FTy → Type}

local notation "𝕄" => MT nD τ sig (HIx 9) (Elt F) ℕ UU ℕ

variable [BitOps F]

/-- Some of a family's members, numbered by a list without repetition, taken out. -/
theorem fam_take {α I : Type} [DecidableEq α] [DecidableEq I] {f : α → I} (hf : Function.Injective f) (t : Finset α) {s : Finset I} (h : ∀ a ∈ t, f a ∈ s) (Φ : I → sProp 𝕄) :
    bigSep s Φ = iprop((bigSep t fun a => Φ (f a)) ∗ bigSep (s \ t.image f) Φ) := by
  rw [SparseCore.bigSep_sdiff_split' (t := t.image f) (Finset.image_subset_iff.mpr h), SparseCore.bigSep_image_of_injOn (fun a _ b _ e => hf e)]

variable (d : Dev nD) (L : grid0.Coords)

/-- The copies' semaphores. -/
abbrev sems6 : Finset (DmaSem sig) := {cc0_scoped0.sem, cc0_scoped1.sem, cc0_scoped2.sem, cc0_scoped3.sem, cc0_scoped4.sem, cc0_scoped5.sem}

theorem own_sems : (ownSems0 (tV d L) : sProp 𝕄)
    = iprop(copySems d L ∗ bigSep (ownCells (tV d L) \ sems6.image fun s => ((tV d L, .dma s) : GSem nD τ sig)) fun g => semVal g 0) := by
  unfold SparseCore.Cfg.ownSems0 copySems
  rw [fam_take (f := fun s : DmaSem sig => ((tV d L, .dma s) : GSem nD τ sig)) (fun a b e => SemLoc.dma.inj (Prod.mk.inj e).2) sems6]
  · rw [SparseCore.bigSep_insert' (by decide), SparseCore.bigSep_insert' (by decide), SparseCore.bigSep_insert' (by decide), SparseCore.bigSep_insert' (by decide),
      SparseCore.bigSep_insert' (by decide), bigSep_singleton]
  · intro s hs
    refine mem_ownCells.mpr ⟨rfl, ?_⟩
    show (SemLoc.dma s : SemLoc sig).isScoped .scVector = true
    revert s; decide

/-- The scratch. -/
abbrev bufs8 : Finset (Ref sig .scVector) := {cc0_scratch0, cc0_scratch1, cc0_scratch2, cc0_scratch3, cc0_scratch4, cc0_scratch5, cc0_scratch6, cc0_scratch7}

abbrev refOf (b : Ref sig .scVector) : DevRef τ sig := (Proc.scVector (cV L) (jV L)).devRef b

theorem own_bufs : (ownBufs (tV d L) : sProp 𝕄)
    = iprop(scratch d L ∗ bigSep (ownRefs (τ := τ) (.scVector (cV L) (jV L)) \ bufs8.image (refOf L)) fun b => iprop(∃ f, ((d, b) : Loc nD τ sig) ↦{fullShare} f)) := by
  unfold SparseCore.Cfg.ownBufs scratch
  rw [fam_take (f := refOf L) (fun a b e => Proc.devRef_injective (Proc.scVector (cV L) (jV L)) e) bufs8]
  · rw [SparseCore.bigSep_insert' (by decide), SparseCore.bigSep_insert' (by decide), SparseCore.bigSep_insert' (by decide), SparseCore.bigSep_insert' (by decide),
      SparseCore.bigSep_insert' (by decide), SparseCore.bigSep_insert' (by decide), SparseCore.bigSep_insert' (by decide), bigSep_singleton]
  · intro b hb
    refine SparseCore.Cfg.mem_ownRefs_of_owner (p := Proc.scVector (cV L) (jV L)) ?_
    simp only [bufs8, Finset.mem_insert, Finset.mem_singleton] at hb
    rcases hb with rfl | rfl | rfl | rfl | rfl | rfl | rfl | rfl <;> rfl

/-- The sequencer's two shared buffers. -/
theorem own_shared (c : Fin τ.nSC) : (ownBufs (S d c) : sProp 𝕄)
    = iprop((∃ f, hsLoc d c ↦{fullShare} f) ∗ (∃ f, stLoc d c ↦{fullShare} f)
        ∗ bigSep (((ownRefs (τ := τ) (.scScalar c)).erase (hsRef c)).erase (stRef c)) fun b => iprop(∃ f, ((d, b) : Loc nD τ sig) ↦{fullShare} f)) := by
  unfold SparseCore.Cfg.ownBufs
  have h1 : hsRef c ∈ ownRefs (τ := τ) (sig := sig) (.scScalar c) := (mem_ownRefs (p := Proc.scScalar c) (b := hsRef c)).mpr rfl
  have h2 : stRef c ∈ ownRefs (τ := τ) (sig := sig) (.scScalar c) := (mem_ownRefs (p := Proc.scScalar c) (b := stRef c)).mpr rfl
  have hne : stRef c ≠ hsRef c := fun e => Nat.one_ne_zero (congrArg (fun b : DevRef τ sig => b.idx.val) e)
  rw [SparseCore.bigSep_erase' h1, SparseCore.bigSep_erase' (Finset.mem_erase.mpr ⟨hne, h2⟩)]

end Cert.Proof.Mean

end
-- ==== Proof.Oblig.lean ====
/-
  What the launch hands each tile and what the handshakes carry, and that each tile's task keeps to it.
-/
module

public import proofs.«01_k».proof.Proof.Own

@[expose] public section

noncomputable section

namespace Cert.Proof.Mean

open Cert.Sc Cert.Sc.Gen

open Idealize.ShloMosaic
open Idealize.ShloMosaic.SparseCore (S V T)
open Idealize.ShloMosaic.SparseCore.Cfg (HIx Pay Blocks ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] stages

variable {F : FTy → Type}

local notation "𝕄" => MT nD τ sig (HIx 9) (Elt F) ℕ UU ℕ

variable [BitOps F]
variable (m : (ℓ : Loc nD τ sig) → Buf (Elt F) ℓ)

/-- The number of a loss in the buffer. -/
def ix (n : ℕ) : S16384.Idx := fun | ⟨0, _⟩ => (⟨n % 16384, Nat.mod_lt _ (by decide)⟩ : Fin 16384)

/-- The losses, tile by tile. -/
def xs (d : Dev nD) (s n : ℕ) : F .f32 := m (xLoc d) (ix (1024 * s + n))

theorem xs_eq (d : Dev nD) (n : S16384.Idx) : m (xLoc d) n = xs m d ((n 0).val / 1024) ((n 0).val % 1024) := by
  unfold xs
  rw [Nat.div_add_mod]
  refine congrArg (m (xLoc d)) (funext fun a => ?_)
  obtain rfl : a = 0 := Fin.eq_zero a
  exact Fin.ext (Nat.mod_eq_of_lt (show (n 0).val < 16384 from (n 0).isLt)).symm

abbrev nSub16 (i : Fin τ.nSub) : Fin 16 := Fin.cast (show τ.nSub = 16 from rfl) i

/-- The result as the call leaves it. -/
def res (d : Dev nD) : Buf (Elt F) (oLoc d) := fun _ => meanOf (xs m d)

/-- What tile `i`'s proof is dealt at the launch. -/
def kit (d : Dev nD) (c : Fin τ.nSC) (i : Fin 16) : sProp 𝕄 :=
  iprop((∃ κi κe, common (pay (hsOf (keysOf (xs m d))) (statsOf (xs m d))) d c κi κe) ∗ mst (F := F) d c i 0)

/-- What tile `i` is sent, -/
def goK (d : Dev nD) (c : Fin τ.nSC) (i : Fin 16) : sProp 𝕄 :=
  iprop((xLoc d ↦[xSet i]{fullShare} m (xLoc d)) ∗ outPts d i (m (oLoc d)) ∗ (∃ f, hsLoc d c ↦[rowSet i]{fullShare} f) ∗ (∃ f, stLoc d c ↦[rowSet i]{fullShare} f))
/-- and brings back. -/
def tdK (d : Dev nD) (c : Fin τ.nSC) (i : Fin 16) : sProp 𝕄 :=
  iprop((xLoc d ↦[xSet i]{fullShare} m (xLoc d)) ∗ outPts d i (res m d) ∗ (∃ f, hsLoc d c ↦[rowSet i]{fullShare} f) ∗ (∃ f, stLoc d c ↦{shr i} f) ∗ semVal (cell d c i) 0)
/-- What the call takes, -/
def stK (d : Dev nD) : sProp 𝕄 := iprop((xLoc d ↦{fullShare} m (xLoc d)) ∗ oLoc d ↦{fullShare} m (oLoc d))
/-- and gives. -/
def dnK (d : Dev nD) (c : Fin τ.nSC) : sProp 𝕄 := iprop((xLoc d ↦{fullShare} m (xLoc d)) ∗ (oLoc d ↦{fullShare} res m d) ∗ bigSep Finset.univ fun i : Fin 16 => semVal (cell d c i) 0)

instance outPts_storable (d : Dev nD) (i : Fin 16) (f : Buf (Elt F) (oLoc d)) : BI.Storable (upEmb : UEmb _ 𝕄) (outPts d i f) := by
  unfold outPts; split_ifs <;> infer_instance
instance goK_storable (d : Dev nD) (c : Fin τ.nSC) (i : Fin 16) : BI.Storable (upEmb : UEmb _ 𝕄) (goK m d c i) := by unfold goK; infer_instance
instance tdK_storable (d : Dev nD) (c : Fin τ.nSC) (i : Fin 16) : BI.Storable (upEmb : UEmb _ 𝕄) (tdK m d c i) := by unfold tdK; infer_instance
instance stK_storable (d : Dev nD) : BI.Storable (upEmb : UEmb _ 𝕄) (stK m d) := by unfold stK; infer_instance
instance dnK_storable (d : Dev nD) (c : Fin τ.nSC) : BI.Storable (upEmb : UEmb _ 𝕄) (dnK m d c) := by unfold dnK; infer_instance

/-- An assertion for SparseCore 0; for the other, nothing. -/
def zeroth (c : ℕ) (P : sProp (MT nD τ sig (HIx 9) (Elt F) ℕ UU ℕ)) : sProp 𝕄 := if c < 1 then P else iprop(emp)
theorem zeroth_pos {c : ℕ} (h : c < 1) (P : sProp (MT nD τ sig (HIx 9) (Elt F) ℕ UU ℕ)) : zeroth c P = P := if_pos h
theorem zeroth_neg {c : ℕ} (h : ¬ c < 1) (P : sProp (MT nD τ sig (HIx 9) (Elt F) ℕ UU ℕ)) : zeroth c P = iprop(emp) := if_neg h
instance zeroth_storable (c : ℕ) (P : sProp (MT nD τ sig (HIx 9) (Elt F) ℕ UU ℕ)) [BI.Storable (upEmb : UEmb _ 𝕄) P] : BI.Storable (upEmb : UEmb _ 𝕄) (zeroth c P) := by
  unfold zeroth; split_ifs <;> infer_instance

/-- What a tile owes from the launch. -/
def oweK (d : Dev nD) (c : Fin τ.nSC) : CellTallies nD τ sig (HIx 9) := if c.val < 1 then owed d c 0 else 0

set_option backward.proofsInPublic true in
/-- What the call's handshakes carry: to SparseCore 0's tiles the losses' slices, the result's buffer to the first of them, the shared
    buffers by rows; back again, with each tile's semaphore at zero. SparseCore 1 is handed nothing. -/
def P : (K (F := F)).Pay (N := 9) (nD := nD) (Val := Elt F) (Name := ℕ) (U := UU) where
  st := fun q d c => match q with | 0 => zeroth c.val (stK m d)
  dn := fun q d c => match q with | 0 => zeroth c.val (dnK m d ((K (F := F)).core 0 c))
  go := fun q d c i => match q with | 0 => zeroth c.val (goK m d ((K (F := F)).core 0 c) (Fin.cast nSub_zero i))
  td := fun q d c i => match q with | 0 => zeroth c.val (tdK m d ((K (F := F)).core 0 c) (Fin.cast nSub_zero i))
  x := fun _ thr => match thr with
    | (d, .scVector c i) => zeroth c.val (kit m d c (nSub16 i))
    | _ => iprop(emp)
  ox := fun _ thr => match thr with
    | (d, .scVector c _) => oweK d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · dsimp only [oweK] at h
      split at h
      · obtain ⟨b, j, -, hb, rfl, rfl⟩ := owed_pos h
        rw [lev_cell (F := F) d c j hb]
        exact ⟨by show 8 * 0 + 3 ≤ _; omega, by show _ ≤ 8 * 8 + 5; omega⟩
      · exact absurd h (lt_irrefl 0)
  ox_tc := fun _ _ => rfl
  ox_sc := fun _ _ _ h => absurd rfl h
  ox_vc := by
    intro q d c i h
    obtain rfl : q = 0 := Subsingleton.elim _ _
    dsimp only [oweK] at h
    split at h
    · next hc => exact ⟨rfl, (show c.val < 2 by omega), i.isLt⟩
    · exact absurd rfl h

instance P_storable : (P (F := F) m).IsStorable where
  st q d c := match q with | 0 => (inferInstance : BI.Storable (upEmb : UEmb _ 𝕄) (zeroth c.val (stK m d)))
  dn q d c := match q with | 0 => (inferInstance : BI.Storable (upEmb : UEmb _ 𝕄) (zeroth c.val (dnK m d ((K (F := F)).core 0 c))))
  go q d c i := match q with | 0 => (inferInstance : BI.Storable (upEmb : UEmb _ 𝕄) (zeroth c.val (goK m d ((K (F := F)).core 0 c) (Fin.cast nSub_zero i))))
  td q d c i := match q with | 0 => (inferInstance : BI.Storable (upEmb : UEmb _ 𝕄) (zeroth c.val (tdK m d ((K (F := F)).core 0 c) (Fin.cast nSub_zero i))))

section Tile

variable (d : Dev nD) (L : grid0.Coords)

theorem cond_core : ∀ c : Fin 2, Scalar.cmpi .ne (Scalar.extui (Scalar.cmpi .eq (BitVec.ofNat 32 c.val) 0#32) : BitVec 32) 0#32 = 1#1 ↔ c.val < 1 := by decide

theorem cond_iff : k0_cond1 L = 1#1 ↔ (L 0).val < 1 := cond_core (L 0)

set_option maxHeartbeats 1600000 in
/-- The task on a tile, from what it is dealt and sent to what it brings back. -/
theorem tile_task (hF : (K (F := F)).Facts) (O : CellTallies nD τ sig (HIx 9)) (W : Waits sig (HIx 9)) (hO : ∀ g, O g none = 0)
    (hOlev : ∀ g ι, 0 < O g ι → 70 ≤ (K (F := F)).lev g ι) :
    iprop(levAts (K (F := F)).L (K (F := F)).lev ∗ zeroth (L 0).val (kit m d (cV L) (jL L)) ∗ zeroth (L 0).val (goK m d (cV L) (jL L))
        ∗ scopedBufs (tV d L) ∗ scopedSems0 (tV d L) ∗ owes (tV d L) (O + oweK d (cV L)) W)
      ⊢ (wp frame (wpE (defs₀ (F := F)) 𝒱₀ (tV d L) none) Set.univ
          (cc0__sc_body L a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5)
          fun _ => iprop(zeroth (L 0).val (tdK m d (cV L) (jL L)) ∗ scopedBufs (tV d L) ∗ scopedSems0 (tV d L)
            ∗ ∃ W', ⌜∀ p ∈ W', p ∈ W ∨ p.2 = none ∨ ∃ j : Fin 9, p.2 = some j⌝ ∗ owes (tV d L) O W') : sProp 𝕄) := by
  by_cases h : (L 0).val < 1
  · have h1 := (cond_iff L).mpr h
    rw [zeroth_pos h, zeroth_pos h, zeroth_pos h, show oweK d (cV L) = owed d (cV L) 0 from if_pos h]
    rw [(K (F := F)).scopedBufs_V hF d (cV L) (jV L), SparseCore.Cfg.scopedSems0_V (Val := Elt F) d (cV L) (jV L), own_sems, own_bufs]
    unfold kit goK tdK
    iintro ⟨#Hlv, ⟨⟨%κi, %κe, #Hcom⟩, Hm⟩, ⟨Hx, Ho, Hh, Ht⟩, ⟨Hsc, Hbufs⟩, ⟨Hcs, Hsems⟩, HO⟩
    have e := wp_task (F := F) d L h1 (xs m d) (m (xLoc d)) (xs_eq m d) κi κe O W hO hOlev (m (oLoc d))
    iapply (e.trans (wp_wand _ _ _)) $$ [Hm HO Hx Ho Hh Ht Hsc Hcs]
    · isplitr; · iexact Hcom
      isplitr; · iexact Hlv
      isplitl [Hm]; · iexact Hm
      isplitl [HO]; · iexact HO
      isplitl [Hx]; · iexact Hx
      isplitl [Ho]; · iexact Ho
      isplitl [Hh]; · iexact Hh
      isplitl [Ht]; · iexact Ht
      isplitl [Hsc]; · iexact Hsc
      iexact Hcs
    iintro %a ⟨⟨%W', %hW, HO⟩, Hx, Ho, Hh, Ht, Hsc, Hcs, Hbar⟩
    isplitl [Hx Ho Hh Ht Hbar]
    · isplitl [Hx]; · iexact Hx
      isplitl [Ho]; · iexact Ho
      isplitl [Hh]; · iexact Hh
      isplitl [Ht]; · iexact Ht
      iexact Hbar
    isplitl [Hsc Hbufs]
    · isplitl [Hsc]; · iexact Hsc
      iexact Hbufs
    isplitl [Hcs Hsems]
    · isplitl [Hcs]; · iexact Hcs
      iexact Hsems
    iexists W'
    isplitr
    · ipureintro
      exact fun p hp => (hW p hp).imp id (Or.imp id fun ⟨b, hb⟩ => ⟨_, hb⟩)
    iexact HO
  · have h1 : ¬ k0_cond1 L = 1#1 := fun e => h ((cond_iff L).mp e)
    rw [zeroth_neg h, zeroth_neg h, zeroth_neg h, show oweK d (cV L) = 0 from if_neg h, add_zero]
    refine wp_idle (F := F) d L h1 ?_
    iintro ⟨-, -, -, Hb, Hs, HO⟩
    isplitr; · iempintro
    isplitl [Hb]; · iexact Hb
    isplitl [Hs]; · iexact Hs
    iexists W
    isplitr
    · ipureintro; exact fun p hp => .inl hp
    iexact HO

/-- A tile's place in the grid. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => cc0__sc_body (coordsV c s) a2 (Memref.isWhole_whole _) a3 (Memref.isWhole_whole _) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) a12 (Memref.isWhole_whole _) a13 (Memref.isWhole_whole _) cc0_scoped0 cc0_scoped1 cc0_scoped2 cc0_scoped3 cc0_scoped4 cc0_scoped5) ⟨⟩ c s := rfl

set_option maxRecDepth 16384 in
/-- Every tile's task keeps to what the call carries. -/
theorem tileObl (hF : (K (F := F)).Facts) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_task m d (coordsV ⟨_, hci.1⟩ ⟨_, hci.2⟩) hF O W hO hOlev

end Tile

end Cert.Proof.Mean

end
-- ==== Proof.Ghost.lean ====
/-
  The ghost state the launch begins with, and how it is dealt: each tile its kit.
-/
module

public import proofs.«01_k».proof.Proof.Oblig

@[expose] public section

noncomputable section

namespace Cert.Proof.Mean

open Cert.Sc Cert.Sc.Gen

open Idealize.ShloMosaic
open Idealize.ShloMosaic.SparseCore (S V T)
open Idealize.ShloMosaic.SparseCore.Cfg (HIx Pay Blocks ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] stages

variable {F : FTy → Type}

local notation "𝕄" => MT nD τ sig (HIx 9) (Elt F) ℕ UU ℕ

variable [BitOps F]
variable (m : (ℓ : Loc nD τ sig) → Buf (Elt F) ℓ)

theorem emp_fam {I : Type} (s : Finset I) : (bigSep s fun _ => iprop(emp)) = (iprop(emp) : sProp 𝕄) := bigSep_emp_const s

/-! ## The tiles, their cells and their deposits -/

abbrev DCI : Type := Dev nD × Fin τ.nSC × Fin 16
/-- A tile's cell; -/
abbrev cellOf (x : DCI) : GSem nD τ sig := cell x.1 x.2.1 x.2.2
/-- its deposit for meeting `b`. -/
abbrev depOf (x : DCI) (b : ℕ) : Dep := (x.1, x.2.1, b, x.2.2)

theorem cellOf_injective : Function.Injective cellOf := fun a b e => by
  obtain ⟨h1, h2⟩ := Prod.mk.inj (Prod.mk.inj e).1
  obtain ⟨h3, h4⟩ := Proc.scVector.inj h2
  exact Prod.ext h1 (Prod.ext h3 (Fin.ext (congrArg Fin.val h4)))

/-- The tiles that take part: SparseCore 0's. -/
abbrev tiles : Finset DCI := Finset.univ.filter fun x => x.2.1.val < 1
theorem mem_tiles (d : Dev nD) {c : Fin τ.nSC} (hc : c.val < 1) (i : Fin 16) : ((d, c, i) : DCI) ∈ tiles := Finset.mem_filter.mpr ⟨Finset.mem_univ _, hc⟩

def bCells : Finset (GSem nD τ sig) := tiles.image cellOf
/-- Tile `i`'s unit for meeting `b` in tile `j`'s cell. -/
def bToks : Finset (GSem nD τ sig × ℕ × (ℕ × Fin 16)) :=
  (tiles ×ˢ (Finset.range 9 ×ˢ (Finset.univ : Finset (Fin 16)))).image fun y : DCI × ℕ × Fin 16 => (cell y.1.1 y.1.2.1 y.2.2, 0, (y.2.1, y.1.2.2))
def eCells : Finset Dep := (tiles ×ˢ Finset.range 9).image fun y : DCI × ℕ => depOf y.1 y.2
/-- Tile `i`'s part of tile `s`'s deposit for meeting `b`. -/
def eToks : Finset (Dep × ℕ × Fin 16) :=
  (tiles ×ˢ (Finset.range 9 ×ˢ (Finset.univ : Finset (Fin 16)))).image fun y : DCI × ℕ × Fin 16 => ((y.1.1, y.1.2.1, y.2.1, y.2.2), 0, y.1.2.2)
def u₀ : UU := (initOf (K (F := F)).hsCells (K (F := F)).hsToks, (initOf bCells bToks, (initOf eCells eToks, 1)))

theorem bCells_eq (Φ : GSem nD τ sig → sProp (MT nD τ sig (HIx 9) (Elt F) ℕ UU ℕ)) : bigSep bCells Φ = bigSep tiles fun x : DCI => Φ (cellOf x) := by
  unfold bCells; exact SparseCore.bigSep_image_of_injOn (fun a _ b _ e => cellOf_injective e) Φ

theorem eCells_eq (Φ : Dep → sProp (MT nD τ sig (HIx 9) (Elt F) ℕ UU ℕ)) : bigSep eCells Φ = bigSep tiles fun x : DCI => bigSep (Finset.range 9) fun b => Φ (depOf x b) := by
  unfold eCells
  rw [SparseCore.bigSep_image_of_injOn, SparseCore.bigSep_product]
  rintro ⟨⟨d, c, i⟩, b⟩ - ⟨⟨d', c', i'⟩, b'⟩ - e
  simp only [depOf, Prod.mk.injEq] at e ⊢
  obtain ⟨h1, h2, h3, h4⟩ := e
  exact ⟨⟨h1, h2, h4⟩, h3⟩

theorem bToks_eq : (bigSep bToks fun x => (dutyTok (EB (F := F)) x.1 x.2.1 x.2.2 : sProp 𝕄))
    = bigSep tiles fun x : DCI => bigSep (Finset.range 9) fun b => bigSep Finset.univ fun j : Fin 16 => dutyTok (EB (F := F)) (cell x.1 x.2.1 j) 0 (b, x.2.2) := by
  unfold bToks
  rw [SparseCore.bigSep_image_of_injOn, SparseCore.bigSep_product]
  · exact bigSep_congr fun x _ => SparseCore.bigSep_product _ _ _
  rintro ⟨⟨d, c, i⟩, b, j⟩ - ⟨⟨d', c', i'⟩, b', j'⟩ - e
  obtain ⟨e1, e2⟩ := Prod.mk.inj e
  obtain ⟨h1, h2⟩ := Prod.mk.inj (Prod.mk.inj e1).1
  obtain ⟨h3, h4⟩ := Proc.scVector.inj h2
  obtain ⟨h5, h6⟩ := Prod.mk.inj (Prod.mk.inj e2).2
  have h7 : j = j' := Fin.ext (congrArg Fin.val h4)
  dsimp only at h1 h3 h5 h6
  subst h1; subst h3; subst h5; subst h6; subst h7
  rfl

theorem eToks_eq : (bigSep eToks fun x => (dutyTok (EE (F := F)) x.1 x.2.1 x.2.2 : sProp 𝕄))
    = bigSep tiles fun x : DCI => bigSep (Finset.range 9) fun b => bigSep Finset.univ fun s : Fin 16 => dutyTok (EE (F := F)) ((x.1, x.2.1, b, s) : Dep) 0 x.2.2 := by
  unfold eToks
  rw [SparseCore.bigSep_image_of_injOn, SparseCore.bigSep_product]
  · exact bigSep_congr fun x _ => SparseCore.bigSep_product _ _ _
  rintro ⟨⟨d, c, i⟩, b, j⟩ - ⟨⟨d', c', i'⟩, b', j'⟩ - e
  simp only [Prod.mk.injEq] at e ⊢
  obtain ⟨⟨h1, h2, h3, h4⟩, -, h5⟩ := e
  exact ⟨⟨h1, h2, h5⟩, h3, h4⟩

theorem ownU_split (a : UH) (b : UB) (e : UE) : (ownU ((a, (b, (e, 1))) : UU) : sProp 𝕄) ⊢ iprop(BI.own (EH (F := F) a) ∗ BI.own (EB (F := F) b) ∗ BI.own (EE (F := F) e)) := by
  have h1 : (ownU ((a, (b, (e, 1))) : UU) : sProp 𝕄) ⊢ iprop(BI.own (EH (F := F) a) ∗ ownU ((1, (b, (e, 1))) : UU)) :=
    BI.own_op_elim ((uEmb (nD := nD) (sig := sig) (Ix := HIx 9) (Val := Elt F) (Name := ℕ) (U := UU) (Lvl := ℕ)).toEmb.op_of_mem
      (Prod.mk_mem_op (URA.mem_op_one a) (URA.mem_one_op (b, (e, (1 : Counters))))))
  have h2 : (ownU ((1, (b, (e, 1))) : UU) : sProp 𝕄) ⊢ iprop(BI.own (EB (F := F) b) ∗ BI.own (EE (F := F) e)) :=
    BI.own_op_elim ((uEmb (nD := nD) (sig := sig) (Ix := HIx 9) (Val := Elt F) (Name := ℕ) (U := UU) (Lvl := ℕ)).toEmb.op_of_mem
      (Prod.mk_mem_op (URA.mem_one_op (1 : UH)) (Prod.mk_mem_op (URA.mem_op_one b) (URA.mem_one_op (e, (1 : Counters))))))
  iintro H
  ihave H' := h1 $$ H
  icases H' with ⟨Ha, H⟩
  ihave H'' := h2 $$ H
  isplitl [Ha]; · iexact Ha
  iexact H''

/-! ## The cells' counters, invariants and credit -/

/-- The cells' counters at zero, out of the semaphores the launch leaves free. -/
theorem sems_b : ((K (F := F)).freeOn (· ∈ bCells) : sProp 𝕄) ⊢ bigSep bCells fun g => semVal g 0 := by
  unfold SparseCore.Cfg.freeOn
  rw [bCells_eq, bigSep_filter]
  refine sep_elim_right.trans (bigSep_mono fun x _ => ?_)
  split
  · next hc =>
    exact bigSep_elim (Φ := fun sm : SemLoc sig => (semVal (V x.1 x.2.1 x.2.2, sm) 0 : sProp 𝕄)) (Finset.mem_filter.mpr
      ⟨Finset.mem_erase.mpr ⟨fun h => sc_bar0_ne_go (SemLoc.reg.inj h), Finset.mem_filter.mpr ⟨Finset.mem_univ _, by decide⟩⟩,
        Finset.mem_image_of_mem cellOf (mem_tiles x.1 hc x.2.2)⟩)
  · exact fun _ _ => trivial

/-- Their invariants. -/
theorem invs_b : iprop((bigSep bCells fun g => (semVal g 0 : sProp 𝕄)) ∗ bigSep bCells fun g => roundState (EB (F := F)) (bRd (F := F)) g 0)
    ⊢ |={Set.univ}=> iprop(∃ κ : GSem nD τ sig → ℕ, bigSep bCells fun g => cellInv (EB (F := F)) (bRd (F := F)) (κ g) g) := by
  refine (Rounds.bodies_intro (EB (F := F)) (bRd (F := F)) bCells).trans ((inv_alloc_family bCells (Rounds.body (EB (F := F)) (bRd (F := F))) ∅ (E := Set.univ)).trans ?_)
  iintro H
  imod H with ⟨%κ, -, Hinv⟩
  imodintro; iexists κ; iexact Hinv

/-- What a deposit hands over, device by device. -/
def payM (x : Dep) (j : Fin 16) : sProp 𝕄 := pay (hsOf (keysOf (xs m x.1))) (statsOf (xs m x.1)) x j
instance payM_storable (x : Dep) (j : Fin 16) : BI.Storable (upEmb : UEmb _ 𝕄) (payM m x j) := by unfold payM; infer_instance

/-- The deposits' invariants, none of them made yet. -/
theorem invs_e : (bigSep eCells fun x => (initState (EE (F := F)) x : sProp 𝕄))
    ⊢ |={Set.univ}=> iprop(∃ κ : Dep → ℕ, bigSep eCells fun x => inv (κ x) (depBody (payM m) x)) := by
  have h : (bigSep eCells fun x => (initState (EE (F := F)) x : sProp 𝕄)) ⊢ bigSep eCells (depBody (payM m)) := fam_mono fun x _ => by
    unfold initState depBody
    iintro ⟨H, -⟩
    ileft; iexact H
  refine h.trans ((inv_alloc_family eCells (depBody (payM m)) ∅ (E := Set.univ)).trans ?_)
  iintro H
  imod H with ⟨%κ, -, Hinv⟩
  imodintro; iexists κ; iexact Hinv

theorem tally_mul (g : GSem nD τ sig) (ι : HIx 9) : ∀ n : ℕ, n • (tallyAt g ι 1 : CellTallies nD τ sig (HIx 9)) = tallyAt g ι n
  | 0 => by rw [zero_nsmul, tallyAt_zero]
  | n + 1 => by rw [succ_nsmul, tally_mul g ι n, tallyAt_add]

/-- What all tiles owe is what all tiles wait for. -/
theorem owed_sum (d : Dev nD) (c : Fin τ.nSC) :
    (∑ _ : Fin 16, owed d c 0) = ∑ j : Fin 16, ∑ b ∈ Finset.range 9, tallyAt (cell d c j) (some (stg b)) 16 := by
  rw [Finset.sum_const, Finset.card_univ, Fintype.card_fin, Finset.sum_comm]
  unfold owed arrive
  rw [Finset.smul_sum, ← Finset.range_eq_Ico]
  refine Finset.sum_congr rfl fun b _ => ?_
  rw [Finset.smul_sum]
  exact Finset.sum_congr rfl fun j _ => tally_mul _ _ 16

/-- The credit for what the tiles owe, tile by tile what it waits for. -/
theorem creds_b : ((P (F := F) m).oxCred : sProp 𝕄) ⊢ bigSep tiles fun x : DCI => bigSep (Finset.range 9) fun b => cred (tallyAt (cellOf x) (some (stg b)) 16) := by
  rw [bigSep_filter]
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun x : DCI => if x.2.1.val < 1 then (bigSep (Finset.range 9) fun b => (cred (tallyAt (cellOf x) (some (stg b)) 16) : sProp 𝕄)) else BI.emp)]
  refine bigSep_mono fun d _ => ?_
  rw [bigSep_univ_prod, bigSep_univ_prod (fun ci : Fin τ.nSC × Fin 16 => if ci.1.val < 1 then (bigSep (Finset.range 9) fun b => (cred (tallyAt (cellOf (d, ci)) (some (stg b)) 16) : sProp 𝕄)) else BI.emp)]
  refine bigSep_mono fun c _ => ?_
  dsimp only
  by_cases hc : c.val < 1
  · simp only [hc, ↓reduceIte]
    have hox : ∀ i, (P (F := F) m).oxFrom 0 (V d c i) = owed d c 0 := fun i => by
      rw [show (0 : ℕ) = (0 : Fin 1).val from rfl, (P m).oxFrom_step, (P m).oxFrom_end _ (n := (0 : Fin 1).val + 1) le_rfl, add_zero]; exact if_pos hc
    simp only [hox]
    refine Entails.of_eq ((SparseCore.Cfg.cred_finsum (Finset.univ : Finset (Fin 16)) fun _ => owed d c 0).symm.trans ?_)
    rw [owed_sum, SparseCore.Cfg.cred_finsum]
    exact bigSep_congr fun j _ => SparseCore.Cfg.cred_finsum _ _
  · simp only [hc, ↓reduceIte]
    exact bigSep_mono fun _ _ => fun _ _ => trivial

/-! ## The deal -/

/-- What all tiles are dealt alike. -/
abbrev alike : sProp 𝕄 :=
  iprop((∃ κ : GSem nD τ sig → ℕ, bigSep tiles fun x : DCI => cellInv (EB (F := F)) (bRd (F := F)) (κ (cellOf x)) (cellOf x))
    ∗ (bigSep tiles fun x : DCI => reached (EB (F := F)) (cellOf x) 0)
    ∗ ∃ κe : Dep → ℕ, bigSep tiles fun x : DCI => bigSep (Finset.range 9) fun b => inv (κe (depOf x b)) (depBody (payM m) (depOf x b)))

/-- What each is dealt of its own. -/
abbrev mine (x : DCI) : sProp 𝕄 :=
  iprop(atPos (EB (F := F)) (cellOf x) 0 ∅ 0
    ∗ (bigSep (Finset.range 9) fun b => cred (tallyAt (cellOf x) (some (stg b)) 16))
    ∗ (bigSep (Finset.range 9) fun b => bigSep Finset.univ fun j : Fin 16 => dutyTok (EB (F := F)) (cell x.1 x.2.1 j) 0 (b, x.2.2))
    ∗ (bigSep (Finset.range 9) fun b => atPos (EE (F := F)) (depOf x b) 0 ∅ 0)
    ∗ (bigSep (Finset.range 9) fun b => bigSep Finset.univ fun s : Fin 16 => dutyTok (EE (F := F)) ((x.1, x.2.1, b, s) : Dep) 0 x.2.2))

theorem dep_same (d : Dev nD) (c : Fin τ.nSC) (b : ℕ) (s : Fin 16) :
    depBody (payM m) (d, c, b, s) = depBody (pay (hsOf (keysOf (xs m d))) (statsOf (xs m d))) (d, c, b, s) := by
  unfold depBody payM; rfl

theorem cells_of (d : Dev nD) (c : Fin τ.nSC) (hc : c.val < 1) (κ : GSem nD τ sig → ℕ) :
    (bigSep tiles fun x : DCI => cellInv (EB (F := F)) (bRd (F := F)) (κ (cellOf x)) (cellOf x))
      ⊢ (bigSep Finset.univ fun j : Fin 16 => cellInv (EB (F := F)) (bRd (F := F)) (κ (cell d c j)) (cell d c j) : sProp 𝕄) :=
  bigSep_intro_persistent fun j _ => fam_get (mem_tiles d hc j) fun x : DCI => cellInv (EB (F := F)) (bRd (F := F)) (κ (cellOf x)) (cellOf x)

theorem reached_of (d : Dev nD) (c : Fin τ.nSC) (hc : c.val < 1) :
    (bigSep tiles fun x : DCI => reached (EB (F := F)) (cellOf x) 0) ⊢ (bigSep Finset.univ fun j : Fin 16 => reached (EB (F := F)) (cell d c j) 0 : sProp 𝕄) :=
  bigSep_intro_persistent fun j _ => fam_get (mem_tiles d hc j) fun x : DCI => reached (EB (F := F)) (cellOf x) 0

theorem deps_of (p : Dep → Fin 16 → sProp (MT nD τ sig (HIx 9) (Elt F) ℕ UU ℕ)) (d : Dev nD) (c : Fin τ.nSC) (hc : c.val < 1) (κe : Dep → ℕ) :
    (bigSep tiles fun x : DCI => bigSep (Finset.range 9) fun b => inv (κe (depOf x b)) (depBody p (depOf x b)))
      ⊢ (bigSep (Finset.range 9) fun b => bigSep Finset.univ fun s : Fin 16 => inv (κe (d, c, b, s)) (depBody p (d, c, b, s)) : sProp 𝕄) :=
  bigSep_intro_persistent fun b hb => bigSep_intro_persistent fun s _ =>
    (fam_get (mem_tiles d hc s) fun x : DCI => bigSep (Finset.range 9) fun b => inv (κe (depOf x b)) (depBody p (depOf x b))).trans
      (fam_get hb fun b => inv (κe (depOf (d, c, s) b)) (depBody p (depOf (d, c, s) b)))

theorem common_of (d : Dev nD) (c : Fin τ.nSC) (hc : c.val < 1) :
    alike m ⊢ (iprop(∃ κi κe, common (pay (hsOf (keysOf (xs m d))) (statsOf (xs m d))) d c κi κe) : sProp 𝕄) := by
  unfold common
  simp only [← dep_same m d c]
  iintro ⟨⟨%κ, #Hi⟩, #Hr, ⟨%κe, #He⟩⟩
  iexists κ, κe
  isplitr
  · iapply (cells_of (F := F) d c hc κ) $$ Hi
  isplitr
  · iapply (reached_of (F := F) d c hc) $$ Hr
  iapply (deps_of (payM m) d c hc κe) $$ He

theorem mst_of (x : DCI) : mine (F := F) x ⊢ (mst (F := F) x.1 x.2.1 x.2.2 0 : sProp 𝕄) := by
  unfold mst
  iintro ⟨Hat, Hc, Ht, He, Hr⟩
  isplitl [Hat]
  · iexists ∅
    isplitr
    · ipureintro
      exact ⟨Finset.empty_subset _, by rw [Finset.sdiff_empty, Finset.card_product]; exact le_rfl⟩
    isplitl [Hat]; · iexact Hat
    rw [bigSep_empty]; iempintro
  isplitr
  · rw [Finset.range_zero, bigSep_empty]; iempintro
  rw [← Finset.range_eq_Ico]
  ihave H1 := (fam_zip (Finset.range 9) (fun b => (atPos (EE (F := F)) (depOf x b) 0 ∅ 0 : sProp 𝕄)) _) $$ [He Hr]
  · isplitl [He]; · iexact He
    iexact Hr
  ihave H2 := (fam_zip (Finset.range 9) (fun b => (bigSep Finset.univ fun j : Fin 16 => dutyTok (EB (F := F)) (cell x.1 x.2.1 j) 0 (b, x.2.2) : sProp 𝕄)) _) $$ [Ht H1]
  · isplitl [Ht]; · iexact Ht
    iexact H1
  ihave H3 := (fam_zip (Finset.range 9) (fun b => (cred (tallyAt (cellOf x) (some (stg b)) 16) : sProp 𝕄)) _) $$ [Hc H2]
  · isplitl [Hc]; · iexact Hc
    iexact H2
  iexact H3

/-- One tile's kit. -/
theorem kit_of (x : DCI) (h : x ∈ tiles) : iprop(alike m ∗ mine x) ⊢ (kit m x.1 x.2.1 x.2.2 : sProp 𝕄) := by
  unfold kit
  iintro ⟨Ha, Hm⟩
  isplitl [Ha]
  · iapply (common_of m x.1 x.2.1 (Finset.mem_filter.mp h).2); iexact Ha
  iapply (mst_of x); iexact Hm

theorem Px_T (d : Dev nD) : (bigSep Finset.univ fun q : Fin 1 => (P (F := F) m).x q (SparseCore.T d)) = iprop(emp) := bigSep_univ_of_subsingleton (0 : Fin 1)
theorem Px_S (d : Dev nD) (c : Fin τ.nSC) : (bigSep Finset.univ fun q : Fin 1 => (P (F := F) m).x q (S d c)) = iprop(emp) := bigSep_univ_of_subsingleton (0 : Fin 1)
theorem Px_V (d : Dev nD) (c : Fin τ.nSC) (i : Fin τ.nSub) :
    (bigSep Finset.univ fun q : Fin 1 => (P (F := F) m).x q (V d c i)) = zeroth c.val (kit m d c (nSub16 i)) := bigSep_univ_of_subsingleton (0 : Fin 1)

/-- Each tile its kit. -/
theorem kits_deal : iprop(alike m ∗ bigSep tiles (mine (F := F)))
      ⊢ (bigSep Finset.univ fun thr : Thread nD τ => bigSep Finset.univ fun q : Fin 1 => (P (F := F) m).x q thr : sProp 𝕄) := by
  rw [SparseCore.Cfg.bigSep_threads (fun thr : Thread nD τ => bigSep Finset.univ fun q : Fin 1 => (P m).x q thr)]
  simp only [Px_T, Px_S, Px_V, emp_fam]
  iintro H
  isplitr; · iempintro
  isplitr; · iempintro
  ihave H' := (fam_mono_with (s := tiles) (P := alike m) (Φ := mine (F := F)) (Ψ := fun x : DCI => kit m x.1 x.2.1 x.2.2) fun x h => kit_of m x h) $$ H
  iapply (SparseCore.ent (Entails.of_eq (bigSep_filter Finset.univ (fun x : DCI => x.2.1.val < 1) fun x => kit m x.1 x.2.1 x.2.2)))
  iexact H'

/-- The launch's ghost state, dealt. -/
theorem hu₀ : iprop(ownU (u₀ (F := F)) ∗ (P (F := F) m).oxCred ∗ (K (F := F)).freeOn (· ∈ bCells))
    ⊢ |={Set.univ}=> iprop(BI.own (EH (F := F) (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (ownU_split _ _ _) $$ Hu
  icases H with ⟨HH, HB, HE⟩
  imod (Rounds.fund (EB (F := F)) (bRd (F := F)) bCells bToks) $$ HB with ⟨Hst, #Hr, Hat, Htok⟩
  ihave HE' := (Rounds.own_initOf (EE (F := F)) eCells eToks) $$ HE
  icases HE' with ⟨Hes, Heat, Hetok⟩
  ihave Hsems := (sems_b (F := F)) $$ Hfree
  imod (invs_b (F := F)) $$ [Hsems Hst] with ⟨%κ, #Hinv⟩
  · isplitl [Hsems] <;> iassumption
  imod (invs_e m) $$ Hes with ⟨%κe, #Hinve⟩
  ihave Hcred' := (creds_b m) $$ Hcred
  ihave Hinv' := (Entails.of_eq (bCells_eq (F := F) fun g => cellInv (EB (F := F)) (bRd (F := F)) (κ g) g)) $$ Hinv
  ihave Hr' := (Entails.of_eq (bCells_eq (F := F) fun g => reached (EB (F := F)) g 0)) $$ Hr
  ihave Hat' := (Entails.of_eq (bCells_eq (F := F) fun g => atPos (EB (F := F)) g 0 ∅ 0)) $$ Hat
  ihave Htok' := (Entails.of_eq (bToks_eq (F := F))) $$ Htok
  ihave Hinve' := (Entails.of_eq (eCells_eq (F := F) fun x => inv (κe x) (depBody (payM m) x))) $$ Hinve
  ihave Heat' := (Entails.of_eq (eCells_eq (F := F) fun x => atPos (EE (F := F)) x 0 ∅ 0)) $$ Heat
  ihave Hetok' := (Entails.of_eq (eToks_eq (F := F))) $$ Hetok
  imodintro
  isplitl [HH]; · iexact HH
  isplitr; · rw [emp_fam]; iempintro
  iapply (kits_deal m)
  isplitr
  · isplitr; · iexists κ; iexact Hinv'
    isplitr; · iexact Hr'
    iexists κe; iexact Hinve'
  ihave H1 := (fam_zip tiles _ _) $$ [Heat' Hetok']
  · isplitl [Heat']; · iexact Heat'
    iexact Hetok'
  ihave H2 := (fam_zip tiles _ _) $$ [Htok' H1]
  · isplitl [Htok']; · iexact Htok'
    iexact H1
  ihave H3 := (fam_zip tiles _ _) $$ [Hcred' H2]
  · isplitl [Hcred']; · iexact Hcred'
    iexact H2
  ihave H4 := (fam_zip tiles _ _) $$ [Hat' H3]
  · isplitl [Hat']; · iexact Hat'
    iexact H3
  iexact H4

end Cert.Proof.Mean

end
-- ==== Proof.Launch.lean ====
/-
  The SparseCore call's run: the losses' slices dealt and gathered, the host's program, the value the run leaves.
-/
module

public import proofs.«01_k».proof.Proof.Ghost
public import proofs.«01_k».proof.Defs

@[expose] public section

noncomputable section

namespace Cert.Proof.Mean

open Cert.Sc Cert.Sc.Gen

open Idealize.ShloMosaic
open Idealize.ShloMosaic.SparseCore (S V T)
open Idealize.ShloMosaic.SparseCore.Cfg (HIx Pay Blocks ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

attribute [local instance] stages

variable {F : FTy → Type}

local notation "𝕄" => MT nD τ sig (HIx 9) (Elt F) ℕ UU ℕ

variable [BitOps F]
variable (m : (ℓ : Loc nD τ sig) → Buf (Elt F) ℓ) (ρ : Dev nD → PrngReg)

/-! ## The call's operands, tile by tile -/

theorem xSets_disjoint : ∀ i ∈ (Finset.univ : Finset (Fin 16)), ∀ j ∈ (Finset.univ : Finset (Fin 16)), i ≠ j → Disjoint (xSet i) (xSet j) :=
  fun i _ j _ h => Finset.disjoint_left.mpr fun x hi hj => h (Fin.ext ((mem_xSet.mp hi).symm.trans (mem_xSet.mp hj)))

theorem xSets_cover : (Finset.univ : Finset (Fin 16)).biUnion xSet = Finset.univ := by
  refine Finset.eq_univ_of_forall fun x => Finset.mem_biUnion.mpr ⟨⟨(x 0).val / 1024, ?_⟩, Finset.mem_univ _, mem_xSet.mpr rfl⟩
  have h : (x 0).val < 16384 := (x 0).isLt
  omega

theorem x_slices (d : Dev nD) (f : Buf (Elt F) (xLoc d)) :
    (xLoc d ↦{fullShare} f : sProp 𝕄) = bigSep Finset.univ fun i : Fin 16 => xLoc d ↦[xSet i]{fullShare} f := by
  rw [← pointsTo_biUnion Finset.univ (ℓ := xLoc d) xSet xSets_disjoint, xSets_cover]; try rfl

theorem emp_right (A : sProp (MT nD τ sig (HIx 9) (Elt F) ℕ UU ℕ)) : iprop(A ∗ emp) = A := equiv_iff.mp sep_emp

theorem out_parts (d : Dev nD) (f : Buf (Elt F) (oLoc d)) : (oLoc d ↦{fullShare} f : sProp 𝕄) = bigSep Finset.univ fun i : Fin 16 => outPts d i f := by
  rw [SparseCore.bigSep_erase' (Finset.mem_univ (0 : Fin 16)),
    show (bigSep (Finset.univ.erase (0 : Fin 16)) fun i : Fin 16 => outPts d i f) = bigSep (Finset.univ.erase (0 : Fin 16)) fun _ => (iprop(emp) : sProp 𝕄) from
      bigSep_congr fun i hi => if_neg fun h => (Finset.mem_erase.mp hi).1 (Fin.ext h), emp_fam]
  refine (if_pos rfl).symm.trans (show (outPts d 0 f : sProp 𝕄) = _ from ?_)
  exact (emp_right _).symm

/-- The call's operands to its tiles, and its results from theirs. -/
theorem vec_zero (d : Dev nD) (c : Fin τ.nSC) :
    iprop(stK m d ∗ ownBufs (S d c)) ⊢ (|={Set.univ}=> iprop((bigSep Finset.univ fun i : Fin 16 => goK m d c i)
      ∗ ((bigSep Finset.univ fun i : Fin 16 => tdK m d c i) -∗ iprop(dnK m d c ∗ ownBufs (S d c)))) : sProp 𝕄) := by
  unfold stK dnK goK tdK
  rw [own_shared, x_slices, out_parts, out_parts, bigSep_sep', bigSep_sep', bigSep_sep', bigSep_sep', bigSep_sep', bigSep_sep', bigSep_sep']
  iintro ⟨⟨Hx, Ho⟩, ⟨%fh, Hh⟩, ⟨%ft, Ht⟩, Hrest⟩
  imodintro
  isplitl [Hx Ho Hh Ht]
  · isplitl [Hx]; · iexact Hx
    isplitl [Ho]; · iexact Ho
    isplitl [Hh]
    · ihave Hh' := (Entails.of_eq (hs_rows (F := F) d c fullShare fh)) $$ Hh
      iapply (fam_mono (s := (Finset.univ : Finset (Fin 16))) (Φ := fun i => (hsLoc d c ↦[rowSet i]{fullShare} fh : sProp 𝕄)) (Ψ := fun i => iprop(∃ f, hsLoc d c ↦[rowSet i]{fullShare} f))
        fun i _ => by iintro H; iexists fh; iexact H) $$ Hh'
    · ihave Ht' := (Entails.of_eq (st_rows (F := F) d c fullShare ft)) $$ Ht
      iapply (fam_mono (s := (Finset.univ : Finset (Fin 16))) (Φ := fun i => (stLoc d c ↦[rowSet i]{fullShare} ft : sProp 𝕄)) (Ψ := fun i => iprop(∃ f, stLoc d c ↦[rowSet i]{fullShare} f))
        fun i _ => by iintro H; iexists ft; iexact H) $$ Ht'
  iintro ⟨Hx, Ho, Hh, Ht, Hbars⟩
  isplitl [Hx Ho Hbars]
  · isplitl [Hx]; · iexact Hx
    isplitl [Ho]; · iexact Ho
    iexact Hbars
  isplitl [Hh]; · iapply (hs_join (F := F) d c); iexact Hh
  isplitl [Ht]; · iapply (st_whole (F := F) d c); iexact Ht
  iexact Hrest

theorem over_tasks (Φ : Fin 16 → sProp (MT nD τ sig (HIx 9) (Elt F) ℕ UU ℕ)) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit (P m) 0 := by
  intro d c
  show iprop(zeroth c.val (stK m d) ∗ ownBufs (S d ((K (F := F)).core 0 c))) ⊢ |={Set.univ}=> iprop(
      (bigSep Finset.univ fun i : Fin ((K (F := F)).nSub 0) => zeroth c.val (goK m d ((K (F := F)).core 0 c) (Fin.cast nSub_zero i)))
      ∗ ((bigSep Finset.univ fun i : Fin ((K (F := F)).nSub 0) => zeroth c.val (tdK m d ((K (F := F)).core 0 c) (Fin.cast nSub_zero i)))
          -∗ iprop(zeroth c.val (dnK m d ((K (F := F)).core 0 c)) ∗ ownBufs (S d ((K (F := F)).core 0 c)))))
  rw [over_tasks (F := F) fun i => zeroth c.val (goK m d ((K (F := F)).core 0 c) i), over_tasks (F := F) fun i => zeroth c.val (tdK m d ((K (F := F)).core 0 c) i)]
  by_cases h : c.val < 1
  · simp only [zeroth_pos h]
    exact vec_zero m d _
  · simp only [zeroth_neg h, emp_fam]
    iintro ⟨-, H⟩
    imodintro
    isplitr; · iempintro
    iintro -
    isplitr; · iempintro
    iexact H

/-! ## The host's program -/

abbrev x' : DevRef τ sig := Proc.devRef .tc (main_arg0 : Ref sig .tc)
abbrev o' : DevRef τ sig := Proc.devRef .tc (main_v0 : Ref sig .tc)
abbrev s' : DevRef τ sig := Proc.devRef .tc (main_v1 : Ref sig .tc)
abbrev r' : DevRef τ sig := Proc.devRef .tc (main_v2 : Ref sig .tc)
abbrev sLoc (d : Dev nD) : Loc nD τ sig := (SparseCore.T d).loc main_v1
abbrev rLoc (d : Dev nD) : Loc nD τ sig := (SparseCore.T d).loc main_v2

/-- The host's arrays. -/
abbrev S4 : Finset (DevRef τ sig) := {x', o', s', r'}

theorem held_S4 (d : Dev nD) (W : Valuation τ sig (Elt F)) :
    (StableHlo.held (T d) S4 W : sProp 𝕄) = iprop((xLoc d ↦{fullShare} W x') ∗ (oLoc d ↦{fullShare} W o') ∗ (sLoc d ↦{fullShare} W s') ∗ rLoc d ↦{fullShare} W r') := by
  unfold StableHlo.held S4
  rw [SparseCore.bigSep_insert' (by decide), SparseCore.bigSep_insert' (by decide), SparseCore.bigSep_insert' (by decide), bigSep_singleton]

theorem unscoped_eq (d : Dev nD) (W : (b : Ref sig .tc) → Buf (Elt F) ((d.tc : Thread nD τ).loc b)) :
    (unscopedBufs d W : sProp 𝕄) = iprop((xLoc d ↦{fullShare} W main_arg0) ∗ (oLoc d ↦{fullShare} W main_v0) ∗ (sLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

theorem over_cores (Φ : ℕ → sProp (MT nD τ sig (HIx 9) (Elt F) ℕ UU ℕ)) (h : Φ 1 = iprop(emp)) : (bigSep Finset.univ fun c : Fin ((K (F := F)).nCore 0) => Φ c.val) = Φ 0 := by
  show (bigSep (Finset.univ : Finset (Fin 2)) fun c => Φ c.val) = _
  rw [show (Finset.univ : Finset (Fin 2)) = {0, 1} by decide, SparseCore.bigSep_insert' (by decide), bigSep_singleton]
  show iprop(Φ 0 ∗ Φ 1) = _
  rw [h]
  exact emp_right _

theorem st0_eq (d : Dev nD) : (bigSep Finset.univ fun c : Fin ((K (F := F)).nCore 0) => (P m).st 0 d c) = stK m d :=
  (over_cores (F := F) (fun c => zeroth c (stK m d)) (zeroth_neg (by decide) _)).trans (zeroth_pos (by decide) _)

abbrev core0 : Fin τ.nSC := ⟨0, by decide⟩

theorem dn0_eq (d : Dev nD) : (bigSep Finset.univ fun c : Fin ((K (F := F)).nCore 0) => (P m).dn 0 d c) = dnK m d core0 := by
  have e : (bigSep Finset.univ fun c : Fin ((K (F := F)).nCore 0) => (P m).dn 0 d c) = bigSep Finset.univ fun c : Fin ((K (F := F)).nCore 0) => zeroth c.val (dnK m d core0) :=
    bigSep_congr fun c _ => by
      show zeroth c.val (dnK m d ((K (F := F)).core 0 c)) = _
      by_cases h : c.val < 1
      · rw [show (K (F := F)).core 0 c = core0 from Fin.ext (Nat.lt_one_iff.mp h)]
      · rw [zeroth_neg h, zeroth_neg h]
  exact e.trans ((over_cores (F := F) (fun c => zeroth c (dnK m d core0)) (zeroth_neg (by decide) _)).trans (zeroth_pos (by decide) _))

/-- The two host operations after the call. -/
abbrev opSlice : HloOp τ sig (Elt F) := StableHlo.unary main_v0 main_v1 ((extractStridedSlice S1 ![0] · slices_S16_S1_0) : (S16.Idx → Elt F .f32) → (S1.Idx → Elt F .f32))
abbrev opShape : HloOp τ sig (Elt F) := StableHlo.reshape main_v1 main_v2 rfl shapeCasts_S1_S_

theorem hSlice : (opSlice (F := F)).bufs ⊆ S4 := show ({o', s'} : Finset (DevRef τ sig)) ⊆ S4 by decide
theorem hShape : (opShape (F := F)).bufs ⊆ S4 := show ({s', r'} : Finset (DevRef τ sig)) ⊆ S4 by decide

/-- The arrays at the launch, after the call, and after each operation. -/
def V0 (d : Dev nD) : Valuation τ sig (Elt F) := fun b => m (d, b)
def V1 (d : Dev nD) : Valuation τ sig (Elt F) := Function.update (V0 m d) o' (res m d)
def V2 (d : Dev nD) : Valuation τ sig (Elt F) := (opSlice (F := F)).result (V1 m d)
def V3 (d : Dev nD) : Valuation τ sig (Elt F) := (opShape (F := F)).result (V2 m d)

/-- What the host's program leaves. -/
abbrev FIN (d : Dev nD) : sProp 𝕄 :=
  iprop((xLoc d ↦{fullShare} m (xLoc d)) ∗ (rLoc d ↦{fullShare} (fun _ => meanOf (xs m d) : Buf (Elt F) (rLoc d))) ∗ bigSep Finset.univ fun i : Fin 16 => semVal (cell d core0 i) 0)

theorem V1_x (d : Dev nD) : V1 m d x' = m (xLoc d) := Function.update_of_ne (show x' ≠ o' by decide) _ _
theorem V1_o (d : Dev nD) : V1 m d o' = res m d := Function.update_self _ _ _
theorem V3_x (d : Dev nD) : V3 m d x' = m (xLoc d) := by
  unfold V3 V2
  rw [(opShape (F := F)).result_of_not_mem _ (b := x') (show x' ∉ ({r'} : Finset (DevRef τ sig)) by decide),
    (opSlice (F := F)).result_of_not_mem _ (b := x') (show x' ∉ ({s'} : Finset (DevRef τ sig)) by decide), V1_x]

theorem V2_s (d : Dev nD) : V2 m d s' = (fun _ => meanOf (xs m d) : Buf (Elt F) (sLoc d)) := by
  unfold V2
  exact (StableHlo.unary_result main_v0 main_v1 _ _ _ (V1 m d)).trans
    ((congrArg (fun f : Buf (Elt F) (oLoc d) => (extractStridedSlice S1 ![0] (f : S16.Idx → Elt F .f32) slices_S16_S1_0 : Buf (Elt F) (sLoc d))) (V1_o m d)).trans (funext fun _ => rfl))
theorem V3_r (d : Dev nD) : V3 m d r' = (fun _ => meanOf (xs m d) : Buf (Elt F) (rLoc d)) := by
  unfold V3
  exact (StableHlo.reshape_result main_v1 main_v2 rfl shapeCasts_S1_S_ _ _ (V2 m d)).trans
    ((congrArg (fun f : Buf (Elt F) (sLoc d) => (shapeCast S_ (f : S1.Idx → Elt F .f32) shapeCasts_S1_S_ : Buf (Elt F) (rLoc d))) (V2_s m d)).trans (funext fun _ => rfl))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_eq]
  simp only [main, wp_bind, wp_pure]
  iintro ⟨#Hctx, Hst, ⟨Hb, ⟨Hx, Ho, Hs, Hr⟩, Hts, -⟩, -⟩
  iapply ((K (F := F)).wp_run (D (F := F)) 𝒱 (EH := EH) (P := P m) κ d 0) $$ [Hst Hx Ho Hs Hr Hb Hts]
  isplitr; · iexact Hctx
  isplitl [Hst]; · iexact Hst
  isplitl [Hx Ho]
  · rw [st0_eq]
    unfold stK
    isplitl [Hx]; · iexact Hx
    iexact Ho
  iintro ⟨Hst, Hdn⟩
  ihave Hdn' := (Entails.of_eq (dn0_eq m d)) $$ Hdn
  unfold dnK
  icases Hdn' with ⟨Hx, Ho, Hbars⟩
  iapply (StableHlo.wp_hlo_within 𝒱 (SparseCore.T d) none Set.univ (op := opSlice) (S := S4) hSlice (V := V1 m d)) $$ [Hb Hx Ho Hs Hr]
  · isplitl [Hb]; · iexact Hb
    rw [held_S4, V1_x, V1_o]
    isplitl [Hx]; · iexact Hx
    isplitl [Ho]; · iexact Ho
    isplitl [Hs]; · iexact Hs
    iexact Hr
  iintro ⟨Hb, Hheld⟩
  rw [wp_ret]; imodintro
  iapply (StableHlo.wp_hlo_within 𝒱 (SparseCore.T d) none Set.univ (op := opShape) (S := S4) hShape (V := V2 m d)) $$ [Hb Hheld]
  · isplitl [Hb]; · iexact Hb
    iexact Hheld
  iintro ⟨Hb, Hheld⟩
  ihave Hh := (Entails.of_eq (show (StableHlo.held (SparseCore.T d) S4 ((opShape (F := F)).result (V2 m d)) : sProp 𝕄) = _ from held_S4 (F := F) d (V3 m d))) $$ Hheld
  icases Hh with ⟨Hx, -, -, Hr⟩
  ihave Hx' := (Entails.of_eq (congrArg (fun f => (xLoc d ↦{fullShare} f : sProp 𝕄)) (V3_x m d))) $$ Hx
  ihave Hr' := (Entails.of_eq (congrArg (fun f => (rLoc d ↦{fullShare} f : sProp 𝕄)) (V3_r m d))) $$ Hr
  rw [wp_ret]; imodintro; imodintro
  isplitl [Hst]; · iexact Hst
  isplitr [Hb Hts]
  · isplitl [Hx']; · iexact Hx'
    isplitl [Hr']; · iexact Hr'
    iexact Hbars
  isplitl [Hb] <;> iassumption

def fq (d : Dev nD) (s' : Phys nD τ sig (Elt F)) : Prop :=
  s'.mem.mem (xLoc d) = m (xLoc d) ∧ s'.mem.mem (rLoc d) = (fun _ => meanOf (xs m d) : Buf (Elt F) (rLoc d)) ∧ ∀ i : Fin 16, s'.mem.sem (cell d core0 i) = 0

theorem read_whole (ℓ : Loc nD τ sig) (f : Buf (Elt F) ℓ) (s' : Phys nD τ sig (Elt F)) : iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) :=
  fun x hx => ⟨((sep_mono_left sep_elim_left).trans (read_whole _ _ s')) x hx,
    ((sep_mono_left (sep_elim_right.trans sep_elim_left)).trans (read_whole _ _ s')) x hx, fun i =>
    ((sep_mono_left (sep_elim_right.trans (sep_elim_right.trans (SparseCore.ent (bigSep_elim (Finset.mem_univ i)))))).trans (SparseCore.Cfg.semVal_zero_read _ s')) x hx⟩

/-- The tiles' own cells end at zero. -/
theorem hA (s' : Phys nD τ sig (Elt F)) (h : ∀ d, fq m d s') (g : GSem nD τ sig) (hg : g ∈ bCells) : s'.mem.sem g = 0 := by
  obtain ⟨⟨d, c, i⟩, hx, rfl⟩ := Finset.mem_image.mp hg
  obtain rfl : c = core0 := Fin.ext (Nat.lt_one_iff.mp (Finset.mem_filter.mp hx).2)
  exact (h d).2.2 i

/-! ## The run -/

/-- What the run leaves: the losses as they were, the result the mean of the chosen losses, every semaphore at zero. -/
def QC : PUnit × MemSt nD τ sig (Elt F) → Prop := fun r =>
  (∀ d : Dev nD, r.2.mem (xLoc d) = m (xLoc d) ∧ r.2.mem (rLoc d) = (fun _ => meanOf (xs m d) : Buf (Elt F) (rLoc d))) ∧ r.2.sem = fun _ => 0

/-- From any start the call's program runs to its end, and leaves that. -/
theorem run_main [∀ e, Nonempty (Elt F e)] : θ_run (Cert.Sc.defs (F := F)) (Cert.Sc.threads (F := F)) ⟨m, fun _ => 0, ρ⟩ (QC m) :=
  SparseCore.Cfg.θ_run_sc_quiescent (K := K (F := F)) (D := D (F := F)) (𝒱 := 𝒱) (EH := EH) (P := P m) (hA := hA m) facts v₀
    (fun q hq => match q with | 0 => nomatch hq)
    (fun q _ => match q with | 0 => tileObl m facts)
    (fun q _ => match q with | 0 => vecSplit m)
    m ρ main (fun _ => iprop(emp)) (FIN m) (u₀ (F := F)) (hu₀ m) (hmain m ρ) (fq m) (hfin m) (QC m)
    (fun _ h hz => ⟨fun d => ⟨(h d).1, (h d).2.1⟩, hz⟩)

/-- The SparseCore call's program terminates, nothing faulting, its argument unchanged, every semaphore at zero. -/
theorem frame : Cert.quiescent_Sc := fun m ρ _ =>
  (θ_run Cert.Sc.defs _ _).mono (fun _ h => ⟨fun c => (h.1 c).1, h.2⟩) (run_main (F := Bits) m ρ)

end Cert.Proof.Mean

end
-- ==== Proof.RefRun.lean ====
/-
  The reference's run: the value it leaves, read off the program.
-/
module

public import proofs.«01_k».proof.Proof.Gen.ScRef.Frame
public import Idealize.ShloMosaic.Lib.Claim
public import Idealize.ShloMosaic.Lib.Pipeline.ValueKit
public import Idealize.ShloMosaic.Lib.Pipeline.ValueKit.Point

@[expose] public section

noncomputable section

namespace Cert.Proof.RefRun

open Cert.ScRef Cert.ScRef.Gen
open Idealize.ShloMosaic Idealize.SL.Sem

variable {F : FTy → Type} [BitOps F] [∀ e, Nonempty (Elt F e)]

/-! ## The reference's values, each of the losses -/

/-- The 11468 greatest losses, in order. -/
def topR (x : FVec F S16384 .f32) : FVec F S11468 .f32 := (Host.topK S11468 0 (FloatOps.cmpfTotal .gt) x sliceFits_S16384_S11468).1
/-- The least of them. -/
def tauR (x : FVec F S16384 .f32) : FVec F S_ .f32 := shapeCast S_ (extractStridedSlice S1 ![11467] (topR x) slices_S11468_S1_11467) shapeCasts_S1_S_
/-- Which entries of one list of words are in another. -/
def memI (w : IVec S16384 32) (l : IVec S11468 32) : IVec S16384 1 :=
  Host.reduce IntOp.ori
    (cmpi .eq
      (broadcastInDim S16384x11468 ![0, 1] bcast_S16384x1_S16384x11468_0_1 (broadcastInDim S16384x1 ![0] bcast_S16384_S16384x1_0 w))
      (broadcastInDim S16384x11468 ![0, 1] bcast_S1x11468_S16384x11468_0_1 (broadcastInDim S1x11468 ![1] bcast_S11468_S1x11468_1 l)))
    (constantI S_ 1 0#1) reducesTo_S16384x11468_S16384_d1 h_S_
/-- Those of the losses picked by a mask whose bits are not another's. -/
def aboveI (b : IVec S16384 1) (x : FVec F S16384 .f32) (t : FVec F S_ .f32) : IVec S16384 1 :=
  andi b (cmpi .ne (bitcastToInt x) (broadcastInDim S16384 ![] bcast_S_S16384 (bitcastToInt t)))
/-- How many a mask picks. -/
def countI (b : IVec S16384 1) : FVec F S_ .f32 :=
  sitofp .f32 (Host.reduce IntOp.addi (extui 32 b natLt_1_32) (constantI S_ 32 0#32) reducesTo_S16384_S_d0 h_S_)
/-- The losses a mask picks, one value in the place of the rest. -/
def keptI (b : IVec S16384 1) (x : FVec F S16384 .f32) (z : FVec F S_ .f32) : FVec F S16384 .f32 :=
  select b x (broadcastInDim S16384 ![] bcast_S_S16384 z)
/-- Which losses are one of the greatest and not tied with the least of them. -/
def aboveR (x : FVec F S16384 .f32) : IVec S16384 1 := aboveI (memI (bitcastToInt x) (bitcastToInt (topR x))) x (tauR x)
/-- How many those are. -/
def countR (x : FVec F S16384 .f32) : FVec F S_ .f32 := countI (aboveR x)
/-- Those losses, zero in the place of the rest. -/
def keptR (x : FVec F S16384 .f32) : FVec F S16384 .f32 := keptI (aboveR x) x (constant S_ .f32 0x00000000#32)
/-- The mean. -/
def meanR (x : FVec F S16384 .f32) : FVec F S_ .f32 :=
  shapeCast S_ (out0_3 (shapeCast S16x64x16 (keptR x) shapeCasts_S16384_S16x64x16) (shapeCast S1x1 (tauR x) shapeCasts_S_S1x1) (shapeCast S1x1 (countR x) shapeCasts_S_S1x1)) shapeCasts_S1x1_S_

variable (m : (ℓ : Loc nD τ sig) → Buf (Elt F) ℓ) (ρ : Dev nD → PrngReg)

/-! ## The stretches, each over what its operands hold -/

section
/-- A value written to a buffer of its type and read back is that value. -/
theorem read_written {T : BufTy} (x : StableHlo.TRef sig T) (v : T.Contents (Elt F)) : x.ofBuf (x.toBuf v) = v := by
  unfold StableHlo.TRef.ofBuf StableHlo.TRef.toBuf
  rw [cast_cast, cast_eq]

variable (W : Valuation τ sig (Elt F))

/-- After the first stretch the least of the greatest losses is in its buffer. -/
theorem st0_v1 : StableHlo.after hostOps0 W (Proc.devRef .tc main_v1) = tauR (W (Proc.devRef .tc main_arg0)) := by
  unfold hostOps0
  after_results
  rfl
/-- After the first stretch the losses' words are in their buffer. -/
theorem st0_v2 : StableHlo.after hostOps0 W (Proc.devRef .tc main_v2) = bitcastToInt (F := F) (W (Proc.devRef .tc main_arg0) : FVec F S16384 .f32) := by
  unfold hostOps0
  after_results
  try rfl
/-- After the first stretch the greatest losses' words are in their buffer. -/
theorem st0_v3 : StableHlo.after hostOps0 W (Proc.devRef .tc main_v3) = bitcastToInt (F := F) (topR (W (Proc.devRef .tc main_arg0))) := by
  unfold hostOps0
  after_results
  try rfl
/-- The first stretch leaves the losses. -/
theorem st0_a0 : StableHlo.after hostOps0 W (Proc.devRef .tc main_arg0) = W (Proc.devRef .tc main_arg0) := by
  unfold hostOps0
  after_results
/-- After the second stretch the mask says which words are among the greatest. -/
theorem st1_v4 : StableHlo.after hostOps0_1 W (Proc.devRef .tc main_v4) = memI (W (Proc.devRef .tc main_v2)) (W (Proc.devRef .tc main_v3)) := by
  unfold hostOps0_1
  after_results
  simp only [read_written]
  have e2 : ∀ h1 h2 h3, (StableHlo.TRef.of (T := ⟨S16384, .i32⟩) main_v2 h1 h2 h3).ofBuf (W (Proc.devRef .tc main_v2)) = W (Proc.devRef .tc main_v2) :=
    fun _ _ _ => eq_of_heq (cast_heq _ _)
  have e3 : ∀ h1 h2 h3, (StableHlo.TRef.of (T := ⟨S11468, .i32⟩) main_v3 h1 h2 h3).ofBuf (W (Proc.devRef .tc main_v3)) = W (Proc.devRef .tc main_v3) :=
    fun _ _ _ => eq_of_heq (cast_heq _ _)
  refine eq_of_heq ((cast_heq _ _).trans (heq_of_eq ?_))
  unfold memI
  rw [e2, e3]
/-- The second stretch leaves the least of the greatest losses. -/
theorem st1_v1 : StableHlo.after hostOps0_1 W (Proc.devRef .tc main_v1) = W (Proc.devRef .tc main_v1) := by
  unfold hostOps0_1
  after_results
/-- The second stretch leaves the losses. -/
theorem st1_a0 : StableHlo.after hostOps0_1 W (Proc.devRef .tc main_arg0) = W (Proc.devRef .tc main_arg0) := by
  unfold hostOps0_1
  after_results
/-- After the third stretch the mask says which losses are above the least of the greatest. -/
theorem st2_v9 : StableHlo.after hostOps0_2 W (Proc.devRef .tc main_v9) = aboveI (W (Proc.devRef .tc main_v4)) (W (Proc.devRef .tc main_arg0)) (W (Proc.devRef .tc main_v1)) := by
  unfold hostOps0_2
  after_results
  rfl
/-- After the third stretch their number is in its buffer. -/
theorem st2_v12 : StableHlo.after hostOps0_2 W (Proc.devRef .tc main_v12) = countI (F := F) (aboveI (W (Proc.devRef .tc main_v4)) (W (Proc.devRef .tc main_arg0)) (W (Proc.devRef .tc main_v1))) := by
  unfold hostOps0_2
  after_results
  rfl
/-- After the third stretch the zero is in its buffer. -/
theorem st2_cst : StableHlo.after hostOps0_2 W (Proc.devRef .tc main_cst) = constant (F := F) S_ .f32 0x00000000#32 := by
  unfold hostOps0_2
  after_results
/-- The third stretch leaves the least of the greatest losses. -/
theorem st2_v1 : StableHlo.after hostOps0_2 W (Proc.devRef .tc main_v1) = W (Proc.devRef .tc main_v1) := by
  unfold hostOps0_2
  after_results
/-- The third stretch leaves the losses. -/
theorem st2_a0 : StableHlo.after hostOps0_2 W (Proc.devRef .tc main_arg0) = W (Proc.devRef .tc main_arg0) := by
  unfold hostOps0_2
  after_results
/-- After the fourth stretch the kept losses are in their buffer. -/
theorem st3_v13 : StableHlo.after hostOps0_3 W (Proc.devRef .tc main_v13) = keptI (W (Proc.devRef .tc main_v9)) (W (Proc.devRef .tc main_arg0)) (W (Proc.devRef .tc main_cst)) := by
  unfold hostOps0_3
  after_results
  rfl
/-- The fourth stretch leaves the least of the greatest losses. -/
theorem st3_v1 : StableHlo.after hostOps0_3 W (Proc.devRef .tc main_v1) = W (Proc.devRef .tc main_v1) := by
  unfold hostOps0_3
  after_results
/-- The fourth stretch leaves the count. -/
theorem st3_v12 : StableHlo.after hostOps0_3 W (Proc.devRef .tc main_v12) = W (Proc.devRef .tc main_v12) := by
  unfold hostOps0_3
  after_results
/-- After the last stretch the kept losses stand by tile, vector and lane. -/
theorem st4_v14 : StableHlo.after hostOps0_4 W (Proc.devRef .tc main_v14) = shapeCast S16x64x16 (W (Proc.devRef .tc main_v13) : FVec F S16384 .f32) shapeCasts_S16384_S16x64x16 := by
  unfold hostOps0_4
  after_results
  rfl
/-- After the last stretch the least of the greatest losses stands as a one-by-one array. -/
theorem st4_v15 : StableHlo.after hostOps0_4 W (Proc.devRef .tc main_v15) = shapeCast S1x1 (W (Proc.devRef .tc main_v1) : FVec F S_ .f32) shapeCasts_S_S1x1 := by
  unfold hostOps0_4
  after_results
  rfl
/-- After the last stretch the count stands as a one-by-one array. -/
theorem st4_v16 : StableHlo.after hostOps0_4 W (Proc.devRef .tc main_v16) = shapeCast S1x1 (W (Proc.devRef .tc main_v12) : FVec F S_ .f32) shapeCasts_S_S1x1 := by
  unfold hostOps0_4
  after_results
  rfl
end

/-- The memory before the call is that after the five stretches in order. -/
theorem V0_eq (c : Dev nD) : V0 m c = StableHlo.after hostOps0_4 (StableHlo.after hostOps0_3 (StableHlo.after hostOps0_2 (StableHlo.after hostOps0_1 (StableHlo.after hostOps0 (fun b => m (c, b)))))) := by
  show StableHlo.after (hostOps0 ++ (hostOps0_1 ++ (hostOps0_2 ++ (hostOps0_3 ++ (hostOps0_4 ++ []))))) _ = _
  rw [List.append_nil]
  simp only [StableHlo.after_append]

/-- The first operand of the call, of the losses. -/
theorem V_v14 (c : Dev nD) : V m c main_v14 = shapeCast S16x64x16 (keptR (m ((c.tc : Thread nD τ).loc main_arg0))) shapeCasts_S16384_S16x64x16 := by
  show V0 m c _ = _
  rw [V0_eq, st4_v14, st3_v13, st2_v9, st2_a0, st2_cst, st1_v4, st1_a0, st1_v1, st0_v2, st0_v3, st0_a0, st0_v1]
  rfl
/-- The second operand of the call, of the losses. -/
theorem V_v15 (c : Dev nD) : V m c main_v15 = shapeCast S1x1 (tauR (m ((c.tc : Thread nD τ).loc main_arg0))) shapeCasts_S_S1x1 := by
  show V0 m c _ = _
  rw [V0_eq, st4_v15, st3_v1, st2_v1, st1_v1, st0_v1]
/-- The third operand of the call, of the losses. -/
theorem V_v16 (c : Dev nD) : V m c main_v16 = shapeCast S1x1 (countR (m ((c.tc : Thread nD τ).loc main_arg0))) shapeCasts_S_S1x1 := by
  show V0 m c _ = _
  rw [V0_eq, st4_v16, st3_v12, st2_v12, st1_v4, st1_a0, st1_v1, st0_v2, st0_v3, st0_a0, st0_v1]
  rfl

/-- The first window stays at the origin. -/
theorem idx0 : ∀ t : Fin cfg0.N, ∀ a, win0_0.index t a = 0 := by decide +kernel
/-- The second window stays at the origin. -/
theorem idx1 : ∀ t : Fin cfg0.N, ∀ a, win0_1.index t a = 0 := by decide +kernel
/-- The third window stays at the origin. -/
theorem idx2 : ∀ t : Fin cfg0.N, ∀ a, win0_2.index t a = 0 := by decide +kernel
/-- The result window stays at the origin. -/
theorem idx3 : ∀ t : Fin cfg0.N, ∀ a, win0_3.index t a = 0 := by decide +kernel

/-- The first block is its whole array. -/
theorem rd0 (t : Fin cfg0.N) (v : Vec F S16x64x16 .f32) : (((cfg0.win 0).blk t).view.read (Elt F) v : Vec F S16x64x16 .f32) = v := by
  funext y
  show v _ = v y
  congr 1
  funext a
  apply Fin.ext
  rw [show (((cfg0.win 0).blk t).view.emb y a).val = (y a).val from Pipeline.Window.rect_emb_val_of_index_zero win0_0 t a (idx0 t a) y]
/-- The second block is its whole array. -/
theorem rd1 (t : Fin cfg0.N) (v : Vec F S1x1 .f32) : (((cfg0.win 1).blk t).view.read (Elt F) v : Vec F S1x1 .f32) = v := by
  funext y
  show v _ = v y
  congr 1
  funext a
  apply Fin.ext
  rw [show (((cfg0.win 1).blk t).view.emb y a).val = (y a).val from Pipeline.Window.rect_emb_val_of_index_zero win0_1 t a (idx1 t a) y]
/-- The third block is its whole array. -/
theorem rd2 (t : Fin cfg0.N) (v : Vec F S1x1 .f32) : (((cfg0.win 2).blk t).view.read (Elt F) v : Vec F S1x1 .f32) = v := by
  funext y
  show v _ = v y
  congr 1
  funext a
  apply Fin.ext
  rw [show (((cfg0.win 2).blk t).view.emb y a).val = (y a).val from Pipeline.Window.rect_emb_val_of_index_zero win0_2 t a (idx2 t a) y]

/-- After the call the result array holds what the one block left. -/
theorem arr3 (c : Dev nD) : (dats m 0 c).arrAt 3 cfg0.N = out0_3 (V m c main_v14) (V m c main_v15) (V m c main_v16) := by
  have e0 : ∀ t, iblk m c 0 t = V m c main_v14 := fun t => rd0 t _
  have e1 : ∀ t, iblk m c 1 t = V m c main_v15 := fun t => rd1 t _
  have e2 : ∀ t, iblk m c 2 t = V m c main_v16 := fun t => rd2 t _
  refine (dats m 0 c).arrAt_eq_of_covers 3 _ (by decide +kernel) fun t hf y => ?_
  blk_simp
  rw [after0_3, e0, e1, e2]
  generalize out0_3 (V m c main_v14) (V m c main_v15) (V m c main_v16) = v
  congr 1
  funext a
  apply Fin.ext
  rw [show ((win0_3.blk t).view.emb y a).val = (y a).val from Pipeline.Window.rect_emb_val_of_index_zero win0_3 t a (idx3 t a) y]

/-- The reference runs to its end, leaving the mean of its argument and the argument unchanged. -/
theorem run_ref : θ_run (Cert.ScRef.defs (F := F)) (onTc (τ := τ) (Cert.ScRef.main (F := F))) ⟨m, fun _ => 0, ρ⟩ (fun r => ∀ c : Dev nD,
      r.2.mem ((c.tc : Thread nD τ).loc main_v18) = meanR (m ((c.tc : Thread nD τ).loc main_arg0))
      ∧ r.2.mem ((c.tc : Thread nD τ).loc main_arg0) = m ((c.tc : Thread nD τ).loc main_arg0)) := by
  run_from (Cert.ScRef.Gen.run_main m ρ)
  · unfold Pipeline.afterTail₀
    rw [show ([hostOps1] : List (List (HloOp τ sig (Elt F)))).flatten = [StableHlo.reshape main_v17 main_v18 (rfl : (.f32 : EltTy) = .f32) shapeCasts_S1x1_S_] from rfl]
    after_results
    have h := (Pipeline.withArrays_arr (cfgs 0).spec (by decide) c (V0 m c) (fun w => (dats m 0 c).arrAt w (cfgs 0).N) 3).trans (arr3 m c)
    rw [V_v14, V_v15, V_v16] at h
    exact congrArg (fun v => shapeCast S_ v shapeCasts_S1x1_S_) h
  · exact W_main_arg0 m (dats m) c

end Cert.Proof.RefRun

end
-- ==== Proof.Order.lean ====
/-
  The reference's selection, in terms of keys: the rank-th greatest loss, which losses are above it and how many.
-/
module

public import proofs.«01_k».proof.Proof.RefRun
public import Idealize.ShloMosaic.Lib.SortKey
public import Idealize.ShloMosaic.Lib.SortFacts
public import Idealize.ShloMosaic.Lib.IndicatorCount
public import Idealize.ShloMosaic.Lib.Routing.OpsOrder

@[expose] public section

noncomputable section

namespace Cert.Proof.Order

open Cert.ScRef Cert.ScRef.Gen Cert.Proof.RefRun
open Idealize.ShloMosaic

/-! ## Orders of 16384 keys -/

/-- The signed compare of two words is that of their signed values. -/
theorem slt_iff (a b : BitVec 32) : a.slt b = true ↔ a.toInt < b.toInt := by
  simp [BitVec.slt]

/-- The place of the rank among the positions. -/
def last : Fin 16384 := ⟨11467, by decide⟩

section
variable (k : Fin 16384 → BitVec 32) (σ : Fin 16384 → Fin 16384) (hs : Function.Surjective σ) (hi : Function.Injective σ)
  (ho : ∀ i j, i < j → (k (σ j)).toInt ≤ (k (σ i)).toInt)
include hs ho

/-- A key above that at the rank's place stands before it. -/
theorem lt_last (n : Fin 16384) (h : (k (σ last)).toInt < (k n).toInt) : ∃ j, j < last ∧ σ j = n := by
  obtain ⟨j, rfl⟩ := hs n
  refine ⟨j, ?_, rfl⟩
  by_contra hj
  rcases lt_or_eq_of_le (not_lt.mp hj) with h' | h'
  · have := ho _ _ h'; omega
  · rw [← h'] at h; omega

/-- Fewer than 11468 keys are above that at the rank's place. -/
theorem above_card : (Finset.univ.filter fun n : Fin 16384 => (k (σ last)).slt (k n) = true).card < 11468 := by
  have h1 : (Finset.univ.filter fun n : Fin 16384 => (k (σ last)).slt (k n) = true) ⊆ (Finset.univ.filter fun j : Fin 16384 => j < last).image σ := by
    intro n hn
    rw [Finset.mem_filter, slt_iff] at hn
    obtain ⟨j, hj, e⟩ := lt_last k σ hs ho n hn.2
    exact Finset.mem_image.2 ⟨j, Finset.mem_filter.2 ⟨Finset.mem_univ _, hj⟩, e⟩
  have h2 := (Finset.card_le_card h1).trans Finset.card_image_le
  have h3 : (Finset.univ.filter fun j : Fin 16384 => j < last) = Finset.Iio last := by ext j; simp
  rw [h3, Fin.card_Iio] at h2
  exact lt_of_le_of_lt h2 (by decide)

include hi
/-- At least 11468 keys are not below it. -/
theorem upto_card : 11468 ≤ (Finset.univ.filter fun n : Fin 16384 => (k n).slt (k (σ last)) = false).card := by
  have h1 : (Finset.univ.filter fun j : Fin 16384 => j ≤ last).image σ ⊆ (Finset.univ.filter fun n : Fin 16384 => (k n).slt (k (σ last)) = false) := by
    intro n hn
    obtain ⟨j, hj, rfl⟩ := Finset.mem_image.1 hn
    rw [Finset.mem_filter, ← Bool.not_eq_true, slt_iff]
    refine ⟨Finset.mem_univ _, ?_⟩
    rcases lt_or_eq_of_le (Finset.mem_filter.1 hj).2 with h' | h'
    · have := ho _ _ h'; omega
    · rw [h']; omega
  have h2 := Finset.card_le_card h1
  rw [Finset.card_image_of_injective _ hi] at h2
  have h3 : (Finset.univ.filter fun j : Fin 16384 => j ≤ last) = Finset.Iic last := by ext j; simp
  rw [h3, Fin.card_Iic] at h2
  exact le_trans (by decide) h2

/-- A word with fewer than 11468 keys above it and at least that many not below it is the key at the rank's place. -/
theorem eq_last (T : BitVec 32) (h1 : (Finset.univ.filter fun n : Fin 16384 => T.slt (k n) = true).card < 11468)
    (h2 : 11468 ≤ (Finset.univ.filter fun n : Fin 16384 => T.slt (k n) = true ∨ k n = T).card) : T = k (σ last) := by
  apply BitVec.eq_of_toInt_eq
  rcases lt_trichotomy T.toInt (k (σ last)).toInt with h | h | h
  · exfalso
    have hb := upto_card k σ hs hi ho
    have : (Finset.univ.filter fun n : Fin 16384 => (k n).slt (k (σ last)) = false) ⊆ (Finset.univ.filter fun n : Fin 16384 => T.slt (k n) = true) := by
      intro n hn
      rw [Finset.mem_filter] at hn ⊢
      rw [← Bool.not_eq_true, slt_iff] at hn
      rw [slt_iff]
      exact ⟨hn.1, by omega⟩
    have := Finset.card_le_card this
    omega
  · exact h
  · exfalso
    have ha := above_card k σ hs ho
    have : (Finset.univ.filter fun n : Fin 16384 => T.slt (k n) = true ∨ k n = T) ⊆ (Finset.univ.filter fun n : Fin 16384 => (k (σ last)).slt (k n) = true) := by
      intro n hn
      rw [Finset.mem_filter] at hn ⊢
      rw [slt_iff] at hn ⊢
      refine ⟨hn.1, ?_⟩
      rcases hn.2 with h' | h'
      · omega
      · rw [h']; exact h
    have := Finset.card_le_card this
    omega
end

/-! ## The reference's selection -/

variable (x : FVec Bits S16384 .f32)

/-- The key of loss `n`. -/
def key (n : Fin 16384) : BitVec 32 := sortableKey (x (ix1 n))

/-- The order of the losses, the greatest first. -/
def ord : Fin 16384 → Fin 16384 := sortedFrom fun a b => FloatOps.cmpfTotal (F := Bits) .gt (x (ix1 a)) (x (ix1 b)) == 1#1

/-- The sort's compare of two losses is that of their keys. -/
theorem before_eq (a b : Bits .f32) : (FloatOps.cmpfTotal (F := Bits) .gt a b == 1#1) = (sortableKey b).slt (sortableKey a) := by
  rw [cmpfTotal_f32_eq_cmpi_sortableKey]
  simp only [CmpDirection.signed, IntOp.cmpi]
  cases h : (sortableKey b).slt (sortableKey a) <;> simp [h]

/-- Every loss stands somewhere. -/
theorem ord_surj : Function.Surjective (ord x) := sortedFrom_surjective _
/-- No loss stands twice. -/
theorem ord_inj : Function.Injective (ord x) := sortedFrom_injective _
/-- No loss stands before a greater one. -/
theorem ord_le (i j : Fin 16384) (h : i < j) : (key x (ord x j)).toInt ≤ (key x (ord x i)).toInt := by
  have h := sortedFrom_noInversion (fun a b : Fin 16384 => FloatOps.cmpfTotal (F := Bits) .gt (x (ix1 a)) (x (ix1 b)) == 1#1)
    (fun a b : Fin 16384 => FloatOps.cmpfTotal (F := Bits) .gt (x (ix1 a)) (x (ix1 b)) == 1#1)
    (fun a b h => by
      rw [before_eq, slt_iff] at h
      rw [before_eq, ← Bool.not_eq_true, slt_iff]; omega)
    (fun a b h => h)
    (fun a b c h h' => by
      rw [before_eq, ← Bool.not_eq_true, slt_iff] at h h' ⊢; omega) i j h
  rw [before_eq, ← Bool.not_eq_true, slt_iff] at h
  unfold key ord
  omega

/-- A sort of two arrays by the first, at a place: the first's entry at the place's source. -/
theorem sort_apply {α β : Type} (g : α → α → BitVec 1) (x : S16384.Idx → α) (y : S16384.Idx → β) (p : S16384.Idx) :
    (Host.sort2 S16384 0 (fun l r : α × β => g l.1 r.1) x y).1 p = x (ix1 (sortedFrom (fun a b : Fin 16384 => g (x (ix1 a)) (x (ix1 b)) == 1#1) (p 0))) := by
  have h1 : (fun k : Fin 16384 => (ix1 k : S16384.Idx)) = fun k => p.along (0 : Fin 1) k := by
    funext k a; match a with | ⟨0, _⟩ => rfl
  have h2 : ∀ al : Fin 16384 → S16384.Idx, al = (fun k => p.along (0 : Fin 1) k) → (Host.sort2 S16384 0 (fun l r : α × β => g l.1 r.1) x y).1 p
      = x (al (sortedFrom (fun a b : Fin 16384 => g (x (al a)) (x (al b)) == 1#1) (p 0))) := by
    rintro _ rfl; rfl
  exact h2 _ h1

/-- Entry `j` of the reference's sorted losses is the loss standing `j`-th. -/
theorem topR_apply (j : Fin 11468) : topR x (ix1 j) = x (ix1 (ord x ⟨j.val, by omega⟩)) := by
  have e : topR x (ix1 j) = (Host.sort2 S16384 0 (fun l r : Bits .f32 × BitVec 32 => FloatOps.cmpfTotal (F := Bits) .gt l.1 r.1) x
      (fun i => if hd : 0 < S16384.rank then iotaInDim S16384 32 ⟨0, hd⟩ i else 0#32)).1 (ix1 ⟨0 + j.val, by omega⟩) := by
    have h : ∀ v : S16384.Idx → Bits .f32, extractStridedSlice S11468 (fun _ => 0) v sliceFits_S16384_S11468 (ix1 j) = v (ix1 ⟨0 + j.val, by omega⟩) := fun v => by
      unfold extractStridedSlice
      refine congrArg v ?_
      funext a; match a with | ⟨0, _⟩ => rfl
    have t : topR x = extractStridedSlice S11468 (fun _ => 0) (Host.sort2 S16384 0 (fun l r : Bits .f32 × BitVec 32 => FloatOps.cmpfTotal (F := Bits) .gt l.1 r.1) x
      (fun i => if hd : 0 < S16384.rank then iotaInDim S16384 32 ⟨0, hd⟩ i else 0#32)).1 sliceFits_S16384_S11468 := rfl
    rw [t]
    exact h _
  rw [e, sort_apply]
  unfold ord
  refine congrArg (fun q => x (ix1 (sortedFrom _ q))) (Fin.ext ?_)
  exact Nat.zero_add _

/-- The rank-th greatest loss. -/
theorem tauR_apply : tauR x ix0 = x (ix1 (ord x last)) := by
  unfold tauR
  refine Eq.trans ?_ (topR_apply x ⟨11467, by decide⟩)
  pointwise

/-- A list of words holds another's entry `n` where the mask says so. -/
theorem memI_apply (w : IVec S16384 32) (l : IVec S11468 32) (n : Fin 16384) : memI w l (ix1 n) = 1#1 ↔ ∃ j : Fin 11468, w (ix1 n) = l (ix1 j) := by
  unfold memI
  have hb : ∀ (a : Fin 16384) (b : Fin 11468), (cmpi .eq
      (broadcastInDim S16384x11468 ![0, 1] bcast_S16384x1_S16384x11468_0_1 (broadcastInDim S16384x1 ![0] bcast_S16384_S16384x1_0 w))
      (broadcastInDim S16384x11468 ![0, 1] bcast_S1x11468_S16384x11468_0_1 (broadcastInDim S1x11468 ![1] bcast_S11468_S1x11468_1 l))) (ix2 a b) = 1#1 ↔ w (ix1 a) = l (ix1 b) := fun a b => by
    pointwise
    unfold IntOp.cmpi
    by_cases e : w (ix1 a) = l (ix1 b)
    · simp [e]
    · have e' : (w (ix1 a) == l (ix1 b)) = false := beq_eq_false_iff_ne.2 e
      simp [e, e']
  revert hb
  generalize (cmpi .eq
      (broadcastInDim S16384x11468 ![0, 1] bcast_S16384x1_S16384x11468_0_1 (broadcastInDim S16384x1 ![0] bcast_S16384_S16384x1_0 w))
      (broadcastInDim S16384x11468 ![0, 1] bcast_S1x11468_S16384x11468_0_1 (broadcastInDim S1x11468 ![1] bcast_S11468_S1x11468_1 l))) = q
  intro hb
  rw [Host.reduce_eq_fold]
  refine (Routing.fold_ori _ _).trans ?_
  constructor
  · rintro ⟨i, hi, h⟩
    have hi := (Finset.mem_filter.1 hi).2
    have e0 : (i 0 : Fin 16384) = n := Fin.ext (congrArg (fun q : S16384.Idx => (q 0).val) hi)
    rw [eq_ix2 (n0 := 16384) (n1 := 11468) i, e0] at h
    exact ⟨_, (hb n (i 1)).1 h⟩
  · rintro ⟨j, h⟩
    refine ⟨ix2 n j, Finset.mem_filter.2 ⟨Finset.mem_univ _, ?_⟩, (hb _ _).2 h⟩
    funext a; match a with | ⟨0, _⟩ => rfl

/-- Which losses the reference keeps: those whose keys are above that of the rank-th greatest. -/
theorem aboveR_apply (n : Fin 16384) : aboveR x (ix1 n) = 1#1 ↔ (key x (ord x last)).slt (key x n) = true := by
  have e1 : aboveR x (ix1 n) = IntOp.andi (memI (bitcastToInt (F := Bits) x) (bitcastToInt (F := Bits) (topR x)) (ix1 n)) (IntOp.cmpi .ne (x (ix1 n)) (tauR x ix0)) := by
    unfold aboveR aboveI
    generalize memI (bitcastToInt (F := Bits) x) (bitcastToInt (F := Bits) (topR x)) = q
    generalize tauR x = t
    pointwise
    rfl
  have e2 : aboveR x (ix1 n) = 1#1 ↔ (memI (bitcastToInt (F := Bits) x) (bitcastToInt (F := Bits) (topR x)) (ix1 n) = 1#1 ∧ x (ix1 n) ≠ tauR x ix0) := by
    rw [e1]
    generalize memI (bitcastToInt (F := Bits) x) (bitcastToInt (F := Bits) (topR x)) (ix1 n) = q
    generalize tauR x ix0 = t
    unfold IntOp.andi IntOp.cmpi
    rcases BitVec.eq_zero_or_eq_one q with rfl | rfl
    · simp
    · by_cases e : x (ix1 n) = t
      · simp [e]
      · have e' : (x (ix1 n) != t) = true := bne_iff_ne.2 e
        simp [e, e']
  have e3 : memI (bitcastToInt (F := Bits) x) (bitcastToInt (F := Bits) (topR x)) (ix1 n) = 1#1 ↔ ∃ j : Fin 11468, x (ix1 n) = topR x (ix1 j) := memI_apply _ _ n
  rw [e2, e3, tauR_apply, slt_iff]
  constructor
  · rintro ⟨⟨j, hj⟩, hne⟩
    rw [topR_apply] at hj
    have h1 : (key x (ord x last)).toInt ≤ (key x n).toInt := by
      have hk : key x n = key x (ord x ⟨j.val, by omega⟩) := congrArg sortableKey hj
      rw [hk]
      rcases Nat.lt_or_ge j.val 11467 with h | h
      · exact ord_le x _ _ h
      · have : (⟨j.val, by omega⟩ : Fin 16384) = last := Fin.ext (by show j.val = 11467; omega)
        rw [this]
    rcases lt_or_eq_of_le h1 with h | h
    · exact h
    · exact absurd (sortableKey_injective (BitVec.eq_of_toInt_eq h)).symm hne
  · intro h
    obtain ⟨j, hj, e⟩ := lt_last (key x) (ord x) (ord_surj x) (ord_le x) n h
    refine ⟨⟨⟨j.val, lt_trans hj (by decide)⟩, ?_⟩, ?_⟩
    · rw [topR_apply, ← e]
    · intro e'
      have : key x n = key x (ord x last) := congrArg sortableKey e'
      rw [this] at h; omega

/-- How many the reference keeps. -/
theorem countR_apply : countR x ix0 = FloatOps.sitofp (F := Bits) .f32 (BitVec.ofNat 32 (Finset.univ.filter fun n : Fin 16384 => (key x (ord x last)).slt (key x n) = true).card) := by
  unfold countR countI
  show FloatOps.sitofp (F := Bits) .f32 (Host.reduce IntOp.addi (extui 32 (aboveR x) natLt_1_32) (constantI S_ 32 0#32) reducesTo_S16384_S_d0 h_S_ ix0) = _
  rw [Host.reduce_eq_fold, Finset.filter_true_of_mem (fun i _ => funext fun a => a.elim0)]
  refine congrArg (FloatOps.sitofp (F := Bits) .f32) ((IndicatorCount.fold_addi_setWidth_eq_card (aboveR x) Finset.univ).trans ?_)
  refine congrArg (BitVec.ofNat 32) (Finset.card_nbij' (fun i : S16384.Idx => (i 0 : Fin 16384)) (fun n => ix1 n) ?_ ?_ ?_ ?_)
  · intro i hi
    have hi := (Finset.mem_filter.1 hi).2
    rw [eq_ix1 (n0 := 16384) i] at hi
    exact Finset.mem_filter.2 ⟨Finset.mem_univ _, (aboveR_apply x (i 0)).1 hi⟩
  · intro n hn
    exact Finset.mem_filter.2 ⟨Finset.mem_univ _, (aboveR_apply x n).2 (Finset.mem_filter.1 hn).2⟩
  · intro i _; exact ix1_eta (n0 := 16384) i
  · intro n _; rfl

end Cert.Proof.Order

end
-- ==== Proof.Fold.lean ====
/-
  The reference's mean, read at its one entry: the sums down each lane, across the lanes, across the tiles.
-/
module

public import proofs.«01_k».proof.Proof.RefRun

@[expose] public section

noncomputable section

namespace Cert.Proof.Fold

open Cert.ScRef Cert.ScRef.Gen
open Idealize.ShloMosaic

variable {F : FTy → Type} [BitOps F] [∀ e, Nonempty (Elt F e)]

section
variable (x0 : Vec F S16x64x16 .f32) (a b : Fin 16) (L : ℕ → F .f32) (h0 : L 0 = Scalar.ofBits .f32 0x00000000#32)
  (hL : ∀ (n : ℕ) (h : n < 64), L (n + 1) = FloatOps.addf (L n) (x0 (ix3 a ⟨n, h⟩ b)))

include h0 hL in
/-- The accumulator of lane `b` of tile `a` after 9 vectors. -/
theorem acc1 : k0_pay1 (View.ld x0 r0_0) (View.ld x0 r0_1) (View.ld x0 r0_2) (View.ld x0 r0_3) (View.ld x0 r0_4) (View.ld x0 r0_5) (View.ld x0 r0_6) (View.ld x0 r0_7) (View.ld x0 r0_8) (ix2 a b) = L 9 := by
  rw [hL 8 (by decide), hL 7 (by decide), hL 6 (by decide), hL 5 (by decide), hL 4 (by decide), hL 3 (by decide), hL 2 (by decide), hL 1 (by decide), hL 0 (by decide), h0]
  pointwise [k0_pay1]

include hL in
/-- The accumulator of lane `b` of tile `a` after 19 vectors, from that after 9. -/
theorem acc2 (v : FVec F S16x16 .f32) (hv : v (ix2 a b) = L 9) : k0_pay2 v (View.ld x0 r0_9) (View.ld x0 r0_10) (View.ld x0 r0_11) (View.ld x0 r0_12) (View.ld x0 r0_13) (View.ld x0 r0_14) (View.ld x0 r0_15) (View.ld x0 r0_16) (View.ld x0 r0_17) (View.ld x0 r0_18) (ix2 a b) = L 19 := by
  rw [hL 18 (by decide), hL 17 (by decide), hL 16 (by decide), hL 15 (by decide), hL 14 (by decide), hL 13 (by decide), hL 12 (by decide), hL 11 (by decide), hL 10 (by decide), hL 9 (by decide), ← hv]
  pointwise [k0_pay2]

include hL in
/-- The accumulator of lane `b` of tile `a` after 29 vectors, from that after 19. -/
theorem acc3 (v : FVec F S16x16 .f32) (hv : v (ix2 a b) = L 19) : k0_pay3 v (View.ld x0 r0_19) (View.ld x0 r0_20) (View.ld x0 r0_21) (View.ld x0 r0_22) (View.ld x0 r0_23) (View.ld x0 r0_24) (View.ld x0 r0_25) (View.ld x0 r0_26) (View.ld x0 r0_27) (View.ld x0 r0_28) (ix2 a b) = L 29 := by
  rw [hL 28 (by decide), hL 27 (by decide), hL 26 (by decide), hL 25 (by decide), hL 24 (by decide), hL 23 (by decide), hL 22 (by decide), hL 21 (by decide), hL 20 (by decide), hL 19 (by decide), ← hv]
  pointwise [k0_pay3]

include hL in
/-- The accumulator of lane `b` of tile `a` after 39 vectors, from that after 29. -/
theorem acc4 (v : FVec F S16x16 .f32) (hv : v (ix2 a b) = L 29) : k0_pay4 v (View.ld x0 r0_29) (View.ld x0 r0_30) (View.ld x0 r0_31) (View.ld x0 r0_32) (View.ld x0 r0_33) (View.ld x0 r0_34) (View.ld x0 r0_35) (View.ld x0 r0_36) (View.ld x0 r0_37) (View.ld x0 r0_38) (ix2 a b) = L 39 := by
  rw [hL 38 (by decide), hL 37 (by decide), hL 36 (by decide), hL 35 (by decide), hL 34 (by decide), hL 33 (by decide), hL 32 (by decide), hL 31 (by decide), hL 30 (by decide), hL 29 (by decide), ← hv]
  pointwise [k0_pay4]

include hL in
/-- The accumulator of lane `b` of tile `a` after 49 vectors, from that after 39. -/
theorem acc5 (v : FVec F S16x16 .f32) (hv : v (ix2 a b) = L 39) : k0_pay5 v (View.ld x0 r0_39) (View.ld x0 r0_40) (View.ld x0 r0_41) (View.ld x0 r0_42) (View.ld x0 r0_43) (View.ld x0 r0_44) (View.ld x0 r0_45) (View.ld x0 r0_46) (View.ld x0 r0_47) (View.ld x0 r0_48) (ix2 a b) = L 49 := by
  rw [hL 48 (by decide), hL 47 (by decide), hL 46 (by decide), hL 45 (by decide), hL 44 (by decide), hL 43 (by decide), hL 42 (by decide), hL 41 (by decide), hL 40 (by decide), hL 39 (by decide), ← hv]
  pointwise [k0_pay5]

include hL in
/-- The accumulator of lane `b` of tile `a` after 59 vectors, from that after 49. -/
theorem acc6 (v : FVec F S16x16 .f32) (hv : v (ix2 a b) = L 49) : k0_pay6 v (View.ld x0 r0_49) (View.ld x0 r0_50) (View.ld x0 r0_51) (View.ld x0 r0_52) (View.ld x0 r0_53) (View.ld x0 r0_54) (View.ld x0 r0_55) (View.ld x0 r0_56) (View.ld x0 r0_57) (View.ld x0 r0_58) (ix2 a b) = L 59 := by
  rw [hL 58 (by decide), hL 57 (by decide), hL 56 (by decide), hL 55 (by decide), hL 54 (by decide), hL 53 (by decide), hL 52 (by decide), hL 51 (by decide), hL 50 (by decide), hL 49 (by decide), ← hv]
  pointwise [k0_pay6]

end

/-- The same over all the lanes: what a tile's row comes to. -/
theorem row (x0 : Vec F S16x64x16 .f32) (L : ℕ → ℕ → ℕ → F .f32) (a : Fin 16)
    (hL : ∀ (b : Fin 16) (n : ℕ) (h : n < 64), L a b (n + 1) = FloatOps.addf (L a b n) (x0 (ix3 a ⟨n, h⟩ b)))
    (v : FVec F S16x16 .f32) (hv : ∀ b : Fin 16, v (ix2 a b) = L a b 59) :
    k0_pay7 v (View.ld x0 r0_59) (View.ld x0 r0_60) (View.ld x0 r0_61) (View.ld x0 r0_62) (View.ld x0 r0_63) (ix2 a (0 : Fin 1))
      = FloatOps.addf (Scalar.ofBits .f32 0x00000000#32) ((List.range 15).foldl (fun s l => FloatOps.addf s (L a (l + 1) 64)) (L a 0 64)) := by
  have e : ∀ b : Fin 16, L a b 64 = FloatOps.addf (FloatOps.addf (FloatOps.addf (FloatOps.addf (FloatOps.addf (v (ix2 a b)) (x0 (ix3 a (59 : Fin 64) b))) (x0 (ix3 a (60 : Fin 64) b))) (x0 (ix3 a (61 : Fin 64) b)))
      (x0 (ix3 a (62 : Fin 64) b))) (x0 (ix3 a (63 : Fin 64) b)) := fun b => by
    rw [hL b 63 (by decide), hL b 62 (by decide), hL b 61 (by decide), hL b 60 (by decide), hL b 59 (by decide), ← hv]; rfl
  show _ = FloatOps.addf _ (FloatOps.addf (FloatOps.addf (FloatOps.addf (FloatOps.addf (FloatOps.addf (FloatOps.addf (FloatOps.addf (FloatOps.addf (FloatOps.addf (FloatOps.addf (FloatOps.addf (FloatOps.addf (FloatOps.addf
    (FloatOps.addf (FloatOps.addf (L a (0 : Fin 16) 64) (L a (1 : Fin 16) 64)) (L a (2 : Fin 16) 64)) (L a (3 : Fin 16) 64)) (L a (4 : Fin 16) 64)) (L a (5 : Fin 16) 64)) (L a (6 : Fin 16) 64)) (L a (7 : Fin 16) 64))
    (L a (8 : Fin 16) 64)) (L a (9 : Fin 16) 64)) (L a (10 : Fin 16) 64)) (L a (11 : Fin 16) 64)) (L a (12 : Fin 16) 64)) (L a (13 : Fin 16) 64)) (L a (14 : Fin 16) 64)) (L a (15 : Fin 16) 64))
  simp only [e]
  pointwise [k0_pay7]

/-- The mean, of the tiles' rows `R` summed in order. -/
theorem mean (v : FVec F S16x1 .f32) (x1 x2 : Vec F S1x1 .f32) (R : ℕ → F .f32) (h0 : R 0 = Scalar.ofBits .f32 0x00000000#32)
    (hR : ∀ (n : ℕ) (h : n < 16), R (n + 1) = FloatOps.addf (R n) (v (ix2 ⟨n, h⟩ (0 : Fin 1)))) :
    k0_pay8 v (View.ld x1 r0_64) (View.ld x2 r0_64) (ix2 (0 : Fin 1) (0 : Fin 1))
      = FloatOps.divf (FloatOps.addf (FloatOps.addf (Scalar.ofBits .f32 0x00000000#32) (R 16))
          (FloatOps.mulf (x1 (ix2 (0 : Fin 1) (0 : Fin 1))) (FloatOps.subf (Scalar.ofBits .f32 0x46333000#32) (x2 (ix2 (0 : Fin 1) (0 : Fin 1))))))
          (Scalar.ofBits .f32 0x46333000#32) := by
  rw [hR 15 (by decide), hR 14 (by decide), hR 13 (by decide), hR 12 (by decide), hR 11 (by decide), hR 10 (by decide), hR 9 (by decide), hR 8 (by decide), hR 7 (by decide), hR 6 (by decide), hR 5 (by decide), hR 4 (by decide), hR 3 (by decide), hR 2 (by decide), hR 1 (by decide), hR 0 (by decide), h0]
  pointwise [k0_pay8]

end Cert.Proof.Fold

end
-- ==== Proof.Value.lean ====
/-
  The mean the kernel leaves is the reference's.
-/
module

public import proofs.«01_k».proof.Proof.Launch
public import proofs.«01_k».proof.Proof.Order
public import proofs.«01_k».proof.Proof.Fold
public import Idealize.ShloMosaic.Lib.NatWordsOrder

@[expose] public section

noncomputable section

namespace Cert.Proof.Value

open Cert.ScRef Cert.ScRef.Gen Cert.Proof.RefRun Cert.Proof.Order
open Cert.Proof.Mean (zf ix keyW keysOf chosen kept laneF rowsF overN foldL statF statsOf meanOf countN tauKey tauKey_spec)
open Idealize.ShloMosaic Idealize.ShloMosaic.Bits

variable (x : FVec Bits S16384 .f32)

/-- The losses by tile and place. -/
def tiles (s n : ℕ) : Bits .f32 := x (ix (1024 * s + n))

/-- The index of a place within the array is that place. -/
theorem ix_eq (n : ℕ) (h : n < 16384) : (ix n : S16384.Idx) = ix1 ⟨n, h⟩ := by
  funext a
  match a with | ⟨0, _⟩ => exact Fin.ext (Nat.mod_eq_of_lt h)

/-- The kernel's key of a loss is its sortable key. -/
theorem keyW_eq (v : Bits .f32) : keyW (F := Bits) v = sortableKey v := by
  have e : keyW (F := Bits) v = if (v : BitVec 32).slt 0#32 = true then (v : BitVec 32) ^^^ 2147483647#32 else v := rfl
  have hm : (v : BitVec 32).slt 0#32 = (v : BitVec 32).msb := BitVec.slt_zero_eq_msb
  rw [e, hm]
  cases h : (v : BitVec 32).msb
  · rw [sortableKey_of_msb_false v h]; rfl
  · rw [sortableKey_of_msb_true v h]; rfl

/-- The kernel's keys are the sortable ones. -/
theorem keysOf_eq (s n : ℕ) (h : 1024 * s + n < 16384) : keysOf (tiles x) s n = key x ⟨1024 * s + n, h⟩ := by
  unfold keysOf tiles key
  rw [keyW_eq, ix_eq _ h]

/-- A count over the tiles, lanes and vectors is one over the losses. -/
theorem countN_eq (κ : ℕ → ℕ → BitVec 32) (k : Fin 16384 → BitVec 32) (hk : ∀ s n (h : 1024 * s + n < 16384), κ s n = k ⟨1024 * s + n, h⟩)
    (P : BitVec 32 → Prop) [DecidablePred P] : countN κ P = (Finset.univ.filter fun n => P (k n)).card := by
  unfold countN
  simp only [Finset.card_filter]
  have e : ∀ s ∈ Finset.range 16, ∀ l ∈ Finset.range 16, ∀ m ∈ Finset.range 64, 1024 * s + (16 * m + l) < 16384 := by
    intro s hs l hl m hm
    rw [Finset.mem_range] at hs hl hm
    omega
  calc (∑ s ∈ Finset.range 16, ∑ l ∈ Finset.range 16, ∑ m ∈ Finset.range 64, if P (κ s (16 * m + l)) then 1 else 0)
      = ∑ q ∈ (Finset.range 16 ×ˢ Finset.range 16) ×ˢ Finset.range 64, if P (κ q.1.1 (16 * q.2 + q.1.2)) then 1 else 0 := by
        rw [Finset.sum_product, Finset.sum_product]
    _ = ∑ n : Fin 16384, if P (k n) then 1 else 0 := by
        refine Finset.sum_bij' (fun q hq => ⟨1024 * q.1.1 + (16 * q.2 + q.1.2), ?_⟩) (fun n _ => ((n.val / 1024, n.val % 16), n.val % 1024 / 16)) ?_ ?_ ?_ ?_ ?_
        · rw [Finset.mem_product, Finset.mem_product] at hq
          exact e _ hq.1.1 _ hq.1.2 _ hq.2
        · intro q hq; exact Finset.mem_univ _
        · intro n _
          simp only [Finset.mem_product, Finset.mem_range]
          have := n.isLt
          omega
        · rintro ⟨⟨s, l⟩, m⟩ hq
          simp only [Finset.mem_product, Finset.mem_range] at hq
          simp only [Prod.mk.injEq]
          omega
        · intro n _
          apply Fin.ext
          simp only
          omega
        · rintro ⟨⟨s, l⟩, m⟩ hq
          rw [Finset.mem_product, Finset.mem_product] at hq
          simp only
          rw [hk s _ (e _ hq.1.1 _ hq.1.2 _ hq.2)]

/-- The chosen key is the reference's. -/
theorem chosen_eq : chosen (tiles x) = key x (ord x last) := by
  obtain ⟨h1, h2⟩ := tauKey_spec (keysOf (tiles x))
  have ho : countN (keysOf (tiles x)) (fun k => (tauKey (keysOf (tiles x))).slt k = true ∨ k = tauKey (keysOf (tiles x)))
      = countN (keysOf (tiles x)) (fun k => (tauKey (keysOf (tiles x))).slt k = true) + countN (keysOf (tiles x)) (fun k => k = tauKey (keysOf (tiles x))) := by
    refine Mean.countN_or _ fun k hk e => ?_
    rw [e, slt_iff] at hk; omega
  rw [← ho, countN_eq _ (key x) (keysOf_eq x)] at h2
  rw [countN_eq _ (key x) (keysOf_eq x)] at h1
  exact eq_last (key x) (ord x) (ord_surj x) (ord_inj x) (ord_le x) _ h1 h2

/-- The word of the chosen key is the reference's rank-th greatest loss. -/
theorem word_eq : (FloatOps.ofBits .f32 (if (chosen (tiles x)).slt 0#32 = true then chosen (tiles x) ^^^ 2147483647#32 else chosen (tiles x)) : Bits .f32) = tauR x ix0 := by
  have e : ∀ k : BitVec 32, (FloatOps.ofBits .f32 (if k.slt 0#32 = true then k ^^^ 2147483647#32 else k) : Bits .f32) = sortableKey k := fun k => keyW_eq k
  rw [e, chosen_eq, tauR_apply]
  exact sortableKey_sortableKey _

/-- What the reference keeps of loss `n` is what the kernel does. -/
theorem keptR_apply (s n : ℕ) (h : 1024 * s + n < 16384) : keptR x (ix1 ⟨1024 * s + n, h⟩) = kept (tiles x s) (keysOf (tiles x) s) (chosen (tiles x)) n := by
  have e : keptR x (ix1 ⟨1024 * s + n, h⟩) = if aboveR x (ix1 ⟨1024 * s + n, h⟩) = 1#1 then x (ix1 ⟨1024 * s + n, h⟩) else zf := by
    unfold keptR keptI
    generalize aboveR x = q
    pointwise
    rfl
  rw [e, ite_cond_congr (propext (aboveR_apply x _))]
  unfold kept
  rw [keysOf_eq x s n h, chosen_eq]
  unfold tiles
  rw [ix_eq _ h]

/-! ## The counts -/

/-- The zero word is the natural number zero. -/
theorem zf_eq : (zf : Bits .f32) = f32OfNat 0 := f32OfNat_zero.symm

/-- A tile's count, as the tile leaves it. -/
theorem stat_one (t : Bits .f32) (n : ℕ) (h : n < 2 ^ 24) : statF t n 1 = f32OfNat n := by
  have e : statF t n 1 = addf32 zf (sitofp32 (BitVec.ofNat 32 n)) := rfl
  rw [e, sitofp32_ofNat (by omega), zf_eq, addf32_nat 0 n (by omega), Nat.zero_add]

/-- A tile counts at most its 1024 losses. -/
theorem over_le (κ : ℕ → BitVec 32) (p : BitVec 32) : (∑ l ∈ Finset.range 16, overN κ p 64 l) ≤ 1024 := by
  refine (Finset.sum_le_card_nsmul (Finset.range 16) _ 64 fun l _ => ?_).trans (by simp)
  unfold overN
  exact (Finset.card_filter_le _ _).trans (by simp)

/-- The tiles' counts summed in order are their sum. -/
theorem rows_one (n : ℕ) (h : n ≤ 16) : rowsF (statsOf (tiles x)) 1 n
    = f32OfNat (∑ s ∈ Finset.range n, ∑ l ∈ Finset.range 16, overN (keysOf (tiles x) s) (chosen (tiles x)) 64 l) := by
  have hb : ∀ n, n ≤ 16 → (∑ s ∈ Finset.range n, ∑ l ∈ Finset.range 16, overN (keysOf (tiles x) s) (chosen (tiles x)) 64 l) ≤ n * 1024 := fun n _ => by
    refine (Finset.sum_le_card_nsmul (Finset.range n) _ 1024 fun s _ => over_le _ _).trans (by simp)
  induction n with
  | zero => rw [Finset.sum_range_zero]; exact zf_eq
  | succ n ih =>
    have e : rowsF (statsOf (tiles x)) 1 (n + 1) = addf32 (rowsF (statsOf (tiles x)) 1 n) (statsOf (tiles x) n 1) := rfl
    have h1 := hb n (by omega)
    have h2 := over_le (keysOf (tiles x) n) (chosen (tiles x))
    have e2 : statsOf (tiles x) n 1 = f32OfNat (∑ l ∈ Finset.range 16, overN (keysOf (tiles x) n) (chosen (tiles x)) 64 l) := stat_one _ _ (by omega)
    rw [e, ih (by omega), e2, addf32_nat _ _ (by omega), Finset.sum_range_succ _ n]

/-- The kernel's count is the reference's. -/
theorem count_eq : FloatOps.addf zf (rowsF (statsOf (tiles x)) 1 16) = countR x ix0 := by
  have hN : (∑ s ∈ Finset.range 16, ∑ l ∈ Finset.range 16, overN (keysOf (tiles x) s) (chosen (tiles x)) 64 l)
      = (Finset.univ.filter fun n : Fin 16384 => (key x (ord x last)).slt (key x n) = true).card := by
    rw [← chosen_eq]
    exact countN_eq (keysOf (tiles x)) (key x) (keysOf_eq x) (fun k => (chosen (tiles x)).slt k = true)
  have hc := above_card (key x) (ord x) (ord_surj x) (ord_le x)
  show addf32 zf (rowsF (statsOf (tiles x)) 1 16) = _
  rw [rows_one x 16 le_rfl, hN, countR_apply, zf_eq, addf32_nat _ _ (by omega), Nat.zero_add]
  exact (sitofp32_ofNat (by omega)).symm

/-- The rank, a zero added to it, is the rank. -/
theorem rank_eq : FloatOps.addf zf (Scalar.ofBits .f32 0x46333000#32) = (Scalar.ofBits .f32 0x46333000#32 : Bits .f32) := by
  have e : (Scalar.ofBits .f32 0x46333000#32 : Bits .f32) = f32OfNat 11468 := by
    rw [f32OfNat_eq 11468 (by decide)]; decide
  show addf32 zf _ = _
  rw [e, zf_eq, addf32_nat _ _ (by decide)]

/-! ## The mean -/

/-- The reference's mean is the kernel's. -/
theorem mean_eq : meanR x = fun _ => meanOf (tiles x) := by
  funext j
  have ej : meanR x j = out0_3 (shapeCast S16x64x16 (keptR x) shapeCasts_S16384_S16x64x16) (shapeCast S1x1 (tauR x) shapeCasts_S_S1x1) (shapeCast S1x1 (countR x) shapeCasts_S_S1x1) (ix2 (0 : Fin 1) (0 : Fin 1)) := by
    unfold meanR
    generalize out0_3 (shapeCast S16x64x16 (keptR x) shapeCasts_S16384_S16x64x16) (shapeCast S1x1 (tauR x) shapeCasts_S_S1x1) (shapeCast S1x1 (countR x) shapeCasts_S_S1x1) = v
    pointwise
  have e1 : (shapeCast S1x1 (tauR x) shapeCasts_S_S1x1) (ix2 (0 : Fin 1) (0 : Fin 1)) = tauR x ix0 := by
    generalize tauR x = t
    pointwise
  have e2 : (shapeCast S1x1 (countR x) shapeCasts_S_S1x1) (ix2 (0 : Fin 1) (0 : Fin 1)) = countR x ix0 := by
    generalize countR x = t
    pointwise
  have e3 : ∀ (a : Fin 16) (n : Fin 64) (b : Fin 16), (shapeCast S16x64x16 (keptR x) shapeCasts_S16384_S16x64x16) (ix3 a n b)
      = kept (tiles x a) (keysOf (tiles x) a) (chosen (tiles x)) (16 * n + b) := fun a n b => by
    rw [← keptR_apply x a (16 * n + b) (by omega)]
    generalize keptR x = t
    pointwise
    refine congrArg t (congrArg ix1 (Fin.ext ?_))
    simp only
    omega
  rw [ej]
  generalize shapeCast S16x64x16 (keptR x) shapeCasts_S16384_S16x64x16 = X0 at e3 ⊢
  generalize shapeCast S1x1 (tauR x) shapeCasts_S_S1x1 = X1 at e1 ⊢
  generalize shapeCast S1x1 (countR x) shapeCasts_S_S1x1 = X2 at e2 ⊢
  unfold out0_3
  rw [View.canon_unit_zero (S := S1x1) (by funext a; match a with | ⟨0, _⟩ => rfl | ⟨1, _⟩ => rfl)]
  have hL : ∀ (a b : Fin 16) (n : ℕ) (h : n < 64), laneF (tiles x a) (keysOf (tiles x) a) (chosen (tiles x)) b (n + 1)
      = FloatOps.addf (laneF (tiles x a) (keysOf (tiles x) a) (chosen (tiles x)) b n) (X0 (ix3 a ⟨n, h⟩ b)) := fun a b n h => by
    rw [e3]; rfl
  rw [Fold.mean _ X1 X2 (rowsF (statsOf (tiles x)) 0) rfl ?_, e1, e2]
  · unfold meanOf
    rw [word_eq, count_eq, rank_eq]
    rfl
  · intro n h
    rw [Fold.row X0 (fun a b n => laneF (tiles x a) (keysOf (tiles x) a) (chosen (tiles x)) b n) ⟨n, h⟩ (hL ⟨n, h⟩) _ ?_]
    · rfl
    · intro b
      have hL := hL ⟨n, h⟩ b
      have a1 := Fold.acc1 (F := Bits) X0 ⟨n, h⟩ b (laneF (tiles x n) (keysOf (tiles x) n) (chosen (tiles x)) b) rfl hL
      have a2 := Fold.acc2 (F := Bits) X0 ⟨n, h⟩ b (laneF (tiles x n) (keysOf (tiles x) n) (chosen (tiles x)) b) hL _ a1
      have a3 := Fold.acc3 (F := Bits) X0 ⟨n, h⟩ b (laneF (tiles x n) (keysOf (tiles x) n) (chosen (tiles x)) b) hL _ a2
      have a4 := Fold.acc4 (F := Bits) X0 ⟨n, h⟩ b (laneF (tiles x n) (keysOf (tiles x) n) (chosen (tiles x)) b) hL _ a3
      have a5 := Fold.acc5 (F := Bits) X0 ⟨n, h⟩ b (laneF (tiles x n) (keysOf (tiles x) n) (chosen (tiles x)) b) hL _ a4
      exact Fold.acc6 (F := Bits) X0 ⟨n, h⟩ b (laneF (tiles x n) (keysOf (tiles x) n) (chosen (tiles x)) b) hL _ a5

end Cert.Proof.Value

end
-- ==== Proof.Loss.lean ====
/-
  The row losses over the extended reals: what the TensorCore call leaves, of the logits and the targets.
-/
module

public import proofs.«01_k».proof.Proof.Gen.TcIdeal.Value
public import Idealize.ShloMosaic.Lib.Claim
public import Idealize.ShloMosaic.Lib.Pipeline.ValueKit
public import Idealize.ShloMosaic.Lib.Pipeline.ValueKit.Point

@[expose] public section

set_option maxRecDepth 16384

noncomputable section

namespace Cert.Proof.Loss

open Cert.TcIdeal Cert.TcIdeal.Gen
open Idealize.ShloMosaic Idealize.ShloMosaic.TcCoe Idealize.SL.Sem

/-- Each row's loss: zero where the target is negative, elsewhere the logarithm of the sum of the row's exponentials less the row's logit at the target. -/
def rowLoss (x : FVec Ideal S16384x1000 .f32) (t : IVec S16384 32) : FVec Ideal S16384 .f32 := fun i =>
  Scalar.select (IntOp.cmpi .slt (t i) 0#32) 0
    (Ideal.log (∑ k : Fin 1000, Ideal.exp (x (ValueIdx.ix2 (i 0) k)))
      - ∑ k : Fin 1000, Scalar.select (IntOp.cmpi .eq (BitVec.ofNat 32 k.val) (t i)) (x (ValueIdx.ix2 (i 0) k)) 0)

variable (m : (ℓ : Loc nD τ sig) → Buf (Elt Ideal) ℓ) (ρ : Dev nD → PrngReg)

/-- The windows' block indices at each point of the grid. -/
theorem idx : ∀ t : Fin cfg0.N, win0_0.index t = ![0, t.val] ∧ win0_1.index t = ![t.val] ∧ win0_2.index t = ![t.val] :=
  (by decide +kernel : ∀ t : Fin grid0.N, _)

/-- The row losses stand in the output array after the run. -/
theorem final (c : Dev nD) : (dats m 0 c).arrAt 2 cfg0.N = rowLoss (m ((c.tc : Thread nD τ).loc main_arg0)) (m ((c.tc : Thread nD τ).loc main_arg1)) := by
  refine (dats m 0 c).arrAt_eq_of_covers 2 _ (by decide +kernel) fun t hf y => ?_
  blk_simp
  rw [after0_2]
  frame_out
  pointwise [k0_pay1, rowLoss]
  blk_point [iblk, V, idx t]
  all_goals
    show t.val * 2048 + (y 0).val = ((((cfg0.win 2).blk t).view.emb y) 0).val
    blk_simp [idx t]

end Cert.Proof.Loss

end
-- ==== Proof.LossRef.lean ====
/-
  The row losses' reference: its value read row by row.
-/
module

public import proofs.«01_k».proof.Proof.Gen.LossIdeal.Run
public import Idealize.ShloMosaic.Lib.Claim
public import Idealize.ShloMosaic.Lib.ReduceAll
public import Idealize.ShloMosaic.Lib.Pipeline.ValueKit
public import Idealize.ShloMosaic.Lib.Pipeline.ValueKit.Point

@[expose] public section

set_option maxRecDepth 16384

noncomputable section

namespace Cert.Proof.LossRef

open Cert.LossIdeal Cert.LossIdeal.Gen
open Idealize.ShloMosaic Idealize.ShloMosaic.TcCoe Idealize.SL.Sem

/-! ## The reference's values, each of the logits and the targets -/

/-- Which targets are −1. -/
def gone (t : IVec S16384 32) : IVec S16384 1 := cmpi .eq t (broadcastInDim S16384 ![] bcast_S_S16384 (constantI S_ 32 4294967295#32))
/-- The targets, zero in the place of −1. -/
def safe (t : IVec S16384 32) : IVec S16384 32 := select (gone t) (broadcastInDim S16384 ![] bcast_S_S16384 (id (constantI S_ 32 0#32))) t
/-- Those as a column. -/
def col (t : IVec S16384 32) : IVec S16384x1 32 := broadcastInDim S16384x1 ![0] bcast_S16384_S16384x1_0 (safe t)
/-- The places looked up: a negative one counts from the end. -/
def place (t : IVec S16384 32) : IVec S16384x1x1 32 :=
  shapeCast S16384x1x1 (select (cmpi .slt (col t) (broadcastInDim S16384x1 ![] bcast_S_S16384x1 (constantI S_ 32 0#32)))
    (addi (col t) (broadcastInDim S16384x1 ![] bcast_S_S16384x1 (constantI S_ 32 1000#32))) (col t)) shapeCasts_S16384x1_S16384x1x1
/-- Which places are inside the row. -/
def inside (t : IVec S16384 32) : IVec S16384x1 1 :=
  Host.reduce IntOp.andi (andi (cmpi .sge (place t) (broadcastInDim S16384x1x1 ![] bcast_S_S16384x1x1 (constantI S_ 32 0#32)))
    (cmpi .sle (place t) (broadcastInDim S16384x1x1 ![0, 1, 2] bcast_S1x1x1_S16384x1x1_0_1_2 (broadcastInDim S1x1x1 ![2] bcast_S1_S1x1x1_2 (constantI S1 32 999#32)))))
    (constantI S_ 1 1#1) reducesTo_S16384x1x1_S16384x1_d2 h_S_

variable {F : FTy → Type} [FloatOps F]

/-- Each row's greatest logit. -/
def top (x : FVec F S16384x1000 .f32) : FVec F S16384 .f32 :=
  maximumf (broadcastInDim S16384 ![] bcast_S_S16384 (constant S_ .f32 0xFF800000#32)) (Host.reduce FloatOps.maximumf x (constant S_ .f32 0xFF800000#32) reducesTo_S16384x1000_S16384_d1 h_S_)
/-- The logits less their row's greatest. -/
def less (x : FVec F S16384x1000 .f32) : FVec F S16384x1000 .f32 :=
  subf x (broadcastInDim S16384x1000 ![0, 1] bcast_S16384x1_S16384x1000_0_1 (broadcastInDim S16384x1 ![0] bcast_S16384_S16384x1_0 (top x)))
/-- The logarithms of the rows' softmax. -/
def logp (x : FVec F S16384x1000 .f32) : FVec F S16384x1000 .f32 :=
  subf (less x) (broadcastInDim S16384x1000 ![0, 1] bcast_S16384x1_S16384x1000_0_1 (Host.log (broadcastInDim S16384x1 ![0] bcast_S16384_S16384x1_0
    (Host.reduceAdd (Host.exp (less x)) (constant S_ .f32 0x00000000#32) reducesTo_S16384x1000_S16384_d1 h_S_))))
/-- The logarithms at the targets. -/
def taken (x : FVec F S16384x1000 .f32) (t : IVec S16384 32) : FVec F S16384x1 .f32 :=
  select (inside t) (Host.gather gather_S16384x1000_S16384x1x1_S16384x1_n_1_0_0_1_2_11 (logp x) (place t)) (broadcastInDim S16384x1 ![] bcast_S_S16384x1 (constant S_ .f32 0x7FC00000#32))
/-- The row losses. -/
def lossR (x : FVec F S16384x1000 .f32) (t : IVec S16384 32) : FVec F S16384 .f32 :=
  select (gone t) (broadcastInDim S16384 ![] bcast_S_S16384 (id (constant S_ .f32 0x00000000#32))) (Host.negf (shapeCast S16384 (taken x t) shapeCasts_S16384x1_S16384))

/-- What the reference leaves is the row losses. -/
theorem res_eq (m : (ℓ : Loc nD τ sig) → Buf (Elt F) ℓ) (c : Dev nD) :
    Cert.LossIdeal.Value.res_out0 m c = lossR (m ((c.tc : Thread nD τ).loc main_arg0)) (m ((c.tc : Thread nD τ).loc main_arg1)) := by
  unfold Cert.LossIdeal.Value.res_out0 Cert.LossIdeal.Value.res_main_v10
  rfl

/-! ## The values read at an index -/

/-- A target, or zero for −1. -/
theorem safe_apply (t : IVec S16384 32) (i : S16384.Idx) : safe t i = Scalar.select (IntOp.cmpi .eq (t i) 4294967295#32) 0#32 (t i) := by
  unfold safe gone
  pointwise
  rfl

/-- A place, of its row's target. -/
theorem place_apply (t : IVec S16384 32) (i : S16384x1x1.Idx) : place t i
    = Scalar.select (IntOp.cmpi .slt (safe t (ValueIdx.ix1 (i 0))) 0#32) (IntOp.addi (safe t (ValueIdx.ix1 (i 0))) 1000#32) (safe t (ValueIdx.ix1 (i 0))) := by
  pointwise [place, col]
  rfl

/-- A row's loss, of what was taken for it. -/
theorem lossR_apply (x : FVec Ideal S16384x1000 .f32) (t : IVec S16384 32) (i : S16384.Idx) :
    lossR x t i = Scalar.select (IntOp.cmpi .eq (t i) 4294967295#32) 0 (-taken x t (ValueIdx.ix2 (i 0) 0)) := by
  pointwise [lossR, gone]
  exact congrArg (fun z : EReal => Scalar.select (IntOp.cmpi .eq (t i) 4294967295#32) z (-taken x t (ValueIdx.ix2 (i 0) 0))) Ideal.ofBits_zero_f32

/-- Where the places are inside the row, what is taken is gathered. -/
theorem taken_apply (x : FVec Ideal S16384x1000 .f32) (t : IVec S16384 32) (i : S16384x1.Idx) (h : inside t i = 1#1) :
    taken x t i = Host.gather gather_S16384x1000_S16384x1x1_S16384x1_n_1_0_0_1_2_11 (logp x) (place t) i := by
  unfold taken
  rw [ValueIdx.select_apply, h, ValueIdx.select_one]

/-- Where every place is inside the row, the test of it holds. -/
theorem inside_apply (t : IVec S16384 32) (h : ∀ i, IntOp.cmpi .sge (place t i) 0#32 = 1#1 ∧ IntOp.cmpi .sle (place t i) 999#32 = 1#1)
    (i : S16384x1.Idx) : inside t i = 1#1 := by
  refine Host.reduce_andi_one _ _ _ _ i rfl fun k => ?_
  show IntOp.andi (IntOp.cmpi .sge (place t k) 0#32) (IntOp.cmpi .sle (place t k) 999#32) = 1#1
  rw [(h k).1, (h k).2]
  rfl

/-- A gathered entry is its row's at the place. -/
theorem gather_apply (v : FVec Ideal S16384x1000 .f32) (p : IVec S16384x1x1 32) (n : Fin 16384) :
    Host.gather gather_S16384x1000_S16384x1x1_S16384x1_n_1_0_0_1_2_11 v p (ValueIdx.ix2 n 0)
      = v (ValueIdx.ix2 n ⟨min (p (ValueIdx.ix3 n 0 0)).toInt.toNat 999, by omega⟩) := by
  unfold Host.gather
  refine congrArg v ?_
  funext a
  apply Fin.ext
  have o : ∀ c, c ∉ gather_S16384x1000_S16384x1x1_S16384x1_n_1_0_0_1_2_11.sKept := fun c => by
    rw [GatherDims.mem_sKept]
    match c with
    | ⟨0, _⟩ => exact fun h => h.2 (List.mem_singleton.2 rfl)
    | ⟨1, _⟩ => exact fun h => h.1 (List.mem_singleton.2 rfl)
  have b0 : ∀ h, gather_S16384x1000_S16384x1x1_S16384x1_n_1_0_0_1_2_11.siCoord (ValueIdx.ix2 n 0) 0 h = n := fun h => rfl
  have b1 : ∀ h, gather_S16384x1000_S16384x1x1_S16384x1_n_1_0_0_1_2_11.siCoord (ValueIdx.ix2 n 0) 1 h = (0 : Fin 1) := fun h => rfl
  match a with
  | ⟨0, _⟩ =>
    have z : (0 : Fin S16384x1000.rank) ∉ gather_S16384x1000_S16384x1x1_S16384x1_n_1_0_0_1_2_11.startIndexMap := fun h =>
      absurd (congrArg Fin.val (List.mem_singleton.1 h)) (Nat.zero_ne_one)
    have y : (0 : Fin S16384x1000.rank) ∈ gather_S16384x1000_S16384x1x1_S16384x1_n_1_0_0_1_2_11.operandBatchingDims := List.mem_singleton.2 rfl
    show GatherDims.start _ _ _ (0 : Fin S16384x1000.rank) + GatherDims.batchCoord _ _ (0 : Fin S16384x1000.rank) + GatherDims.offCoord _ _ (0 : Fin S16384x1000.rank) = n.val
    rw [GatherDims.offCoord_eq_zero _ _ _ (o 0), GatherDims.start_batching _ _ _ _ y]
    unfold GatherDims.batchCoord
    rw [dif_pos y]
    exact (by omega : ∀ q : ℕ, q = n.val → 0 + q + 0 = n.val) _ (congrArg Fin.val (b0 _))
  | ⟨1, _⟩ =>
    have z : (1 : Fin S16384x1000.rank) ∈ gather_S16384x1000_S16384x1x1_S16384x1_n_1_0_0_1_2_11.startIndexMap := List.mem_singleton.2 rfl
    have y : (1 : Fin S16384x1000.rank) ∉ gather_S16384x1000_S16384x1x1_S16384x1_n_1_0_0_1_2_11.operandBatchingDims := fun h =>
      absurd (congrArg Fin.val (List.mem_singleton.1 h)) (Nat.one_ne_zero)
    show GatherDims.start _ _ _ (1 : Fin S16384x1000.rank) + GatherDims.batchCoord _ _ (1 : Fin S16384x1000.rank) + GatherDims.offCoord _ _ (1 : Fin S16384x1000.rank) = _
    rw [GatherDims.offCoord_eq_zero _ _ _ (o 1), GatherDims.batchCoord_eq_zero _ _ _ y]
    unfold GatherDims.start
    rw [dif_pos z]
    refine congrArg (fun q : S16384x1x1.Idx => min (p q).toInt.toNat 999 + 0 + 0) (?_ : _ = ValueIdx.ix3 n 0 0)
    funext c
    match c with
    | ⟨0, _⟩ => exact b0 (List.mem_filter.2 ⟨List.mem_finRange _, rfl⟩)
    | ⟨1, _⟩ => exact b1 (List.mem_filter.2 ⟨List.mem_finRange _, rfl⟩)
    | ⟨2, _⟩ => exact Fin.ext rfl

/-- A logit less its row's greatest. -/
theorem less_apply (x : FVec Ideal S16384x1000 .f32) (i : S16384x1000.Idx) : less x i = x i - top x (ValueIdx.ix1 (i 0)) := by
  pointwise [less]
  rfl

/-- A logarithm of the softmax. -/
theorem logp_apply (x : FVec Ideal S16384x1000 .f32) (i : S16384x1000.Idx) : logp x i
    = less x i - Ideal.log (∑ k : Fin 1000, Ideal.exp (less x (ValueIdx.ix2 (i 0) k))) := by
  pointwise [logp]
  rfl

/-- A maximum of finitely many real numbers, some of them there, is a real number. -/
theorem reduce_max_real {s t u : Shape} {axes : List (Fin s.rank)} (x : FVec Ideal s .f32) (init : FVec Ideal u .f32) (h : s.ReducesTo axes t)
    (hu : 0 < u.numel) (j : t.Idx) (r : s.Idx → ℝ) (hx : ∀ i, x i = (r i : EReal)) (hi : init (Shape.Idx.first hu) = (⊥ : EReal))
    (k : s.Idx) (hk : h.drop k = j) :
    ∃ μ : ℝ, Host.reduce (FloatOps.maximumf : Ideal .f32 → Ideal .f32 → Ideal .f32) x init h hu j = (μ : EReal) := by
  rw [Host.reduce_eq_fold, hi]
  have e : ((Finset.univ.filter fun i : s.Idx => h.drop i = j).fold (FloatOps.maximumf : Ideal .f32 → Ideal .f32 → Ideal .f32) (⊥ : EReal) x : EReal)
      = (Finset.univ.filter fun i : s.Idx => h.drop i = j).fold max (⊥ : EReal) (x : s.Idx → EReal) := rfl
  have m : k ∈ (Finset.univ.filter fun i : s.Idx => h.drop i = j) := Finset.mem_filter.2 ⟨Finset.mem_univ _, hk⟩
  have u : (Finset.univ.filter fun i : s.Idx => h.drop i = j).fold max (⊥ : EReal) (x : s.Idx → EReal) < ⊤ :=
    (Finset.fold_max_lt _).2 ⟨bot_lt_top, fun i _ => (hx i).trans_lt (EReal.coe_lt_top _)⟩
  have l : (r k : EReal) ≤ (Finset.univ.filter fun i : s.Idx => h.drop i = j).fold max (⊥ : EReal) (x : s.Idx → EReal) :=
    (Finset.le_fold_max _).2 (.inr ⟨k, m, (hx k).ge⟩)
  exact ⟨_, e.trans (EReal.coe_toReal u.ne (((EReal.bot_lt_coe _).trans_le l).ne')).symm⟩

/-- Of finite logits a row's greatest is finite. -/
theorem top_real (x : FVec Ideal S16384x1000 .f32) (r : S16384x1000.Idx → ℝ) (hx : ∀ i, x i = (r i : EReal)) (n : Fin 16384) :
    ∃ μ : ℝ, top x (ValueIdx.ix1 n) = (μ : EReal) := by
  have b : Ideal.ofBits .f32 0xFF800000#32 = (⊥ : EReal) := by simp [Ideal.ofBits, Ideal.ieee]
  obtain ⟨μ, hμ⟩ := reduce_max_real x (constant S_ .f32 0xFF800000#32) reducesTo_S16384x1000_S16384_d1 h_S_ (ValueIdx.ix1 n) r hx b
    (ValueIdx.ix2 n 0) (funext fun a => Fin.ext (by
      match a with
      | ⟨0, _⟩ => exact Shape.ReducesTo.drop_apply_val _ _ 0))
  refine ⟨μ, ?_⟩
  unfold top
  rw [ValueIdx.maximumf_apply, hμ]
  exact (congrArg (fun z : EReal => max z (μ : EReal)) b).trans (max_eq_right bot_le)

end Cert.Proof.LossRef

end
-- ==== Proof.LossEq.lean ====
/-
  The row losses two ways: the logarithm of the sum of a row's exponentials less the logit at the target,
  and minus the softmax's logarithm at the target, taken of logits less their row's greatest.
-/
module

public import proofs.«01_k».proof.Proof.Loss
public import proofs.«01_k».proof.Proof.LossRef
public import proofs.«01_k».proof.Proof.Gen.Pre_in_range
public import Idealize.ShloMosaic.Lib.StableHlo.Predicate

@[expose] public section

noncomputable section

namespace Cert.Proof.LossEq

open Cert.LossIdeal Cert.LossIdeal.Gen
open Idealize.ShloMosaic Idealize.SL.Sem
open Idealize.ShloMosaic.StableHlo.Predicate

/-! ## Sums of real numbers read as extended reals -/

/-- A sum of real numbers is the real sum. -/
theorem sum_real {n : ℕ} (f : Fin n → ℝ) : (∑ k, (f k : EReal)) = ((∑ k, f k : ℝ) : EReal) :=
  (map_sum (⟨⟨fun r : ℝ => (r : EReal), EReal.coe_zero⟩, EReal.coe_add⟩ : ℝ →+ EReal) f Finset.univ).symm

/-- The logarithm of a sum of exponentials is real. -/
theorem log_sum {n : ℕ} [NeZero n] (f : Fin n → ℝ) :
    Ideal.log (∑ k, Ideal.exp (f k : EReal)) = (Real.log (∑ k, Real.exp (f k)) : EReal) := by
  have p : 0 < ∑ k, Real.exp (f k) := Finset.sum_pos (fun k _ => Real.exp_pos _) ⟨0, Finset.mem_univ _⟩
  simp only [Ideal.exp_coe]
  rw [sum_real, Ideal.log_coe, if_neg (not_le.2 p)]

/-- Taking one number from every exponent takes it from the logarithm of the sum. -/
theorem log_shift {n : ℕ} [NeZero n] (f : Fin n → ℝ) (μ : ℝ) :
    Real.log (∑ k, Real.exp (f k - μ)) = Real.log (∑ k, Real.exp (f k)) - μ := by
  have p : 0 < ∑ k, Real.exp (f k) := Finset.sum_pos (fun k _ => Real.exp_pos _) ⟨0, Finset.mem_univ _⟩
  simp only [Real.exp_sub]
  rw [← Finset.sum_div, Real.log_div p.ne' (Real.exp_pos μ).ne', Real.log_exp]

/-- A row's loss either way. -/
theorem row_real {n : ℕ} [NeZero n] (f : Fin n → ℝ) (μ : ℝ) (j : Fin n) :
    -((f j : EReal) - (μ : EReal) - Ideal.log (∑ k, Ideal.exp ((f k : EReal) - (μ : EReal))))
      = Ideal.log (∑ k, Ideal.exp (f k : EReal)) - (f j : EReal) := by
  simp only [← EReal.coe_sub]
  rw [log_sum, log_sum, log_shift, ← EReal.coe_sub, ← EReal.coe_neg, ← EReal.coe_sub]
  exact congrArg _ (by ring)

/-- A sum of a row's entries, each kept where its place is the target's, is the entry there. -/
theorem pick (f : Fin 1000 → EReal) (w : BitVec 32) (j : Fin 1000) (h : w = BitVec.ofNat 32 j.val) :
    (∑ k : Fin 1000, Scalar.select (IntOp.cmpi .eq (BitVec.ofNat 32 k.val) w) (f k) 0) = f j := by
  rw [Finset.sum_eq_single j]
  · rw [cmpi_eq_iff.2 h.symm, ValueIdx.select_one]
  · intro k _ hk
    have e : IntOp.cmpi .eq (BitVec.ofNat 32 k.val) w = 0#1 := by
      rcases (by decide : ∀ b : BitVec 1, b = 0#1 ∨ b = 1#1) (IntOp.cmpi .eq (BitVec.ofNat 32 k.val) w) with h0 | h1
      · exact h0
      · have q := congrArg BitVec.toNat ((cmpi_eq_iff.1 h1).trans h)
        rw [BitVec.toNat_ofNat, BitVec.toNat_ofNat] at q
        exact absurd (Fin.ext (by omega)) hk
    rw [e, ValueIdx.select_zero]
  · exact fun h => absurd (Finset.mem_univ _) h

/-! ## Targets from −1 to 999 -/

/-- A word of −1 ≤ w < 1000. -/
def Target (w : BitVec 32) : Prop := w = 4294967295#32 ∨ w.toNat < 1000

/-- What is looked up for one is below 1000. -/
theorem safe_lt (t : IVec S16384 32) (ht : ∀ i, Target (t i)) (i : S16384.Idx) : (LossRef.safe t i).toNat < 1000 := by
  rw [LossRef.safe_apply]
  rcases ht i with h | h
  · rw [h]; decide
  · have e : IntOp.cmpi .eq (t i) 4294967295#32 = 0#1 := by
      rcases (by decide : ∀ b : BitVec 1, b = 0#1 ∨ b = 1#1) (IntOp.cmpi .eq (t i) 4294967295#32) with h0 | h1
      · exact h0
      · rw [cmpi_eq_iff.1 h1] at h; exact absurd h (by decide)
    rw [e, ValueIdx.select_zero]; exact h

/-- It is looked up at itself. -/
theorem place_eq (t : IVec S16384 32) (ht : ∀ i, Target (t i)) (i : S16384x1x1.Idx) : LossRef.place t i = LossRef.safe t (ValueIdx.ix1 (i 0)) := by
  rw [LossRef.place_apply]
  have l := safe_lt t ht (ValueIdx.ix1 (i 0))
  have e : IntOp.cmpi .slt (LossRef.safe t (ValueIdx.ix1 (i 0))) 0#32 = 0#1 := by
    rcases (by decide : ∀ b : BitVec 1, b = 0#1 ∨ b = 1#1) (IntOp.cmpi .slt (LossRef.safe t (ValueIdx.ix1 (i 0))) 0#32) with h0 | h1
    · exact h0
    · exact absurd ((slt_iff_toNat (by omega) (by decide)).1 h1) (Nat.not_lt_zero _)
  rw [e, ValueIdx.select_zero]

/-- Every place is inside the row. -/
theorem inside_eq (t : IVec S16384 32) (ht : ∀ i, Target (t i)) (i : S16384x1.Idx) : LossRef.inside t i = 1#1 :=
  LossRef.inside_apply t (fun k => by
    rw [place_eq t ht k]
    have l := safe_lt t ht (ValueIdx.ix1 (k 0))
    exact ⟨(sge_iff_toNat (by omega) (by decide)).2 (Nat.zero_le _), (sle_iff_toNat (by omega) (by decide)).2 (Nat.le_of_lt_succ l)⟩) i

/-- Of finite logits and such targets the losses are the same either way. -/
theorem loss_eq (x : FVec Ideal S16384x1000 .f32) (t : IVec S16384 32) (r : S16384x1000.Idx → ℝ) (hx : ∀ i, x i = (r i : EReal))
    (ht : ∀ i, Target (t i)) : LossRef.lossR x t = Loss.rowLoss x t := by
  funext i
  obtain ⟨n, rfl⟩ : ∃ n : Fin 16384, i = ValueIdx.ix1 n := ⟨i 0, ValueIdx.eq_ix1 (n := 16384) i⟩
  rw [LossRef.lossR_apply]
  unfold Loss.rowLoss
  rcases ht (ValueIdx.ix1 n) with h | h
  · have e : IntOp.cmpi .eq (t (ValueIdx.ix1 n)) 4294967295#32 = 1#1 := cmpi_eq_iff.2 h
    have e' : IntOp.cmpi .slt (t (ValueIdx.ix1 n)) 0#32 = 1#1 := by rw [h]; decide
    rw [e, e', ValueIdx.select_one, ValueIdx.select_one]
  · have e : IntOp.cmpi .eq (t (ValueIdx.ix1 n)) 4294967295#32 = 0#1 := by
      rcases (by decide : ∀ b : BitVec 1, b = 0#1 ∨ b = 1#1) (IntOp.cmpi .eq (t (ValueIdx.ix1 n)) 4294967295#32) with h0 | h1
      · exact h0
      · rw [cmpi_eq_iff.1 h1] at h; exact absurd h (by decide)
    have e' : IntOp.cmpi .slt (t (ValueIdx.ix1 n)) 0#32 = 0#1 := by
      rcases (by decide : ∀ b : BitVec 1, b = 0#1 ∨ b = 1#1) (IntOp.cmpi .slt (t (ValueIdx.ix1 n)) 0#32) with h0 | h1
      · exact h0
      · exact absurd ((slt_iff_toNat (by omega) (by decide)).1 h1) (Nat.not_lt_zero _)
    have s : LossRef.safe t (ValueIdx.ix1 n) = t (ValueIdx.ix1 n) := by
      rw [LossRef.safe_apply, e, ValueIdx.select_zero]
    have g : LossRef.taken x t (ValueIdx.ix2 n 0) = LossRef.logp x (ValueIdx.ix2 n ⟨(t (ValueIdx.ix1 n)).toNat, h⟩) := by
      rw [LossRef.taken_apply x t _ (inside_eq t ht _), LossRef.gather_apply]
      refine congrArg (fun q : Fin 1000 => LossRef.logp x (ValueIdx.ix2 n q)) (Fin.ext ?_)
      have q : LossRef.place t (ValueIdx.ix3 n 0 0) = t (ValueIdx.ix1 n) := (place_eq t ht _).trans s
      show min (LossRef.place t (ValueIdx.ix3 n 0 0)).toInt.toNat 999 = (t (ValueIdx.ix1 n)).toNat
      rw [q, toInt_eq_toNat_of_lt (by omega)]
      omega
    obtain ⟨μ, hμ⟩ := LossRef.top_real x r hx n
    have l : ∀ k : Fin 1000, LossRef.less x (ValueIdx.ix2 n k) = (r (ValueIdx.ix2 n k) : EReal) - (μ : EReal) := fun k =>
      (LossRef.less_apply x (ValueIdx.ix2 n k)).trans (congrArg₂ (fun a b : EReal => a - b) (hx _) hμ)
    have p := pick (fun k => x (ValueIdx.ix2 n k)) (t (ValueIdx.ix1 n)) ⟨_, h⟩ (BitVec.eq_of_toNat_eq (by simp))
    have c := row_real (fun k : Fin 1000 => r (ValueIdx.ix2 n k)) μ ⟨_, h⟩
    have a : -LossRef.taken x t (ValueIdx.ix2 n 0) = Ideal.log (∑ k : Fin 1000, Ideal.exp (x (ValueIdx.ix2 n k)))
        - ∑ k : Fin 1000, Scalar.select (IntOp.cmpi .eq (BitVec.ofNat 32 k.val) (t (ValueIdx.ix1 n))) (x (ValueIdx.ix2 n k)) 0 := by
      rw [g, p]
      refine (congrArg (fun z : EReal => -z) ((LossRef.logp_apply x _).trans (congrArg₂ (fun a b : EReal => a - b) (l _)
        (congrArg Ideal.log (Finset.sum_congr rfl fun k _ => congrArg Ideal.exp (l k)))))).trans (c.trans ?_)
      exact congrArg₂ (fun a b : EReal => a - b) (congrArg Ideal.log (Finset.sum_congr rfl fun k _ => congrArg Ideal.exp (hx _).symm)) (hx _).symm
    rw [e, e', ValueIdx.select_zero, ValueIdx.select_zero]
    exact a

/-! ## The precondition read -/

/-- Where |x| < ∞, x is real. -/
theorem real_of (x : FVec Ideal S16384x1000 .f32) (t : IVec S16384 32)
    (h : (Cert.Pre_in_range.fn (F := Ideal) x t).1 = fun _ => 1#1) (i : S16384x1000.Idx) : x i = ((x i : EReal).toReal : EReal) := by
  have b : Ideal.ofBits .f32 0x7F800000#32 = (⊤ : EReal) := by simp [Ideal.ofBits, Ideal.ieee]
  have e : Ideal.cmp .olt (max (x i : EReal) (-(x i : EReal))) (Ideal.ofBits .f32 0x7F800000#32) = 1#1 := congrFun h i
  rw [b] at e
  unfold Ideal.cmp at e
  have l : max (x i : EReal) (-(x i : EReal)) < ⊤ := of_decide_eq_true ((ofBool_eq_one_iff _).1 e)
  refine (EReal.coe_toReal (fun q => ?_) (fun q => ?_)).symm
  · rw [q] at l; simp at l
  · rw [q] at l; simp at l

/-- Where −1 ≤ w < 1000 signed, w is a target. -/
theorem target_of (x : FVec Ideal S16384x1000 .f32) (t : IVec S16384 32)
    (h : (Cert.Pre_in_range.fn (F := Ideal) x t).2 = fun _ => 1#1) (i : S16384.Idx) : Target (t i) := by
  have e : IntOp.andi (IntOp.cmpi .sge (t i) 4294967295#32) (IntOp.cmpi .slt (t i) 1000#32) = 1#1 := congrFun h i
  obtain ⟨a, b⟩ := IntOp.andi_eq_one.1 e
  have a' : (-1 : ℤ) ≤ (t i).toInt := by
    simpa [IntOp.cmpi, BitVec.sle, ofBool_eq_one_iff] using a
  have b' : (t i).toInt < 1000 := by
    simpa [IntOp.cmpi, BitVec.slt, ofBool_eq_one_iff] using b
  have l := (t i).isLt
  rw [BitVec.toInt_eq_toNat_cond] at a' b'
  unfold Target
  by_cases q : (t i).toNat < 1000
  · exact .inr q
  · refine .inl (BitVec.eq_of_toNat_eq ?_)
    show (t i).toNat = 4294967295
    split at a' <;> omega

end Cert.Proof.LossEq

end
-- ==== Proof.lean ====
module

public import proofs.«01_k».proof.Defs
public import proofs.«01_k».proof.Proof.Gen.Sc
public import proofs.«01_k».proof.Proof.Gen.Sc.Skeleton
public import proofs.«01_k».proof.Proof.Gen.ScRef
public import proofs.«01_k».proof.Proof.Gen.ScRef.Skeleton
public import proofs.«01_k».proof.Proof.Gen.ScRef.Launch
public import proofs.«01_k».proof.Proof.Gen.ScRef.Points
public import proofs.«01_k».proof.Proof.Gen.ScRef.Frame
public import proofs.«01_k».proof.Proof.Gen.Tc
public import proofs.«01_k».proof.Proof.Gen.Tc.Skeleton
public import proofs.«01_k».proof.Proof.Gen.Tc.Launch
public import proofs.«01_k».proof.Proof.Gen.Tc.Points
public import proofs.«01_k».proof.Proof.Gen.Tc.Frame
public import proofs.«01_k».proof.Proof.Gen.TcIdeal
public import proofs.«01_k».proof.Proof.Gen.TcIdeal.Skeleton
public import proofs.«01_k».proof.Proof.Gen.TcIdeal.Launch
public import proofs.«01_k».proof.Proof.Gen.TcIdeal.Points
public import proofs.«01_k».proof.Proof.Gen.TcIdeal.Frame
public import proofs.«01_k».proof.Proof.Gen.TcIdeal.Value
public import proofs.«01_k».proof.Proof.Gen.LossIdeal
public import proofs.«01_k».proof.Proof.Gen.LossIdeal.Run
public import proofs.«01_k».proof.Proof.Gen.Pre_in_range
public import proofs.«01_k».proof.Proof.Launch
public import proofs.«01_k».proof.Proof.Value
public import proofs.«01_k».proof.Proof.LossEq
public import Idealize.ShloMosaic.Lib.Quiescent
public import Idealize.ShloMosaic.Adequacy
public import Idealize.ShloMosaic.Init

@[expose] public section

noncomputable section

namespace Cert.Proof

open Idealize.ShloMosaic Idealize.SL.Sem

/-- The SparseCore call and its reference, from the same losses, leave the same mean and the losses unchanged. -/
theorem same : Cert.bitexact_Sc_ScRef (hSc := Cert.Sc.Gen.facts) (hScRef := Cert.ScRef.Gen.facts) := fun m g m' g' _ hagree =>
  ⟨fun c _ => Cert.Proof.Mean.meanOf (Cert.Proof.Mean.xs m c),
    θ_run_mono (Cert.Proof.Mean.run_main (F := Bits) m g) fun _ h c => ⟨(h.1 c).2, (h.1 c).1⟩,
    θ_run_mono (Cert.Proof.RefRun.run_ref (F := Bits) m' g') fun _ h c => by
      refine ⟨(h c).1.trans ?_, (h c).2⟩
      rw [Cert.Proof.Value.mean_eq, hagree c]
      rfl⟩

/-- The TensorCore call and its reference, from the same finite logits and targets from −1 to 999, leave the same row losses. -/
theorem row : Cert.algebraic_TcIdeal_LossIdeal_pre_in_range (hTcIdeal := Cert.TcIdeal.Gen.facts) (hLossIdeal := Cert.LossIdeal.Gen.facts)
    (hPre_in_range := Cert.Pre_in_range.Gen.facts) := fun m g m' g' hpre hagree =>
  ⟨fun c => Cert.Proof.Loss.rowLoss (m ((c.tc : Thread Cert.TcIdeal.nD Cert.TcIdeal.τ).loc Cert.TcIdeal.main_arg0))
      (m ((c.tc : Thread Cert.TcIdeal.nD Cert.TcIdeal.τ).loc Cert.TcIdeal.main_arg1)),
    θ_run_mono (Cert.TcIdeal.Value.run_blocks (F := Ideal) m g) fun _ h c => ⟨(h c).1.trans (Cert.Proof.Loss.final m c), (h c).2⟩,
    θ_run_mono (Cert.LossIdeal.Value.run (F := Ideal) m' g') fun _ h c => by
      refine ⟨(h c).1.trans ((Cert.Proof.LossRef.res_eq m' c).trans ?_), (h c).2⟩
      rw [(hagree c).1, (hagree c).2]
      exact Cert.Proof.LossEq.loss_eq _ _ _ (Cert.Proof.LossEq.real_of _ _ (hpre c).1) (Cert.Proof.LossEq.target_of _ _ (hpre c).2)⟩

/-- The reference of the row losses ends with its arguments unchanged and, having no counter, every counter at zero. -/
theorem loss_frame (m : (ℓ : Loc Cert.LossIdeal.nD Cert.LossIdeal.τ Cert.LossIdeal.sig) → Buf (Elt Ideal) ℓ) (g : Dev Cert.LossIdeal.nD → PrngReg) :
    θ_run (Cert.LossIdeal.defs (F := Ideal)) (onTc (τ := Cert.LossIdeal.τ) (Cert.LossIdeal.main (F := Ideal))) ⟨m, fun _ => 0, g⟩ (fun r =>
      (∀ c : Dev Cert.LossIdeal.nD,
        r.2.mem ((c.tc : Thread Cert.LossIdeal.nD Cert.LossIdeal.τ).loc Cert.LossIdeal.main_arg0) = m ((c.tc : Thread Cert.LossIdeal.nD Cert.LossIdeal.τ).loc Cert.LossIdeal.main_arg0)
        ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0) :=
  θ_run_mono (Cert.LossIdeal.Value.run (F := Ideal) m g) fun r h => ⟨fun c => (h c).2, sem_eq_zero_of_no_sems rfl r.2⟩

/-- Everything claimed of the two calls. -/
theorem claim : Cert.Claim := ⟨Cert.Tc.Gen.facts, Cert.TcIdeal.Gen.facts, Cert.LossIdeal.Gen.facts, Cert.Sc.Gen.facts, Cert.ScRef.Gen.facts, Cert.Pre_in_range.Gen.facts,
  fun m ρ _ => Cert.Tc.Gen.frame m ρ, fun m ρ _ => Cert.TcIdeal.Gen.frame m ρ, fun m ρ _ => Cert.TcIdeal.Gen.frame m ρ,
  fun m ρ _ => loss_frame m ρ, fun m ρ _ => loss_frame m ρ, Cert.Proof.Mean.frame, fun m ρ _ => Cert.ScRef.Gen.frame m ρ, trivial, row, same⟩

end Cert.Proof

end
